-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_entries_finite [hPre_entries_finite : Cert.Pre_entries_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_entries_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_entries_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_entries_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_entries_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_entries_finite [hPre_entries_finite : Cert.Pre_entries_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_entries_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_entries_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_entries_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_entries_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_scores_finite [hPre_scores_finite : Cert.Pre_scores_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scores_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_scores_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scores_finite [hPre_scores_finite : Cert.Pre_scores_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scores_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_scores_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_entries_finite [hKernel2Ideal : Cert.Kernel2Ideal.Facts] [hPre_entries_finite : Cert.Pre_entries_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_entries_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_entries_finite [hReference2Ideal : Cert.Reference2Ideal.Facts] [hPre_entries_finite : Cert.Pre_entries_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_entries_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_scores_finite [hKernel4Ideal : Cert.Kernel4Ideal.Facts] [hPre_scores_finite : Cert.Pre_scores_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_scores_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_scores_finite [hReference4Ideal : Cert.Reference4Ideal.Facts] [hPre_scores_finite : Cert.Pre_scores_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scores_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal_pre_entries_finite [hKernel2Ideal : Cert.Kernel2Ideal.Facts] [hReference2Ideal : Cert.Reference2Ideal.Facts] [hPre_entries_finite : Cert.Pre_entries_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_entries_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def bitexact_Kernel3_Reference3 [hKernel3 : Cert.Kernel3.Facts] [hReference3 : Cert.Reference3.Facts] : Prop :=
  ∀ (m : (ℓ : Loc Cert.Kernel3.nD Cert.Kernel3.τ Cert.Kernel3.sig) → Buf (Elt Bits) ℓ) (g : Dev Cert.Kernel3.nD → PrngReg)
    (m' : (ℓ : Loc Cert.Reference3.nD Cert.Reference3.τ Cert.Reference3.sig) → Buf (Elt Bits) ℓ) (g' : Dev Cert.Reference3.nD → PrngReg), Pre_Kernel3 m →
    (∀ c : Dev Cert.Kernel3.nD,
      m' ((c.tc : Thread Cert.Reference3.nD Cert.Reference3.τ).loc Cert.Reference3.main_arg0) = m ((c.tc : Thread Cert.Kernel3.nD Cert.Kernel3.τ).loc Cert.Kernel3.main_arg0)
      ∧ m' ((c.tc : Thread Cert.Reference3.nD Cert.Reference3.τ).loc Cert.Reference3.main_arg1) = m ((c.tc : Thread Cert.Kernel3.nD Cert.Kernel3.τ).loc Cert.Kernel3.main_arg1)
      ∧ m' ((c.tc : Thread Cert.Reference3.nD Cert.Reference3.τ).loc Cert.Reference3.main_arg2) = m ((c.tc : Thread Cert.Kernel3.nD Cert.Kernel3.τ).loc Cert.Kernel3.main_arg2)
      ∧ m' ((c.tc : Thread Cert.Reference3.nD Cert.Reference3.τ).loc Cert.Reference3.main_arg3) = m ((c.tc : Thread Cert.Kernel3.nD Cert.Kernel3.τ).loc Cert.Kernel3.main_arg3)) →
    ∃ (v0 : (c : Dev Cert.Kernel3.nD) → Buf (Elt Bits) ((c.tc : Thread Cert.Kernel3.nD Cert.Kernel3.τ).loc Cert.Kernel3.main_v0)),
      θ_run (Cert.Kernel3.defs (F := Bits)) (onTc (τ := Cert.Kernel3.τ) (Cert.Kernel3.main (F := Bits))) ⟨m, fun _ => 0, g⟩ (fun r => ∀ c : Dev Cert.Kernel3.nD,
          r.2.mem ((c.tc : Thread Cert.Kernel3.nD Cert.Kernel3.τ).loc Cert.Kernel3.main_v0) = v0 c
          ∧ r.2.mem ((c.tc : Thread Cert.Kernel3.nD Cert.Kernel3.τ).loc Cert.Kernel3.main_arg0) = m ((c.tc : Thread Cert.Kernel3.nD Cert.Kernel3.τ).loc Cert.Kernel3.main_arg0)
          ∧ r.2.mem ((c.tc : Thread Cert.Kernel3.nD Cert.Kernel3.τ).loc Cert.Kernel3.main_arg1) = m ((c.tc : Thread Cert.Kernel3.nD Cert.Kernel3.τ).loc Cert.Kernel3.main_arg1)
          ∧ r.2.mem ((c.tc : Thread Cert.Kernel3.nD Cert.Kernel3.τ).loc Cert.Kernel3.main_arg2) = m ((c.tc : Thread Cert.Kernel3.nD Cert.Kernel3.τ).loc Cert.Kernel3.main_arg2)
          ∧ r.2.mem ((c.tc : Thread Cert.Kernel3.nD Cert.Kernel3.τ).loc Cert.Kernel3.main_arg3) = m ((c.tc : Thread Cert.Kernel3.nD Cert.Kernel3.τ).loc Cert.Kernel3.main_arg3))
      ∧ θ_run (Cert.Reference3.defs (F := Bits)) (onTc (τ := Cert.Reference3.τ) (Cert.Reference3.main (F := Bits))) ⟨m', fun _ => 0, g'⟩ (fun r => ∀ c : Dev Cert.Reference3.nD,
          r.2.mem ((c.tc : Thread Cert.Reference3.nD Cert.Reference3.τ).loc Cert.Reference3.main_v17) = v0 c
          ∧ r.2.mem ((c.tc : Thread Cert.Reference3.nD Cert.Reference3.τ).loc Cert.Reference3.main_arg0) = m' ((c.tc : Thread Cert.Reference3.nD Cert.Reference3.τ).loc Cert.Reference3.main_arg0)
          ∧ r.2.mem ((c.tc : Thread Cert.Reference3.nD Cert.Reference3.τ).loc Cert.Reference3.main_arg1) = m' ((c.tc : Thread Cert.Reference3.nD Cert.Reference3.τ).loc Cert.Reference3.main_arg1)
          ∧ r.2.mem ((c.tc : Thread Cert.Reference3.nD Cert.Reference3.τ).loc Cert.Reference3.main_arg2) = m' ((c.tc : Thread Cert.Reference3.nD Cert.Reference3.τ).loc Cert.Reference3.main_arg2)
          ∧ r.2.mem ((c.tc : Thread Cert.Reference3.nD Cert.Reference3.τ).loc Cert.Reference3.main_arg3) = m' ((c.tc : Thread Cert.Reference3.nD Cert.Reference3.τ).loc Cert.Reference3.main_arg3))

def preserves_Kernel4_Kernel4Ideal : Prop :=
  IdealRules.named_const.Statement Cert.Kernel4Ideal.κ "q_scale" .f32 0x3E38AA3B#32 (((8 * (Real.log 2))⁻¹ : ℝ) : EReal)

def algebraic_Kernel4Ideal_Reference4Ideal_pre_scores_finite [hKernel4Ideal : Cert.Kernel4Ideal.Facts] [hReference4Ideal : Cert.Reference4Ideal.Facts] [hPre_scores_finite : Cert.Pre_scores_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_scores_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hPre_rows_in_range : Cert.Pre_rows_in_range.Facts) (hPre_entries_finite : Cert.Pre_entries_finite.Facts) (hPre_scores_finite : Cert.Pre_scores_finite.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference) (hPre_rows_in_range := hPre_rows_in_range)
    ∧ quiescent_Kernel2 (hKernel2 := hKernel2)
    ∧ quiescent_Kernel2Ideal (hKernel2Ideal := hKernel2Ideal)
    ∧ quiescent_Kernel2Ideal_pre_entries_finite (hKernel2Ideal := hKernel2Ideal) (hPre_entries_finite := hPre_entries_finite)
    ∧ quiescent_Reference2Ideal (hReference2Ideal := hReference2Ideal)
    ∧ quiescent_Reference2Ideal_pre_entries_finite (hReference2Ideal := hReference2Ideal) (hPre_entries_finite := hPre_entries_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Kernel4Ideal_pre_scores_finite (hKernel4Ideal := hKernel4Ideal) (hPre_scores_finite := hPre_scores_finite)
    ∧ quiescent_Reference4Ideal (hReference4Ideal := hReference4Ideal)
    ∧ quiescent_Reference4Ideal_pre_scores_finite (hReference4Ideal := hReference4Ideal) (hPre_scores_finite := hPre_scores_finite)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Kernel2_Kernel2Ideal
    ∧ algebraic_Kernel2Ideal_Reference2Ideal_pre_entries_finite (hKernel2Ideal := hKernel2Ideal) (hReference2Ideal := hReference2Ideal) (hPre_entries_finite := hPre_entries_finite)
    ∧ preserves_Kernel3_Kernel3Ideal
    ∧ algebraic_Kernel3Ideal_Reference3Ideal (hKernel3Ideal := hKernel3Ideal) (hReference3Ideal := hReference3Ideal)
    ∧ bitexact_Kernel3_Reference3 (hKernel3 := hKernel3) (hReference3 := hReference3)
    ∧ preserves_Kernel4_Kernel4Ideal
    ∧ algebraic_Kernel4Ideal_Reference4Ideal_pre_scores_finite (hKernel4Ideal := hKernel4Ideal) (hReference4Ideal := hReference4Ideal) (hPre_scores_finite := hPre_scores_finite)
-- ==== Pre_entries_finite.lean ====
abbrev S1x16640x8x2x64 : Shape := ⟨5, ![1, 16640, 8, 2, 64]⟩
abbrev S1x16640x8x128 : Shape := ⟨4, ![1, 16640, 8, 128]⟩
abbrev S4x64 : Shape := ⟨2, ![4, 64]⟩
abbrev S128 : Shape := ⟨1, ![128]⟩
abbrev S_ : Shape := ⟨0, ![]⟩

class Facts : Prop where
  bcast_S_S1x16640x8x2x64 : S_.BroadcastsInDim S1x16640x8x2x64 (![] : Fin 0 → Fin S1x16640x8x2x64.rank)
  bcast_S_S1x16640x8x128 : S_.BroadcastsInDim S1x16640x8x128 (![] : Fin 0 → Fin S1x16640x8x128.rank)
  bcast_S_S4x64 : S_.BroadcastsInDim S4x64 (![] : Fin 0 → Fin S4x64.rank)

variable [Facts]

def fn_part1 {F : FTy → Type} [FloatOps F] (main_arg3 : FVec F S4x64 .f32) (main_v4 : IVec S1x16640x8x2x64 1) (main_v9 : IVec S1x16640x8x2x64 1) (main_v14 : IVec S1x16640x8x128 1) (main_v16 : IVec S4x64 1) : IVec S1x16640x8x2x64 1 × IVec S1x16640x8x2x64 1 × IVec S1x16640x8x128 1 × IVec S4x64 1 :=
  let main_cst_6 : FVec F S_ .f32 := constant S_ .f32 0x7F800000#32
  let main_v17 : FVec F S4x64 .f32 := broadcastInDim S4x64 ![] bcast_S_S4x64 main_cst_6
  let main_v18 : IVec S4x64 1 := cmpf .olt main_arg3 main_v17
  let main_v19 : IVec S4x64 1 := andi main_v16 main_v18
  (main_v4, main_v9, main_v14, main_v19)

def fn {F : FTy → Type} [FloatOps F] (main_arg0 : FVec F S1x16640x8x2x64 .f32) (main_arg1 : FVec F S1x16640x8x2x64 .f32) (main_arg2 : FVec F S1x16640x8x128 .f32) (main_arg3 : FVec F S4x64 .f32) (main_arg4 : FVec F S128 .f32) : IVec S1x16640x8x2x64 1 × IVec S1x16640x8x2x64 1 × IVec S1x16640x8x128 1 × IVec S4x64 1 :=
  let main_cst : FVec F S_ .f32 := constant S_ .f32 0xFF800000#32
  let main_v0 : FVec F S1x16640x8x2x64 .f32 := broadcastInDim S1x16640x8x2x64 ![] bcast_S_S1x16640x8x2x64 main_cst
  let main_v1 : IVec S1x16640x8x2x64 1 := cmpf .ogt main_arg0 main_v0
  let main_cst_0 : FVec F S_ .f32 := constant S_ .f32 0x7F800000#32
  let main_v2 : FVec F S1x16640x8x2x64 .f32 := broadcastInDim S1x16640x8x2x64 ![] bcast_S_S1x16640x8x2x64 main_cst_0
  let main_v3 : IVec S1x16640x8x2x64 1 := cmpf .olt main_arg0 main_v2
  let main_v4 : IVec S1x16640x8x2x64 1 := andi main_v1 main_v3
  let main_cst_1 : FVec F S_ .f32 := constant S_ .f32 0xFF800000#32
  let main_v5 : FVec F S1x16640x8x2x64 .f32 := broadcastInDim S1x16640x8x2x64 ![] bcast_S_S1x16640x8x2x64 main_cst_1
  let main_v6 : IVec S1x16640x8x2x64 1 := cmpf .ogt main_arg1 main_v5
  let main_cst_2 : FVec F S_ .f32 := constant S_ .f32 0x7F800000#32
  let main_v7 : FVec F S1x16640x8x2x64 .f32 := broadcastInDim S1x16640x8x2x64 ![] bcast_S_S1x16640x8x2x64 main_cst_2
  let main_v8 : IVec S1x16640x8x2x64 1 := cmpf .olt main_arg1 main_v7
  let main_v9 : IVec S1x16640x8x2x64 1 := andi main_v6 main_v8
  let main_cst_3 : FVec F S_ .f32 := constant S_ .f32 0xFF800000#32
  let main_v10 : FVec F S1x16640x8x128 .f32 := broadcastInDim S1x16640x8x128 ![] bcast_S_S1x16640x8x128 main_cst_3
  let main_v11 : IVec S1x16640x8x128 1 := cmpf .ogt main_arg2 main_v10
  let main_cst_4 : FVec F S_ .f32 := constant S_ .f32 0x7F800000#32
  let main_v12 : FVec F S1x16640x8x128 .f32 := broadcastInDim S1x16640x8x128 ![] bcast_S_S1x16640x8x128 main_cst_4
  let main_v13 : IVec S1x16640x8x128 1 := cmpf .olt main_arg2 main_v12
  let main_v14 : IVec S1x16640x8x128 1 := andi main_v11 main_v13
  let main_cst_5 : FVec F S_ .f32 := constant S_ .f32 0xFF800000#32
  let main_v15 : FVec F S4x64 .f32 := broadcastInDim S4x64 ![] bcast_S_S4x64 main_cst_5
  let main_v16 : IVec S4x64 1 := cmpf .ogt main_arg3 main_v15
  fn_part1 (F := F) main_arg3 main_v4 main_v9 main_v14 main_v16
-- ==== Pre_rows_in_range.lean ====
abbrev S4x32768x256 : Shape := ⟨3, ![4, 32768, 256]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S4x32768x256 .f32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 32768#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_scores_finite.lean ====
abbrev S1x16640x2x4x64 : Shape := ⟨5, ![1, 16640, 2, 4, 64]⟩
abbrev S1x16640x2x64 : Shape := ⟨4, ![1, 16640, 2, 64]⟩
abbrev S_ : Shape := ⟨0, ![]⟩

class Facts : Prop where
  bcast_S_S1x16640x2x4x64 : S_.BroadcastsInDim S1x16640x2x4x64 (![] : Fin 0 → Fin S1x16640x2x4x64.rank)
  bcast_S_S1x16640x2x64 : S_.BroadcastsInDim S1x16640x2x64 (![] : Fin 0 → Fin S1x16640x2x64.rank)

variable [Facts]

def fn {F : FTy → Type} [FloatOps F] (main_arg0 : FVec F S1x16640x2x4x64 .f32) (main_arg1 : FVec F S1x16640x2x64 .f32) (main_arg2 : FVec F S1x16640x2x64 .f32) : IVec S1x16640x2x4x64 1 × IVec S1x16640x2x64 1 :=
  let main_cst : FVec F S_ .f32 := constant S_ .f32 0xFF800000#32
  let main_v0 : FVec F S1x16640x2x4x64 .f32 := broadcastInDim S1x16640x2x4x64 ![] bcast_S_S1x16640x2x4x64 main_cst
  let main_v1 : IVec S1x16640x2x4x64 1 := cmpf .ogt main_arg0 main_v0
  let main_cst_0 : FVec F S_ .f32 := constant S_ .f32 0x7F800000#32
  let main_v2 : FVec F S1x16640x2x4x64 .f32 := broadcastInDim S1x16640x2x4x64 ![] bcast_S_S1x16640x2x4x64 main_cst_0
  let main_v3 : IVec S1x16640x2x4x64 1 := cmpf .olt main_arg0 main_v2
  let main_v4 : IVec S1x16640x2x4x64 1 := andi main_v1 main_v3
  let main_cst_1 : FVec F S_ .f32 := constant S_ .f32 0xFF800000#32
  let main_v5 : FVec F S1x16640x2x64 .f32 := broadcastInDim S1x16640x2x64 ![] bcast_S_S1x16640x2x64 main_cst_1
  let main_v6 : IVec S1x16640x2x64 1 := cmpf .ogt main_arg1 main_v5
  let main_cst_2 : FVec F S_ .f32 := constant S_ .f32 0x7F800000#32
  let main_v7 : FVec F S1x16640x2x64 .f32 := broadcastInDim S1x16640x2x64 ![] bcast_S_S1x16640x2x64 main_cst_2
  let main_v8 : IVec S1x16640x2x64 1 := cmpf .olt main_arg1 main_v7
  let main_v9 : IVec S1x16640x2x64 1 := andi main_v6 main_v8
  (main_v4, main_v9)
-- ==== Kernel.lean ====
abbrev S4x32768x256 : Shape := ⟨3, ![4, 32768, 256]⟩
abbrev S32768 : Shape := ⟨1, ![32768]⟩
abbrev S4 : Shape := ⟨1, ![4]⟩
abbrev S4x1 : Shape := ⟨2, ![4, 1]⟩
abbrev S_ : Shape := ⟨0, ![]⟩
abbrev S1x32768 : Shape := ⟨2, ![1, 32768]⟩
abbrev S4x32768 : Shape := ⟨2, ![4, 32768]⟩
abbrev S1x131072 : Shape := ⟨2, ![1, 131072]⟩
abbrev S131072x256 : Shape := ⟨2, ![131072, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S131072x128 : Shape := ⟨2, ![131072, 128]⟩

abbrev nBuf : Table → Nat
  | .hbm => 15
  | .local .scVector .vmem => 2
  | _ => 0

abbrev bufTy : (tb : Table) → Fin (nBuf tb) → BufTy
  | .hbm, ⟨0, _⟩ => ⟨S4x32768x256, .f32⟩
  | .hbm, ⟨1, _⟩ => ⟨S32768, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S1x32768, .i32⟩
  | .hbm, ⟨8, _⟩ => ⟨S4x32768, .i32⟩
  | .hbm, ⟨9, _⟩ => ⟨S4x32768, .i32⟩
  | .hbm, ⟨10, _⟩ => ⟨S4x32768, .i32⟩
  | .hbm, ⟨11, _⟩ => ⟨S1x131072, .i32⟩
  | .hbm, ⟨12, _⟩ => ⟨S131072x256, .f32⟩
  | .hbm, ⟨13, _⟩ => ⟨S131072x256, .f32⟩
  | .hbm, ⟨14, _⟩ => ⟨S4x32768x256, .f32⟩
  | .local .scVector .vmem, ⟨0, _⟩ => ⟨S2x1x128, .i32⟩
  | .local .scVector .vmem, ⟨1, _⟩ => ⟨S2x128x256, .f32⟩
  | _, _ => ⟨S4x32768x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v9_scv : Ref sig .scVector := ⟨.hbm, 12, rfl⟩
abbrev main_v8_scv : Ref sig .scVector := ⟨.hbm, 11, rfl⟩
abbrev main_v10_scv : Ref sig .scVector := ⟨.hbm, 13, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S131072x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S131072x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S131072x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S131072x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S131072x256.size a)
theorem k0_off19_inb : ∀ (i : grid0.Coords) (v33_4_r0 : BitVec 32) (k0_hw5 : k0_chk5 i v33_4_r0), ∀ a, (k0_off19 i v33_4_r0) a + S128x256.size a ≤ S131072x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x32768x256 : Shape := ⟨3, ![4, 32768, 256]⟩
abbrev S32768 : Shape := ⟨1, ![32768]⟩
abbrev S_ : Shape := ⟨0, ![]⟩
abbrev S32768x1 : Shape := ⟨2, ![32768, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x32768x256, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S4x32768x256, .f32⟩
  | _, _ => ⟨S4x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S1x16640x8x2x64 : Shape := ⟨5, ![1, 16640, 8, 2, 64]⟩
abbrev S1x16640x8x128 : Shape := ⟨4, ![1, 16640, 8, 128]⟩
abbrev S4x64 : Shape := ⟨2, ![4, 64]⟩
abbrev S128 : Shape := ⟨1, ![128]⟩
abbrev S_ : Shape := ⟨0, ![]⟩
abbrev S16640x8x2x64 : Shape := ⟨4, ![16640, 8, 2, 64]⟩
abbrev S65x256x8x128 : Shape := ⟨4, ![65, 256, 8, 128]⟩
abbrev S8x65x256x128 : Shape := ⟨4, ![8, 65, 256, 128]⟩
abbrev S8x65x512x128 : Shape := ⟨4, ![8, 65, 512, 128]⟩
abbrev S16640x8x128 : Shape := ⟨3, ![16640, 8, 128]⟩
abbrev S8x16640x128 : Shape := ⟨3, ![8, 16640, 128]⟩
abbrev S8x65x128x256 : Shape := ⟨4, ![8, 65, 128, 256]⟩
abbrev S1x64 : Shape := ⟨2, ![1, 64]⟩
abbrev S64 : Shape := ⟨1, ![64]⟩
abbrev S1x128 : Shape := ⟨2, ![1, 128]⟩
abbrev S16384x1024 : Shape := ⟨2, ![16384, 1024]⟩
abbrev S1x4x512x128 : Shape := ⟨4, ![1, 4, 512, 128]⟩
abbrev S1x16640x128 : Shape := ⟨3, ![1, 16640, 128]⟩
abbrev S1x65x128x256 : Shape := ⟨4, ![1, 65, 128, 256]⟩
abbrev S1024x128 : Shape := ⟨2, ![1024, 128]⟩
abbrev S128x2048 : Shape := ⟨2, ![128, 2048]⟩
abbrev S1x2048 : Shape := ⟨2, ![1, 2048]⟩
abbrev S4x512x128 : Shape := ⟨3, ![4, 512, 128]⟩
abbrev S2048x128 : Shape := ⟨2, ![2048, 128]⟩
abbrev S1x3328x128 : Shape := ⟨3, ![1, 3328, 128]⟩
abbrev S3328x128 : Shape := ⟨2, ![3328, 128]⟩
abbrev S3328x2048 : Shape := ⟨2, ![3328, 2048]⟩
abbrev S2048 : Shape := ⟨1, ![2048]⟩
abbrev S1x1x128x256 : Shape := ⟨4, ![1, 1, 128, 256]⟩
abbrev S128x256 : Shape := ⟨2, ![128, 256]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 56
  | .vmem => 12
  | .smem => 0
  | _ => 0

abbrev bufTy : (tb : Table) → Fin (tcTables nBuf tb) → BufTy
  | .hbm, ⟨0, _⟩ => ⟨S1x16640x8x2x64, .f32⟩
  | .hbm, ⟨1, _⟩ => ⟨S1x16640x8x2x64, .f32⟩
  | .hbm, ⟨2, _⟩ => ⟨S1x16640x8x128, .f32⟩
  | .hbm, ⟨3, _⟩ => ⟨S4x64, .f32⟩
  | .hbm, ⟨4, _⟩ => ⟨S128, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S16640x8x2x64, .f32⟩
  | .hbm, ⟨10, _⟩ => ⟨S65x256x8x128, .f32⟩
  | .hbm, ⟨11, _⟩ => ⟨S8x65x256x128, .f32⟩
  | .hbm, ⟨12, _⟩ => ⟨S_, .f32⟩
  | .hbm, ⟨13, _⟩ => ⟨S_, .f32⟩
  | .hbm, ⟨14, _⟩ => ⟨S8x65x256x128, .i1⟩
  | .hbm, ⟨15, _⟩ => ⟨S8x65x256x128, .f32⟩
  | .hbm, ⟨16, _⟩ => ⟨S8x65x256x128, .f32⟩
  | .hbm, ⟨17, _⟩ => ⟨S_, .f32⟩
  | .hbm, ⟨18, _⟩ => ⟨S_, .f32⟩
  | .hbm, ⟨19, _⟩ => ⟨S8x65x256x128, .i1⟩
  | .hbm, ⟨20, _⟩ => ⟨S8x65x256x128, .f32⟩
  | .hbm, ⟨21, _⟩ => ⟨S8x65x256x128, .f32⟩
  | .hbm, ⟨22, _⟩ => ⟨S8x65x512x128, .f32⟩
  | .hbm, ⟨23, _⟩ => ⟨S16640x8x2x64, .f32⟩
  | .hbm, ⟨24, _⟩ => ⟨S16640x8x128, .f32⟩
  | .hbm, ⟨25, _⟩ => ⟨S8x16640x128, .f32⟩
  | .hbm, ⟨26, _⟩ => ⟨S8x16640x128, .bf16⟩
  | .hbm, ⟨27, _⟩ => ⟨S16640x8x128, .f32⟩
  | .hbm, ⟨28, _⟩ => ⟨S65x256x8x128, .f32⟩
  | .hbm, ⟨29, _⟩ => ⟨S8x65x128x256, .f32⟩
  | .hbm, ⟨30, _⟩ => ⟨S8x65x128x256, .bf16⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S16384x1024, .bf16⟩
  | .local _ .vmem, ⟨0, _⟩ => ⟨S1x4x512x128, .f32⟩
  | .local _ .vmem, ⟨1, _⟩ => ⟨S1x4x512x128, .f32⟩
  | .local _ .vmem, ⟨2, _⟩ => ⟨S1x16640x128, .bf16⟩
  | .local _ .vmem, ⟨3, _⟩ => ⟨S1x16640x128, .bf16⟩
  | .local _ .vmem, ⟨4, _⟩ => ⟨S1x65x128x256, .bf16⟩
  | .local _ .vmem, ⟨5, _⟩ => ⟨S1x65x128x256, .bf16⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S128x2048, .f32⟩
  | .local _ .vmem, ⟨11, _⟩ => ⟨S1x2048, .f32⟩
  | _, _ => ⟨S1x16640x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c5_i32 : BitVec 32 := 5#32
  let v19 : BitVec 32 := Scalar.addi c0_i32 c5_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c3328_i32 : BitVec 32 := 3328#32
  let v133 : BitVec 32 := Scalar.muli arg10 c3328_i32
  v133
def k0_off1 (k0_t1 : Fin k0_t1_loop.trips) : Fin 3 → Nat :=
  let c0_48 : Index := 0#32
  let c0_i32 : BitVec 32 := 0#32
  let c1_i32 : BitVec 32 := 1#32
  let arg10 : BitVec 32 := Scf.iv c0_i32 c1_i32 k0_t1
  let c3328_i32 : BitVec 32 := 3328#32
  let v133 : BitVec 32 := Scalar.muli arg10 c3328_i32
  let v134 : BitVec 32 := v133
  let v135 : Index := Scalar.indexCast v134
  let c0_49 : Index := 0#32
  ![0, v135.toNat, 0]
def k0_off2 (k0_t1 : Fin k0_t1_loop.trips) (c0_i32_65 : BitVec 32) : Fin 4 → Nat :=
  let c0_66 : Index := 0#32
  let c0_i32 : BitVec 32 := 0#32
  let c1_i32 : BitVec 32 := 1#32
  let arg10 : BitVec 32 := Scf.iv c0_i32 c1_i32 k0_t1
  let c3328_i32 : BitVec 32 := 3328#32
  let v133 : BitVec 32 := Scalar.muli arg10 c3328_i32
  let v134 : BitVec 32 := v133
  let c0_i32_59 : BitVec 32 := 0#32
  let v152 : BitVec 1 := Scalar.cmpi .sgt v134 c0_i32_59
  let v153 : BitVec 32 := Scalar.extui v152
  let c0_i32_60 : BitVec 32 := 0#32
  let v154 : BitVec 1 := Scalar.cmpi .slt v134 c0_i32_60
  let v155 : BitVec 32 := Scalar.extui v154
  let v156 : BitVec 32 := Scalar.subi v153 v155
  let c256_i32 : BitVec 32 := 256#32
  let c0_i32_61 : BitVec 32 := 0#32
  let v157 : BitVec 1 := Scalar.cmpi .sgt c256_i32 c0_i32_61
  let v158 : BitVec 32 := Scalar.extui v157
  let c0_i32_62 : BitVec 32 := 0#32
  let v159 : BitVec 1 := Scalar.cmpi .slt c256_i32 c0_i32_62
  let v160 : BitVec 32 := Scalar.extui v159
  let v161 : BitVec 32 := Scalar.subi v158 v160
  let v162 : BitVec 1 := Scalar.cmpi .ne v156 v161
  let v163 : BitVec 32 := Scalar.remsi v134 c256_i32
  let c0_i32_63 : BitVec 32 := 0#32
  let v164 : BitVec 1 := Scalar.cmpi .ne v163 c0_i32_63
  let v165 : BitVec 1 := Scalar.andi v162 v164
  let v151 : BitVec 32 := Scalar.divsi v134 c256_i32
  let c1_i32_64 : BitVec 32 := 1#32
  let v166 : BitVec 32 := Scalar.subi v151 c1_i32_64
  let v167 : BitVec 32 := Scalar.select v165 v166 v151
  let v168 : BitVec 32 := Scalar.addi v167 c0_i32_65
  let v169 : Index := Scalar.indexCast v168
  let c0_67 : Index := 0#32
  let c0_68 : Index := 0#32
  ![0, v169.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x65x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S1x16640x8x2x64 : Shape := ⟨5, ![1, 16640, 8, 2, 64]⟩
abbrev S1x16640x8x128 : Shape := ⟨4, ![1, 16640, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S1x16384x8x2x64 : Shape := ⟨5, ![1, 16384, 8, 2, 64]⟩
abbrev S1x8x2x16384x16640 : Shape := ⟨5, ![1, 8, 2, 16384, 16640]⟩
abbrev S1x8x2x16384 : Shape := ⟨4, ![1, 8, 2, 16384]⟩
abbrev S1x8x2x16384x1 : Shape := ⟨5, ![1, 8, 2, 16384, 1]⟩
abbrev S1x8x1x16384x16640 : Shape := ⟨5, ![1, 8, 1, 16384, 16640]⟩
abbrev S1x8x16384x16640 : Shape := ⟨4, ![1, 8, 16384, 16640]⟩
abbrev S1x8x128x16384 : Shape := ⟨4, ![1, 8, 128, 16384]⟩
abbrev S1x16384x8x128 : Shape := ⟨4, ![1, 16384, 8, 128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S16384x1024 : Shape := ⟨2, ![16384, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x16640x8x2x64, .f32⟩
  | .hbm, ⟨1, _⟩ => ⟨S1x16640x8x2x64, .f32⟩
  | .hbm, ⟨2, _⟩ => ⟨S1x16640x8x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x16384x8x2x64, .f32⟩
  | .hbm, ⟨25, _⟩ => ⟨S1x8x2x16384x16640, .f32⟩
  | .hbm, ⟨26, _⟩ => ⟨S_, .f32⟩
  | .hbm, ⟨27, _⟩ => ⟨S1x8x2x16384x16640, .f32⟩
  | .hbm, ⟨28, _⟩ => ⟨S1x8x2x16384x16640, .f32⟩
  | .hbm, ⟨29, _⟩ => ⟨S_, .f32⟩
  | .hbm, ⟨30, _⟩ => ⟨S1x8x2x16384, .f32⟩
  | .hbm, ⟨31, _⟩ => ⟨S_, .f32⟩
  | .hbm, ⟨32, _⟩ => ⟨S1x8x2x16384, .f32⟩
  | .hbm, ⟨33, _⟩ => ⟨S1x8x2x16384, .f32⟩
  | .hbm, ⟨34, _⟩ => ⟨S1x8x2x16384x1, .f32⟩
  | .hbm, ⟨35, _⟩ => ⟨S1x8x2x16384x16640, .f32⟩
  | .hbm, ⟨36, _⟩ => ⟨S1x8x2x16384x16640, .f32⟩
  | .hbm, ⟨37, _⟩ => ⟨S1x8x2x16384x16640, .f32⟩
  | .hbm, ⟨38, _⟩ => ⟨S_, .f32⟩
  | .hbm, ⟨39, _⟩ => ⟨S1x8x2x16384, .f32⟩
  | .hbm, ⟨40, _⟩ => ⟨S1x8x2x16384x1, .f32⟩
  | .hbm, ⟨41, _⟩ => ⟨S1x8x2x16384x16640, .f32⟩
  | .hbm, ⟨42, _⟩ => ⟨S1x8x2x16384x16640, .f32⟩
  | .hbm, ⟨43, _⟩ => ⟨S1x8x1x16384x16640, .f32⟩
  | .hbm, ⟨44, _⟩ => ⟨S1x8x16384x16640, .f32⟩
  | .hbm, ⟨45, _⟩ => ⟨S1x8x1x16384x16640, .f32⟩
  | .hbm, ⟨46, _⟩ => ⟨S1x8x16384x16640, .f32⟩
  | .hbm, ⟨47, _⟩ => ⟨S1x8x16384x16640, .f32⟩
  | .hbm, ⟨48, _⟩ => ⟨S1x8x16384x16640, .f32⟩
  | .hbm, ⟨49, _⟩ => ⟨S1x8x16384x16640, .f32⟩
  | .hbm, ⟨50, _⟩ => ⟨S1x8x128x16384, .f32⟩
  | .hbm, ⟨51, _⟩ => ⟨S1x16384x8x128, .f32⟩
  | .hbm, ⟨52, _⟩ => ⟨S1x16384x8x128, .f32⟩
  | .hbm, ⟨53, _⟩ => ⟨S_, .f32⟩
  | .hbm, ⟨54, _⟩ => ⟨S1x16384x8, .f32⟩
  | .hbm, ⟨55, _⟩ => ⟨S1x16384x8x1, .f32⟩
  | .hbm, ⟨56, _⟩ => ⟨S_, .f32⟩
  | .hbm, ⟨57, _⟩ => ⟨S1x16384x8x1, .f32⟩
  | .hbm, ⟨58, _⟩ => ⟨S1x16384x8x1, .f32⟩
  | .hbm, ⟨59, _⟩ => ⟨S_, .f32⟩
  | .hbm, ⟨60, _⟩ => ⟨S1x16384x8x1, .f32⟩
  | .hbm, ⟨61, _⟩ => ⟨S1x16384x8x1, .f32⟩
  | .hbm, ⟨62, _⟩ => ⟨S1x16384x8x1, .f32⟩
  | .hbm, ⟨63, _⟩ => ⟨S1x16384x8x128, .f32⟩
  | .hbm, ⟨64, _⟩ => ⟨S1x16384x8x128, .f32⟩
  | .hbm, ⟨65, _⟩ => ⟨S1x1x1x128, .f32⟩
  | .hbm, ⟨66, _⟩ => ⟨S1x16384x8x128, .f32⟩
  | .hbm, ⟨67, _⟩ => ⟨S1x16384x8x128, .f32⟩
  | .hbm, ⟨68, _⟩ => ⟨S_, .f32⟩
  | .hbm, ⟨69, _⟩ => ⟨S1x16384x8x128, .f32⟩
  | .hbm, ⟨70, _⟩ => ⟨S1x16384x8x128, .f32⟩
  | .hbm, ⟨71, _⟩ => ⟨S16384x1024, .f32⟩
  | .hbm, ⟨72, _⟩ => ⟨S16384x1024, .bf16⟩
  | _, _ => ⟨S1x16640x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel3.lean ====
abbrev S4x2x16384x256 : Shape := ⟨4, ![4, 2, 16384, 256]⟩
abbrev S16384x2 : Shape := ⟨2, ![16384, 2]⟩
abbrev S16384x1024 : Shape := ⟨2, ![16384, 1024]⟩
abbrev S2x1x1024 : Shape := ⟨3, ![2, 1, 1024]⟩
abbrev S4x2x256x256 : Shape := ⟨4, ![4, 2, 256, 256]⟩
abbrev S256x2 : Shape := ⟨2, ![256, 2]⟩
abbrev S256x1024 : Shape := ⟨2, ![256, 1024]⟩
abbrev S256x1 : Shape := ⟨2, ![256, 1]⟩
abbrev S4x1x256x256 : Shape := ⟨4, ![4, 1, 256, 256]⟩
abbrev S4x256x256 : Shape := ⟨3, ![4, 256, 256]⟩
abbrev S1x256x256 : Shape := ⟨3, ![1, 256, 256]⟩
abbrev S256x256 : Shape := ⟨2, ![256, 256]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x2x16384x256, .f32⟩
  | .hbm, ⟨1, _⟩ => ⟨S16384x2, .f32⟩
  | .hbm, ⟨2, _⟩ => ⟨S16384x1024, .f32⟩
  | .hbm, ⟨3, _⟩ => ⟨S2x1x1024, .f32⟩
  | .hbm, ⟨4, _⟩ => ⟨S16384x1024, .f32⟩
  | .local _ .vmem, ⟨0, _⟩ => ⟨S4x2x256x256, .f32⟩
  | .local _ .vmem, ⟨1, _⟩ => ⟨S4x2x256x256, .f32⟩
  | .local _ .vmem, ⟨2, _⟩ => ⟨S256x2, .f32⟩
  | .local _ .vmem, ⟨3, _⟩ => ⟨S256x2, .f32⟩
  | .local _ .vmem, ⟨4, _⟩ => ⟨S256x1024, .f32⟩
  | .local _ .vmem, ⟨5, _⟩ => ⟨S256x1024, .f32⟩
  | .local _ .vmem, ⟨6, _⟩ => ⟨S2x1x1024, .f32⟩
  | .local _ .vmem, ⟨7, _⟩ => ⟨S256x1024, .f32⟩
  | .local _ .vmem, ⟨8, _⟩ => ⟨S256x1024, .f32⟩
  | _, _ => ⟨S4x2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c1_i32 : BitVec 32 := 1#32
  let v30 : BitVec 32 := Scalar.addi arg0 c1_i32
  let c1_i32_8 : BitVec 32 := 1#32
  let v31 : BitVec 32 := Scalar.minsi v30 c1_i32_8
  let v33 : Index := Scalar.indexCast v31
  let c0_11 : Index := 0#32
  let c0_12 : Index := 0#32
  ![v33.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3.lean ====
abbrev S4x2x16384x256 : Shape := ⟨4, ![4, 2, 16384, 256]⟩
abbrev S16384x2 : Shape := ⟨2, ![16384, 2]⟩
abbrev S16384x1024 : Shape := ⟨2, ![16384, 1024]⟩
abbrev S2x1x1024 : Shape := ⟨3, ![2, 1, 1024]⟩
abbrev S2x16384x4x256 : Shape := ⟨4, ![2, 16384, 4, 256]⟩
abbrev S2x16384x1024 : Shape := ⟨3, ![2, 16384, 1024]⟩
abbrev S1x1x1024 : Shape := ⟨3, ![1, 1, 1024]⟩
abbrev S1x1024 : Shape := ⟨2, ![1, 1024]⟩
abbrev S16384x1 : Shape := ⟨2, ![16384, 1]⟩
abbrev S1x16384x1024 : Shape := ⟨3, ![1, 16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x2x16384x256, .f32⟩
  | .hbm, ⟨1, _⟩ => ⟨S16384x2, .f32⟩
  | .hbm, ⟨2, _⟩ => ⟨S16384x1024, .f32⟩
  | .hbm, ⟨3, _⟩ => ⟨S2x1x1024, .f32⟩
  | .hbm, ⟨4, _⟩ => ⟨S2x16384x4x256, .f32⟩
  | .hbm, ⟨5, _⟩ => ⟨S2x16384x1024, .f32⟩
  | .hbm, ⟨6, _⟩ => ⟨S1x1x1024, .f32⟩
  | .hbm, ⟨7, _⟩ => ⟨S1x1024, .f32⟩
  | .hbm, ⟨8, _⟩ => ⟨S16384x1, .f32⟩
  | .hbm, ⟨9, _⟩ => ⟨S1x16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1, .f32⟩
  | .hbm, ⟨14, _⟩ => ⟨S1x16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S4x2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S1x16640x2x4x64 : Shape := ⟨5, ![1, 16640, 2, 4, 64]⟩
abbrev S1x16640x2x64 : Shape := ⟨4, ![1, 16640, 2, 64]⟩
abbrev S16640x2x4x64 : Shape := ⟨4, ![16640, 2, 4, 64]⟩
abbrev S65x256x2x4x64 : Shape := ⟨5, ![65, 256, 2, 4, 64]⟩
abbrev S2x65x4x256x64 : Shape := ⟨5, ![2, 65, 4, 256, 64]⟩
abbrev S2x65x1024x1x64 : Shape := ⟨5, ![2, 65, 1024, 1, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x1x1x2x1 : Shape := ⟨5, ![2, 1, 1, 2, 1]⟩
abbrev S_ : Shape := ⟨0, ![]⟩
abbrev S2x65x1024x2x64 : Shape := ⟨5, ![2, 65, 1024, 2, 64]⟩
abbrev S2x65x1024x128 : Shape := ⟨4, ![2, 65, 1024, 128]⟩
abbrev S1x16640x128 : Shape := ⟨3, ![1, 16640, 128]⟩
abbrev S64x256 : Shape := ⟨2, ![64, 256]⟩
abbrev S16640x2x64 : Shape := ⟨3, ![16640, 2, 64]⟩
abbrev S65x256x2x64 : Shape := ⟨4, ![65, 256, 2, 64]⟩
abbrev S2x65x64x256 : Shape := ⟨4, ![2, 65, 64, 256]⟩
abbrev S2x65x128x256 : Shape := ⟨4, ![2, 65, 128, 256]⟩
abbrev S16384x512 : Shape := ⟨2, ![16384, 512]⟩
abbrev S1x2x1024x128 : Shape := ⟨4, ![1, 2, 1024, 128]⟩
abbrev S1x65x128x256 : Shape := ⟨4, ![1, 65, 128, 256]⟩
abbrev S512x256 : Shape := ⟨2, ![512, 256]⟩
abbrev S128x2048 : Shape := ⟨2, ![128, 2048]⟩
abbrev S2x1024x128 : Shape := ⟨3, ![2, 1024, 128]⟩
abbrev S2048x128 : Shape := ⟨2, ![2048, 128]⟩
abbrev S1x3328x128 : Shape := ⟨3, ![1, 3328, 128]⟩
abbrev S3328x128 : Shape := ⟨2, ![3328, 128]⟩
abbrev S3328x2048 : Shape := ⟨2, ![3328, 2048]⟩
abbrev S1x1x128x256 : Shape := ⟨4, ![1, 1, 128, 256]⟩
abbrev S128x256 : Shape := ⟨2, ![128, 256]⟩
abbrev S256x2048 : Shape := ⟨2, ![256, 2048]⟩
abbrev S1x2048 : Shape := ⟨2, ![1, 2048]⟩
abbrev S256x128 : Shape := ⟨2, ![256, 128]⟩
abbrev S1024x128 : Shape := ⟨2, ![1024, 128]⟩
abbrev S256x256 : Shape := ⟨2, ![256, 256]⟩

abbrev nBuf : Space → Nat
  | .hbm => 41
  | .vmem => 8
  | .smem => 0
  | _ => 0

abbrev bufTy : (tb : Table) → Fin (tcTables nBuf tb) → BufTy
  | .hbm, ⟨0, _⟩ => ⟨S1x16640x2x4x64, .f32⟩
  | .hbm, ⟨1, _⟩ => ⟨S1x16640x2x64, .f32⟩
  | .hbm, ⟨2, _⟩ => ⟨S1x16640x2x64, .f32⟩
  | .hbm, ⟨3, _⟩ => ⟨S16640x2x4x64, .f32⟩
  | .hbm, ⟨4, _⟩ => ⟨S65x256x2x4x64, .f32⟩
  | .hbm, ⟨5, _⟩ => ⟨S2x65x4x256x64, .f32⟩
  | .hbm, ⟨6, _⟩ => ⟨S2x65x1024x1x64, .f32⟩
  | .hbm, ⟨7, _⟩ => ⟨S2, .i32⟩
  | .hbm, ⟨8, _⟩ => ⟨S2x1, .i32⟩
  | .hbm, ⟨9, _⟩ => ⟨S2, .i32⟩
  | .hbm, ⟨10, _⟩ => ⟨S1x2, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x1x1x2x1, .i1⟩
  | .hbm, ⟨15, _⟩ => ⟨S_, .f32⟩
  | .hbm, ⟨16, _⟩ => ⟨S_, .f32⟩
  | .hbm, ⟨17, _⟩ => ⟨S2x65x1024x2x64, .i1⟩
  | .hbm, ⟨18, _⟩ => ⟨S2x65x1024x2x64, .f32⟩
  | .hbm, ⟨19, _⟩ => ⟨S2x65x1024x2x64, .f32⟩
  | .hbm, ⟨20, _⟩ => ⟨S2x65x1024x2x64, .f32⟩
  | .hbm, ⟨21, _⟩ => ⟨S2x65x1024x128, .f32⟩
  | .hbm, ⟨22, _⟩ => ⟨S1x16640x128, .f32⟩
  | .hbm, ⟨23, _⟩ => ⟨S1x16640x128, .bf16⟩
  | .hbm, ⟨24, _⟩ => ⟨S64x256, .i32⟩
  | .hbm, ⟨25, _⟩ => ⟨S_, .i32⟩
  | .hbm, ⟨26, _⟩ => ⟨S64x256, .i32⟩
  | .hbm, ⟨27, _⟩ => ⟨S64x256, .i1⟩
  | .hbm, ⟨28, _⟩ => ⟨S_, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S64x256, .f32⟩
  | .hbm, ⟨33, _⟩ => ⟨S16640x2x64, .f32⟩
  | .hbm, ⟨34, _⟩ => ⟨S65x256x2x64, .f32⟩
  | .hbm, ⟨35, _⟩ => ⟨S2x65x64x256, .f32⟩
  | .hbm, ⟨36, _⟩ => ⟨S2x65x64x256, .f32⟩
  | .hbm, ⟨37, _⟩ => ⟨S2x65x64x256, .f32⟩
  | .hbm, ⟨38, _⟩ => ⟨S2x65x128x256, .f32⟩
  | .hbm, ⟨39, _⟩ => ⟨S2x65x128x256, .bf16⟩
  | .hbm, ⟨40, _⟩ => ⟨S16384x512, .bf16⟩
  | .local _ .vmem, ⟨0, _⟩ => ⟨S1x2x1024x128, .f32⟩
  | .local _ .vmem, ⟨1, _⟩ => ⟨S1x2x1024x128, .f32⟩
  | .local _ .vmem, ⟨2, _⟩ => ⟨S1x16640x128, .bf16⟩
  | .local _ .vmem, ⟨3, _⟩ => ⟨S1x65x128x256, .bf16⟩
  | .local _ .vmem, ⟨4, _⟩ => ⟨S1x65x128x256, .bf16⟩
  | .local _ .vmem, ⟨5, _⟩ => ⟨S512x256, .bf16⟩
  | .local _ .vmem, ⟨6, _⟩ => ⟨S512x256, .bf16⟩
  | .local _ .vmem, ⟨7, _⟩ => ⟨S128x2048, .f32⟩
  | _, _ => ⟨S1x16640x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c5_i32 : BitVec 32 := 5#32
  let v15 : BitVec 32 := Scalar.addi c0_i32 c5_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c3328_i32 : BitVec 32 := 3328#32
  let v67 : BitVec 32 := Scalar.muli arg7 c3328_i32
  v67
def k0_off1 (k0_t1 : Fin k0_t1_loop.trips) : Fin 3 → Nat :=
  let c0_19 : Index := 0#32
  let c0_i32 : BitVec 32 := 0#32
  let c1_i32 : BitVec 32 := 1#32
  let arg7 : BitVec 32 := Scf.iv c0_i32 c1_i32 k0_t1
  let c3328_i32 : BitVec 32 := 3328#32
  let v67 : BitVec 32 := Scalar.muli arg7 c3328_i32
  let v68 : BitVec 32 := v67
  let v69 : Index := Scalar.indexCast v68
  let c0_20 : Index := 0#32
  ![0, v69.toNat, 0]
def k0_off2 (k0_t1 : Fin k0_t1_loop.trips) (c0_i32_30 : BitVec 32) : Fin 4 → Nat :=
  let c0_31 : Index := 0#32
  let c0_i32 : BitVec 32 := 0#32
  let c1_i32 : BitVec 32 := 1#32
  let arg7 : BitVec 32 := Scf.iv c0_i32 c1_i32 k0_t1
  let c3328_i32 : BitVec 32 := 3328#32
  let v67 : BitVec 32 := Scalar.muli arg7 c3328_i32
  let v68 : BitVec 32 := v67
  let c0_i32_24 : BitVec 32 := 0#32
  let v77 : BitVec 1 := Scalar.cmpi .sgt v68 c0_i32_24
  let v78 : BitVec 32 := Scalar.extui v77
  let c0_i32_25 : BitVec 32 := 0#32
  let v79 : BitVec 1 := Scalar.cmpi .slt v68 c0_i32_25
  let v80 : BitVec 32 := Scalar.extui v79
  let v81 : BitVec 32 := Scalar.subi v78 v80
  let c256_i32 : BitVec 32 := 256#32
  let c0_i32_26 : BitVec 32 := 0#32
  let v82 : BitVec 1 := Scalar.cmpi .sgt c256_i32 c0_i32_26
  let v83 : BitVec 32 := Scalar.extui v82
  let c0_i32_27 : BitVec 32 := 0#32
  let v84 : BitVec 1 := Scalar.cmpi .slt c256_i32 c0_i32_27
  let v85 : BitVec 32 := Scalar.extui v84
  let v86 : BitVec 32 := Scalar.subi v83 v85
  let v87 : BitVec 1 := Scalar.cmpi .ne v81 v86
  let v88 : BitVec 32 := Scalar.remsi v68 c256_i32
  let c0_i32_28 : BitVec 32 := 0#32
  let v89 : BitVec 1 := Scalar.cmpi .ne v88 c0_i32_28
  let v90 : BitVec 1 := Scalar.andi v87 v89
  let v76 : BitVec 32 := Scalar.divsi v68 c256_i32
  let c1_i32_29 : BitVec 32 := 1#32
  let v91 : BitVec 32 := Scalar.subi v76 c1_i32_29
  let v92 : BitVec 32 := Scalar.select v90 v91 v76
  let v93 : BitVec 32 := Scalar.addi v92 c0_i32_30
  let v94 : Index := Scalar.indexCast v93
  let c0_32 : Index := 0#32
  let c0_33 : Index := 0#32
  ![0, v94.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x65x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "q_scale" => some (((8 * (Real.log 2))⁻¹ : ℝ) : EReal)
  | _ => none
-- ==== Reference4Ideal.lean ====
abbrev S1x16640x2x4x64 : Shape := ⟨5, ![1, 16640, 2, 4, 64]⟩
abbrev S1x16640x2x64 : Shape := ⟨4, ![1, 16640, 2, 64]⟩
abbrev S1x16384x2x4x64 : Shape := ⟨5, ![1, 16384, 2, 4, 64]⟩
abbrev S1x2x16640x16384x4 : Shape := ⟨5, ![1, 2, 16640, 16384, 4]⟩
abbrev S1x2x4x16384x16640 : Shape := ⟨5, ![1, 2, 4, 16384, 16640]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x64x4x16384 : Shape := ⟨5, ![1, 2, 64, 4, 16384]⟩
abbrev S16384x512 : Shape := ⟨2, ![16384, 512]⟩

abbrev nBuf : Space → Nat
  | .hbm => 27
  | .vmem => 0
  | .smem => 0
  | _ => 0

abbrev bufTy : (tb : Table) → Fin (tcTables nBuf tb) → BufTy
  | .hbm, ⟨0, _⟩ => ⟨S1x16640x2x4x64, .f32⟩
  | .hbm, ⟨1, _⟩ => ⟨S1x16640x2x64, .f32⟩
  | .hbm, ⟨2, _⟩ => ⟨S1x16640x2x64, .f32⟩
  | .hbm, ⟨3, _⟩ => ⟨S1x16384x2x4x64, .f32⟩
  | .hbm, ⟨4, _⟩ => ⟨S1x2x16640x16384x4, .f32⟩
  | .hbm, ⟨5, _⟩ => ⟨S1x2x4x16384x16640, .f32⟩
  | .hbm, ⟨6, _⟩ => ⟨S_, .f32⟩
  | .hbm, ⟨7, _⟩ => ⟨S1x2x4x16384x16640, .f32⟩
  | .hbm, ⟨8, _⟩ => ⟨S1x2x4x16384x16640, .f32⟩
  | .hbm, ⟨9, _⟩ => ⟨S_, .f32⟩
  | .hbm, ⟨10, _⟩ => ⟨S1x2x4x16384, .f32⟩
  | .hbm, ⟨11, _⟩ => ⟨S_, .f32⟩
  | .hbm, ⟨12, _⟩ => ⟨S1x2x4x16384, .f32⟩
  | .hbm, ⟨13, _⟩ => ⟨S1x2x4x16384, .f32⟩
  | .hbm, ⟨14, _⟩ => ⟨S1x2x4x16384x1, .f32⟩
  | .hbm, ⟨15, _⟩ => ⟨S1x2x4x16384x16640, .f32⟩
  | .hbm, ⟨16, _⟩ => ⟨S1x2x4x16384x16640, .f32⟩
  | .hbm, ⟨17, _⟩ => ⟨S1x2x4x16384x16640, .f32⟩
  | .hbm, ⟨18, _⟩ => ⟨S_, .f32⟩
  | .hbm, ⟨19, _⟩ => ⟨S1x2x4x16384, .f32⟩
  | .hbm, ⟨20, _⟩ => ⟨S1x2x4x16384x1, .f32⟩
  | .hbm, ⟨21, _⟩ => ⟨S1x2x4x16384x16640, .f32⟩
  | .hbm, ⟨22, _⟩ => ⟨S1x2x4x16384x16640, .f32⟩
  | .hbm, ⟨23, _⟩ => ⟨S1x2x64x4x16384, .f32⟩
  | .hbm, ⟨24, _⟩ => ⟨S1x16384x2x4x64, .f32⟩
  | .hbm, ⟨25, _⟩ => ⟨S16384x512, .f32⟩
  | .hbm, ⟨26, _⟩ => ⟨S16384x512, .bf16⟩
  | _, _ => ⟨S1x16640x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Words.lean ====
module
public import proofs.«01_k».proof.Proof.Gen.KernelIdeal
public import proofs.«01_k».proof.Proof.Gen.KernelIdeal.Skeleton

/-!
The pipeline's words in closed form.

A tile carries five words through its thirty-two trips. At the head of trip `t` they are `t+1` (the
next window to fetch), `t` (the window to read), `t` (the window to fill), `t-1` (the window to wait
for) and `t` (the block). Here: what each condition, each offset and each checked condition comes to
at those words.
-/

@[expose] public section

set_option synthInstance.maxSize 1000000
set_option synthInstance.maxHeartbeats 0
set_option maxRecDepth 100000

namespace Cert.KernelIdeal

open Idealize.ShloMosaic

/-- The tile's number, sixteen tiles to a core. -/
def tid (i : grid0.Coords) : ℕ := 16 * (i 0).val + (i 1).val

/-- The block of 128 rows that tile `i` fills on its trip `t`. -/
def blk (i : grid0.Coords) (t : ℕ) : ℕ := 32 * tid i + t

/-- The word that holds a small number. -/
abbrev wd (n : ℕ) : BitVec 32 := BitVec.ofNat 32 n

theorem trips_eq : k0_t1_loop.trips = 32 := by decide +kernel

theorem tid_lt : ∀ i : grid0.Coords, tid i < 32 := by decide +kernel

theorem cond1_eq : ∀ i : grid0.Coords, ∀ t : Fin k0_t1_loop.trips,
    k0_cond1 i t (wd t.val) = if t.val < 31 then 1#1 else 0#1 := by decide +kernel

theorem cond2_eq : ∀ i : grid0.Coords, ∀ t : Fin k0_t1_loop.trips,
    k0_cond2 i t (wd t.val) = 1#1 := by decide +kernel

theorem cond5_eq : ∀ i : grid0.Coords, ∀ t : Fin k0_t1_loop.trips,
    k0_cond5 i t (wd t.val) = 1#1 := by decide +kernel

theorem cond7_eq : ∀ i : grid0.Coords, ∀ t : Fin k0_t1_loop.trips,
    k0_cond7 i t (wd t.val) = if 0 < t.val then 1#1 else 0#1 := by decide +kernel

theorem off1_eq : k0_off1 = ![0, 0, 0] := by decide +kernel
theorem off2_eq : ∀ i : grid0.Coords, k0_off2 i = ![0, 128 * blk i 0] := by decide +kernel
theorem off3_eq : k0_off3 = ![0] := by decide +kernel
theorem off4_eq : ∀ t : Fin k0_t1_loop.trips, k0_off4 (wd (t.val + 1)) = ![(t.val + 1) % 2, 0, 0] := by
  decide +kernel
theorem off5_eq : ∀ i : grid0.Coords, ∀ t : Fin k0_t1_loop.trips, t.val < 31 →
    k0_off5 i (wd t.val) = ![0, 128 * blk i (t.val + 1)] := by decide +kernel
theorem off6_eq : ∀ t : Fin k0_t1_loop.trips, k0_off6 (wd (t.val + 1)) = ![(t.val + 1) % 2] := by
  decide +kernel
theorem off7_eq : ∀ t : Fin k0_t1_loop.trips, k0_off7 (wd t.val) = ![t.val % 2, 0, 0] := by
  decide +kernel
theorem off8_eq : ∀ i : grid0.Coords, ∀ t : Fin k0_t1_loop.trips,
    k0_off8 i (wd t.val) = ![0, 128 * blk i t.val] := by decide +kernel
theorem off9_eq : ∀ t : Fin k0_t1_loop.trips, k0_off9 (wd t.val) = ![t.val % 2] := by
  decide +kernel
theorem off10_eq : ∀ t : Fin k0_t1_loop.trips, k0_off10 (wd t.val) = ![t.val % 2, 0, 0] := by
  decide +kernel
theorem off11_eq : ∀ t : Fin k0_t1_loop.trips, k0_off11 (wd t.val) = ![t.val % 2, 0, 0] := by
  decide +kernel
theorem off12_eq : ∀ t : Fin k0_t1_loop.trips, k0_off12 (wd t.val) = ![t.val % 2, 0, 0] := by
  decide +kernel
theorem off13_eq : ∀ i : grid0.Coords, ∀ t : Fin k0_t1_loop.trips,
    k0_off13 i (wd t.val) = ![128 * blk i t.val, 0] := by decide +kernel
theorem off14_eq : ∀ t : Fin k0_t1_loop.trips, k0_off14 (wd t.val) = ![t.val % 2] := by
  decide +kernel
theorem off15_eq : ∀ t : Fin k0_t1_loop.trips, 0 < t.val →
    k0_off15 (wd (t.val - 1)) = ![(t.val + 1) % 2, 0, 0] := by decide +kernel
theorem off16_eq : ∀ i : grid0.Coords, ∀ t : Fin k0_t1_loop.trips, 0 < t.val →
    k0_off16 i (wd t.val) = ![128 * blk i (t.val - 1), 0] := by decide +kernel
theorem off17_eq : ∀ t : Fin k0_t1_loop.trips, 0 < t.val →
    k0_off17 (wd (t.val - 1)) = ![(t.val + 1) % 2] := by decide +kernel
theorem off18_eq : k0_off18 (wd 31) = ![1, 0, 0] := by decide +kernel
theorem off19_eq : ∀ i : grid0.Coords, k0_off19 i (wd 0) = ![128 * blk i 31, 0] := by decide +kernel
theorem off20_eq : k0_off20 (wd 31) = ![1] := by decide +kernel
theorem off21_eq : k0_off21 (wd 31) = ![1, 0, 0] := by decide +kernel

theorem chk1_ok : ∀ i : grid0.Coords, ∀ t : Fin k0_t1_loop.trips,
    k0_chk1 i t (wd (t.val + 1)) (wd t.val) (wd t.val) (wd (t.val - 1)) (wd t.val) := by
  decide +kernel
theorem chk2_ok : ∀ t : Fin k0_t1_loop.trips, k0_chk2 (wd t.val) := by decide +kernel
theorem chk3_ok : ∀ t : Fin k0_t1_loop.trips, k0_chk3 (wd t.val) := by decide +kernel
theorem chk4_ok : k0_chk4 (wd 31) := by decide +kernel
theorem chk5_ok : ∀ i : grid0.Coords, k0_chk5 i (wd 0) := by decide +kernel

end Cert.KernelIdeal
-- ==== Proof.Views.lean ====
module
public import proofs.«01_k».proof.Proof.Words
public import Idealize.ShloMosaic.Lib.SparseCore.Stream
public import Idealize.ShloMosaic.Lib.ValueLayout
public import Idealize.ShloMosaic.Lib.ViewIndex
public import Idealize.ShloMosaic.Lib.Pipeline.Kit

/-!
The pipeline's windows, named by what they are.

Two slots hold the index blocks, two slots hold the gathered rows; a gather fills one half of the
columns of a slot. Here: each window as a memory reference, the elements it covers, and what a
transfer into it leaves there.
-/

@[expose] public section

set_option maxRecDepth 20000

noncomputable section

namespace Cert.KernelIdeal

open Cert.KernelIdeal.Gen
open Idealize.ShloMosaic Idealize.ShloMosaic.ValueIdx

variable {F : FTy → Type}

/-! ## The buffers whole -/

abbrev xW : Memref sig .scVector .hbm S131072x256 .f32 := Memref.whole main_v9_scv
abbrev iW : Memref sig .scVector .hbm S1x131072 .i32 := Memref.whole main_v8_scv
abbrev oW : Memref sig .scVector .hbm S131072x256 .f32 := Memref.whole main_v10_scv
abbrev aW : Memref sig .scVector .vmem S2x1x128 .i32 := Memref.whole cc0_scoped0
abbrev bW : Memref sig .scVector .vmem S2x128x256 .f32 := Memref.whole cc0_scoped2

/-! ## The windows -/

theorem inb_a (p : Fin 2) : ∀ a, (![p.val, 0, 0] : Fin 3 → ℕ) a + S1x1x128.size a ≤ S2x1x128.size a := by
  revert p; decide
theorem inb_b (p : Fin 2) : ∀ a, (![p.val, 0, 0] : Fin 3 → ℕ) a + S1x128x256.size a ≤ S2x128x256.size a := by
  revert p; decide
theorem inb_s (p : Fin 2) : ∀ a, (![p.val] : Fin 1 → ℕ) a + S1.size a ≤ S2.size a := by
  revert p; decide
theorem inb_i (n : Fin 1024) : ∀ a, (![0, 128 * n.val] : Fin 2 → ℕ) a + S1x128.size a ≤ S1x131072.size a := by
  have := n.isLt
  intro a; match a with
  | ⟨0, _⟩ => show 0 + 1 ≤ 1; omega
  | ⟨1, _⟩ => show 128 * n.val + 128 ≤ 131072; omega
theorem inb_o (n : Fin 1024) : ∀ a, (![128 * n.val, 0] : Fin 2 → ℕ) a + S128x256.size a ≤ S131072x256.size a := by
  have := n.isLt
  intro a; match a with
  | ⟨0, _⟩ => show 128 * n.val + 128 ≤ 131072; omega
  | ⟨1, _⟩ => show 0 + 256 ≤ 256; omega

/-- Index slot `p`. -/
def aSlot (p : Fin 2) : Memref sig .scVector .vmem S1x128 .i32 :=
  (aW.slice (Rect.unit (s := S2x1x128) ![p.val, 0, 0] S1x1x128.size (inb_a p)) (fun _ => rfl)).squeeze S1x128 squeezes_S1x1x128_S1x128
/-- Row slot `p`. -/
def bSlot (p : Fin 2) : Memref sig .scVector .vmem S128x256 .f32 :=
  (bW.slice (Rect.unit (s := S2x128x256) ![p.val, 0, 0] S1x128x256.size (inb_b p)) (fun _ => rfl)).squeeze S128x256 squeezes_S1x128x256_S128x256
/-- Block `n` of the row numbers. -/
def iBlk (n : Fin 1024) : Memref sig .scVector .hbm S1x128 .i32 :=
  iW.slice (Rect.unit (s := S1x131072) ![0, 128 * n.val] S1x128.size (inb_i n)) (fun _ => rfl)
/-- Block `n` of the result. -/
def oBlk (n : Fin 1024) : Memref sig .scVector .hbm S128x256 .f32 :=
  oW.slice (Rect.unit (s := S131072x256) ![128 * n.val, 0] S128x256.size (inb_o n)) (fun _ => rfl)
/-- Index slot `p` as the list a gather reads. -/
def aList (p : Fin 2) : Memref sig .scVector .vmem S128 .i32 :=
  ((aSlot p).slice (Rect.unit (s := S1x128) ![0, 0] S1x128.size inb_S1x128_S1x128_0_0) (fun _ => rfl)).squeeze S128 squeezes_S1x128_S128
/-- The left half of row slot `p`. -/
def bLeft (p : Fin 2) : Memref sig .scVector .vmem S128x128 .f32 :=
  (bSlot p).slice (Rect.unit (s := S128x256) ![0, 0] S128x128.size inb_S128x256_S128x128_0_0) (fun _ => rfl)
/-- The right half of row slot `p`. -/
def bRight (p : Fin 2) : Memref sig .scVector .vmem S128x128 .f32 :=
  (bSlot p).slice (Rect.unit (s := S128x256) ![0, 128] S128x128.size inb_S128x256_S128x128_0_128) (fun _ => rfl)
/-- The left half of the rows gathered from. -/
def xLeft : Memref sig .scVector .hbm S131072x128 .f32 :=
  xW.slice (Rect.unit (s := S131072x256) ![0, 0] S131072x128.size inb_S131072x256_S131072x128_0_0) (fun _ => rfl)
/-- The right half of the rows gathered from. -/
def xRight : Memref sig .scVector .hbm S131072x128 .f32 :=
  xW.slice (Rect.unit (s := S131072x256) ![0, 128] S131072x128.size inb_S131072x256_S131072x128_0_128) (fun _ => rfl)
/-- The semaphore of index slot `p`. -/
def aSem (p : Fin 2) : DmaSem sig :=
  ((cc0_scoped1.slice (Rect.unit (s := S2) ![p.val] S1.size (inb_s p))).squeeze S_ squeezes_S1_S_).sem
/-- The semaphore of row slot `p`. -/
def bSem (p : Fin 2) : DmaSem sig :=
  ((cc0_scoped3.slice (Rect.unit (s := S2) ![p.val] S1.size (inb_s p))).squeeze S_ squeezes_S1_S_).sem

/-! ## The program's windows are these -/

theorem aSlot_of {off : Fin 3 → ℕ} {inb} (p : Fin 2) (h : off = ![p.val, 0, 0]) :
    (aW.slice (Rect.unit (s := S2x1x128) off S1x1x128.size inb) (fun _ => rfl)).squeeze S1x128 squeezes_S1x1x128_S1x128 = aSlot p := by
  subst h; rfl
theorem bSlot_of {off : Fin 3 → ℕ} {inb} (p : Fin 2) (h : off = ![p.val, 0, 0]) :
    (bW.slice (Rect.unit (s := S2x128x256) off S1x128x256.size inb) (fun _ => rfl)).squeeze S128x256 squeezes_S1x128x256_S128x256 = bSlot p := by
  subst h; rfl
theorem iBlk_of {off : Fin 2 → ℕ} {inb} (n : Fin 1024) (h : off = ![0, 128 * n.val]) :
    iW.slice (Rect.unit (s := S1x131072) off S1x128.size inb) (fun _ => rfl) = iBlk n := by
  subst h; rfl
theorem oBlk_of {off : Fin 2 → ℕ} {inb} (n : Fin 1024) (h : off = ![128 * n.val, 0]) :
    oW.slice (Rect.unit (s := S131072x256) off S128x256.size inb) (fun _ => rfl) = oBlk n := by
  subst h; rfl
theorem aSem_of {off : Fin 1 → ℕ} {inb} (p : Fin 2) (h : off = ![p.val]) :
    ((cc0_scoped1.slice (Rect.unit (s := S2) off S1.size inb)).squeeze S_ squeezes_S1_S_).sem = aSem p := by
  subst h; rfl
theorem bSem_of {off : Fin 1 → ℕ} {inb} (p : Fin 2) (h : off = ![p.val]) :
    ((cc0_scoped3.slice (Rect.unit (s := S2) off S1.size inb)).squeeze S_ squeezes_S1_S_).sem = bSem p := by
  subst h; rfl

/-! ## The element under an index of a window -/

/-- Two indices of rank two are equal where their coordinates are. -/
theorem idx2_ext {d : Fin 2 → ℕ} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1

/-- A unit rectangle's element: its offset and the index. -/
theorem rect_val {s : Shape} (off size : Fin s.rank → ℕ) (inb : ∀ a, off a + size a ≤ s.size a)
    (j : (Rect.unit off size inb).shape.Idx) (a : Fin s.rank) : ((Rect.unit off size inb).emb j a).val = off a + (j a).val := by
  simp

theorem sq_a (h : S1x128.numel = S1x1x128.numel) (y : S1x128.Idx) :
    Shape.reshapeEquiv h y = (ix3 (0 : Fin 1) (y 0) (y 1) : S1x1x128.Idx) :=
  Shape.reshapeEquiv_eq_of_rowMajor _ (by
    refine (Shape.rowMajor_val_three (d := ![1, 1, 128]) _).trans (Eq.trans ?_ (Shape.rowMajor_val_two (d := ![1, 128]) y).symm)
    show (0 * 1 + (y 0).val) * 128 + (y 1).val = (y 0).val * 128 + (y 1).val
    omega)

theorem sq_b (h : S128x256.numel = S1x128x256.numel) (y : S128x256.Idx) :
    Shape.reshapeEquiv h y = (ix3 (0 : Fin 1) (y 0) (y 1) : S1x128x256.Idx) :=
  Shape.reshapeEquiv_eq_of_rowMajor _ (by
    refine (Shape.rowMajor_val_three (d := ![1, 128, 256]) _).trans (Eq.trans ?_ (Shape.rowMajor_val_two (d := ![128, 256]) y).symm)
    show (0 * 128 + (y 0).val) * 256 + (y 1).val = (y 0).val * 256 + (y 1).val
    omega)

theorem sq_l (h : S128.numel = S1x128.numel) (y : S128.Idx) :
    Shape.reshapeEquiv h y = (ix2 (0 : Fin 1) (y 0) : S1x128.Idx) :=
  Shape.reshapeEquiv_eq_of_rowMajor _ (by
    refine (Shape.rowMajor_val_two (d := ![1, 128]) _).trans (Eq.trans ?_ (Shape.rowMajor_val_one (d := ![128]) y).symm)
    show 0 * 128 + (y 0).val = (y 0).val
    omega)

theorem emb_aSlot (p : Fin 2) (y : S1x128.Idx) : (aSlot p).view.emb y = ix3 p (0 : Fin 1) (y 1) := by
  show (Rect.unit (s := S2x1x128) ![p.val, 0, 0] S1x1x128.size (inb_a p)).emb (Shape.reshapeEquiv _ y) = _
  have h0 : (y 0).val < 1 := (y 0).isLt
  rw [sq_a]
  refine Shape.idx3_ext ?_ ?_ ?_
  · rw [rect_val]; rfl
  · rw [rect_val]; show 0 + (y 0).val = 0; omega
  · rw [rect_val]; show 0 + (y 1).val = (y 1).val; omega

theorem emb_bSlot (p : Fin 2) (y : S128x256.Idx) : (bSlot p).view.emb y = ix3 p (y 0) (y 1) := by
  show (Rect.unit (s := S2x128x256) ![p.val, 0, 0] S1x128x256.size (inb_b p)).emb (Shape.reshapeEquiv _ y) = _
  rw [sq_b]
  refine Shape.idx3_ext ?_ ?_ ?_
  · rw [rect_val]; rfl
  · rw [rect_val]; show 0 + (y 0).val = (y 0).val; omega
  · rw [rect_val]; show 0 + (y 1).val = (y 1).val; omega

theorem emb_bLeft (p : Fin 2) (y : S128x128.Idx) :
    (bLeft p).view.emb y = ix3 p (y 0) (⟨(y 1).val, by have := idx2_lt1 y; omega⟩ : Fin 256) := by
  show (bSlot p).view.emb ((Rect.unit (s := S128x256) ![0, 0] S128x128.size inb_S128x256_S128x128_0_0).emb y) = _
  rw [emb_bSlot]
  refine Shape.idx3_ext rfl ?_ ?_
  · show ((Rect.unit (s := S128x256) ![0, 0] S128x128.size inb_S128x256_S128x128_0_0).emb y 0).val = (y 0).val
    rw [rect_val]; show 0 + (y 0).val = (y 0).val; omega
  · show ((Rect.unit (s := S128x256) ![0, 0] S128x128.size inb_S128x256_S128x128_0_0).emb y 1).val = (y 1).val
    rw [rect_val]; show 0 + (y 1).val = (y 1).val; omega

theorem emb_bRight (p : Fin 2) (y : S128x128.Idx) :
    (bRight p).view.emb y = ix3 p (y 0) (⟨128 + (y 1).val, by have := idx2_lt1 y; omega⟩ : Fin 256) := by
  show (bSlot p).view.emb ((Rect.unit (s := S128x256) ![0, 128] S128x128.size inb_S128x256_S128x128_0_128).emb y) = _
  rw [emb_bSlot]
  refine Shape.idx3_ext rfl ?_ ?_
  · show ((Rect.unit (s := S128x256) ![0, 128] S128x128.size inb_S128x256_S128x128_0_128).emb y 0).val = (y 0).val
    rw [rect_val]; show 0 + (y 0).val = (y 0).val; omega
  · show ((Rect.unit (s := S128x256) ![0, 128] S128x128.size inb_S128x256_S128x128_0_128).emb y 1).val = 128 + (y 1).val
    rw [rect_val]; rfl

theorem emb_iBlk (n : Fin 1024) (y : S1x128.Idx) :
    (iBlk n).view.emb y = ix2 (0 : Fin 1) (⟨128 * n.val + (y 1).val, by have := idx2_lt1 y; omega⟩ : Fin 131072) := by
  show (Rect.unit (s := S1x131072) ![0, 128 * n.val] S1x128.size (inb_i n)).emb y = _
  have h0 : (y 0).val < 1 := (y 0).isLt
  refine idx2_ext ?_ ?_
  · rw [rect_val]; show 0 + (y 0).val = 0; omega
  · rw [rect_val]; rfl

theorem emb_oBlk (n : Fin 1024) (y : S128x256.Idx) :
    (oBlk n).view.emb y = ix2 (⟨128 * n.val + (y 0).val, by have := idx2_lt0 y; omega⟩ : Fin 131072) (y 1) := by
  show (Rect.unit (s := S131072x256) ![128 * n.val, 0] S128x256.size (inb_o n)).emb y = _
  refine idx2_ext ?_ ?_
  · rw [rect_val]; rfl
  · rw [rect_val]; show 0 + (y 1).val = (y 1).val; omega

theorem emb_aList (p : Fin 2) (y : S128.Idx) : (aList p).view.emb y = ix3 p (0 : Fin 1) (y 0) := by
  show (aSlot p).view.emb ((Rect.unit (s := S1x128) ![0, 0] S1x128.size inb_S1x128_S1x128_0_0).emb (Shape.reshapeEquiv squeezes_S1x128_S128.numel_eq y)) = _
  rw [sq_l, emb_aSlot]
  refine Shape.idx3_ext rfl rfl ?_
  show ((Rect.unit (s := S1x128) ![0, 0] S1x128.size inb_S1x128_S1x128_0_0).emb (ix2 (0 : Fin 1) (y 0)) 1).val = (y 0).val
  rw [rect_val]; show 0 + (y 0).val = (y 0).val; omega

theorem emb_xLeft (y : S131072x128.Idx) :
    xLeft.view.emb y = ix2 (y 0) (⟨(y 1).val, by have := idx2_lt1 y; omega⟩ : Fin 256) := by
  show (Rect.unit (s := S131072x256) ![0, 0] S131072x128.size inb_S131072x256_S131072x128_0_0).emb y = _
  refine idx2_ext ?_ ?_
  · rw [rect_val]; show 0 + (y 0).val = (y 0).val; omega
  · rw [rect_val]; show 0 + (y 1).val = (y 1).val; omega

theorem emb_xRight (y : S131072x128.Idx) :
    xRight.view.emb y = ix2 (y 0) (⟨128 + (y 1).val, by have := idx2_lt1 y; omega⟩ : Fin 256) := by
  show (Rect.unit (s := S131072x256) ![0, 128] S131072x128.size inb_S131072x256_S131072x128_0_128).emb y = _
  refine idx2_ext ?_ ?_
  · rw [rect_val]; show 0 + (y 0).val = (y 0).val; omega
  · rw [rect_val]; rfl

/-! ## The elements a window covers -/

abbrev aSet (p : Fin 2) : Finset S2x1x128.Idx := Finset.univ.filter fun x => (x 0).val = p.val
abbrev bSet (p : Fin 2) : Finset S2x128x256.Idx := Finset.univ.filter fun x => (x 0).val = p.val
abbrev bSetL (p : Fin 2) : Finset S2x128x256.Idx := Finset.univ.filter fun x => (x 0).val = p.val ∧ (x 2).val < 128
abbrev bSetR (p : Fin 2) : Finset S2x128x256.Idx := Finset.univ.filter fun x => (x 0).val = p.val ∧ ¬ (x 2).val < 128
abbrev iSet (n : ℕ) : Finset S1x131072.Idx := Finset.univ.filter fun x => (x 1).val / 128 = n
abbrev oSet (n : ℕ) : Finset S131072x256.Idx := Finset.univ.filter fun x => (x 0).val / 128 = n

/-- A view covers the elements at its indices' places. -/
theorem mem_set_iff {κ : Kind} {sp : Space} {s : Shape} {e : EltTy} (v : View sig κ sp s e) (x : v.ty.Idx) :
    x ∈ v.set ↔ ∃ y, v.emb y = x := by
  unfold View.set; simp

theorem set_aSlot (p : Fin 2) : (aSlot p).view.set = aSet p := by
  refine Finset.ext fun (x : S2x1x128.Idx) => ?_
  refine (mem_set_iff (aSlot p).view x).trans (Iff.trans ⟨?_, ?_⟩ Finset.mem_filter.symm)
  · rintro ⟨y, rfl⟩; rw [emb_aSlot]; exact ⟨Finset.mem_univ _, rfl⟩
  · rintro ⟨-, h⟩
    refine ⟨ix2 (0 : Fin 1) (x 2), ?_⟩
    rw [emb_aSlot]
    have h1 : (x 1).val < 1 := (x 1).isLt
    exact Shape.idx3_ext h.symm (show 0 = (x 1).val by omega) rfl

theorem set_aList (p : Fin 2) : (aList p).view.set = aSet p := by
  refine Finset.ext fun (x : S2x1x128.Idx) => ?_
  refine (mem_set_iff (aList p).view x).trans (Iff.trans ⟨?_, ?_⟩ Finset.mem_filter.symm)
  · rintro ⟨y, rfl⟩; rw [emb_aList]; exact ⟨Finset.mem_univ _, rfl⟩
  · rintro ⟨-, h⟩
    refine ⟨ix1 (x 2), ?_⟩
    rw [emb_aList]
    have h1 : (x 1).val < 1 := (x 1).isLt
    exact Shape.idx3_ext h.symm (show 0 = (x 1).val by omega) rfl

theorem set_bSlot (p : Fin 2) : (bSlot p).view.set = bSet p := by
  refine Finset.ext fun (x : S2x128x256.Idx) => ?_
  refine (mem_set_iff (bSlot p).view x).trans (Iff.trans ⟨?_, ?_⟩ Finset.mem_filter.symm)
  · rintro ⟨y, rfl⟩; rw [emb_bSlot]; exact ⟨Finset.mem_univ _, rfl⟩
  · rintro ⟨-, h⟩
    refine ⟨ix2 (x 1) (x 2), ?_⟩
    rw [emb_bSlot]
    exact Shape.idx3_ext h.symm rfl rfl

theorem set_bLeft (p : Fin 2) : (bLeft p).view.set = bSetL p := by
  refine Finset.ext fun (x : S2x128x256.Idx) => ?_
  refine (mem_set_iff (bLeft p).view x).trans (Iff.trans ⟨?_, ?_⟩ Finset.mem_filter.symm)
  · rintro ⟨y, rfl⟩; rw [emb_bLeft]; exact ⟨Finset.mem_univ _, rfl, idx2_lt1 y⟩
  · rintro ⟨-, h, h2⟩
    refine ⟨ix2 (x 1) (⟨(x 2).val, h2⟩ : Fin 128), ?_⟩
    rw [emb_bLeft]
    exact Shape.idx3_ext h.symm rfl rfl

theorem set_bRight (p : Fin 2) : (bRight p).view.set = bSetR p := by
  refine Finset.ext fun (x : S2x128x256.Idx) => ?_
  refine (mem_set_iff (bRight p).view x).trans (Iff.trans ⟨?_, ?_⟩ Finset.mem_filter.symm)
  · rintro ⟨y, rfl⟩; rw [emb_bRight]
    exact ⟨Finset.mem_univ _, rfl, show ¬ 128 + (y 1).val < 128 by omega⟩
  · rintro ⟨-, h, h2⟩
    have h3 : (x 2).val < 256 := (x 2).isLt
    refine ⟨ix2 (x 1) (⟨(x 2).val - 128, by omega⟩ : Fin 128), ?_⟩
    rw [emb_bRight]
    exact Shape.idx3_ext h.symm rfl (show 128 + ((x 2).val - 128) = (x 2).val by omega)

theorem set_iBlk (n : Fin 1024) : (iBlk n).view.set = iSet n.val := by
  refine Finset.ext fun (x : S1x131072.Idx) => ?_
  refine (mem_set_iff (iBlk n).view x).trans (Iff.trans ⟨?_, ?_⟩ Finset.mem_filter.symm)
  · rintro ⟨y, rfl⟩; rw [emb_iBlk]
    have := idx2_lt1 y
    exact ⟨Finset.mem_univ _, show (128 * n.val + (y 1).val) / 128 = n.val by omega⟩
  · rintro ⟨-, h⟩
    have h0 : (x 0).val < 1 := (x 0).isLt
    refine ⟨ix2 (0 : Fin 1) (⟨(x 1).val % 128, Nat.mod_lt _ (by omega)⟩ : Fin 128), ?_⟩
    rw [emb_iBlk]
    exact idx2_ext (show 0 = (x 0).val by omega) (show 128 * n.val + (x 1).val % 128 = (x 1).val by omega)

theorem set_oBlk (n : Fin 1024) : (oBlk n).view.set = oSet n.val := by
  refine Finset.ext fun (x : S131072x256.Idx) => ?_
  refine (mem_set_iff (oBlk n).view x).trans (Iff.trans ⟨?_, ?_⟩ Finset.mem_filter.symm)
  · rintro ⟨y, rfl⟩; rw [emb_oBlk]
    have := idx2_lt0 y
    exact ⟨Finset.mem_univ _, show (128 * n.val + (y 0).val) / 128 = n.val by omega⟩
  · rintro ⟨-, h⟩
    refine ⟨ix2 (⟨(x 0).val % 128, Nat.mod_lt _ (by omega)⟩ : Fin 128) (x 1), ?_⟩
    rw [emb_oBlk]
    exact idx2_ext (show 128 * n.val + (x 0).val % 128 = (x 0).val by omega) rfl

/-! ## What a transfer leaves -/

/-- The row a word names. -/
def rowOf (w : Elt F .i32) : Fin 131072 := ⟨(show BitVec 32 from w).toNat % 131072, Nat.mod_lt _ (by omega)⟩

/-- The gathered rows: row `r` of the result is the row of `X` that `I`'s entry `r` names. -/
def G (X : S131072x256.Idx → Elt F .f32) (I : S1x131072.Idx → Elt F .i32) : S131072x256.Idx → Elt F .f32 :=
  fun o => X (ix2 (rowOf (F := F) (I (ix2 (0 : Fin 1) (o 0)))) (o 1))

/-- Place `k` of block `n`, among the rows. -/
def place (n k : ℕ) : Fin 131072 := ⟨(128 * n + k) % 131072, Nat.mod_lt _ (by omega)⟩

/-- An index slot holding block `n` of `I`. -/
def GA (I : S1x131072.Idx → Elt F .i32) (n : ℕ) : S2x1x128.Idx → Elt F .i32 :=
  fun x => I (ix2 (0 : Fin 1) (place n (x 2).val))

/-- A row slot holding block `n` of the gathered rows. -/
def GB (X : S131072x256.Idx → Elt F .f32) (I : S1x131072.Idx → Elt F .i32) (n : ℕ) : S2x128x256.Idx → Elt F .f32 :=
  fun x => G X I (ix2 (place n (x 1).val) (x 2))

theorem place_eq (n : Fin 1024) {k : ℕ} (hk : k < 128) : place n.val k = ⟨128 * n.val + k, by omega⟩ :=
  Fin.ext (Nat.mod_eq_of_lt (by omega))

/-- A write of the whole window leaves `g` there, where the payload is `g`'s reading. -/
theorem write_eq_on {κ : Kind} {sp : Space} {s : Shape} {e : EltTy} {Val : EltTy → Type} (v : View sig κ sp s e)
    (f g : v.ty.Contents Val) (w : s.Idx → Val e) (h : ∀ y, w y = v.read Val g y) :
    ∀ x ∈ v.set, v.write Val f w Finset.univ x = g x := by
  intro x hx
  obtain ⟨y, rfl⟩ := (mem_set_iff v x).mp hx
  refine View.eq_of_read_eq ?_
  rw [View.read_write_univ, h]

theorem aWrite (p : Fin 2) (n : Fin 1024) (I : S1x131072.Idx → Elt F .i32) (fd : S2x1x128.Idx → Elt F .i32) :
    ∀ x ∈ aSet p, (aSlot p).view.write (Elt F) fd ((iBlk n).view.read (Elt F) I) Finset.univ x = GA I n.val x := by
  rw [← set_aSlot]
  refine write_eq_on (aSlot p).view fd (GA I n.val) _ fun y => ?_
  show I ((iBlk n).view.emb y) = GA I n.val ((aSlot p).view.emb y)
  rw [emb_iBlk, emb_aSlot]
  show _ = I (ix2 (0 : Fin 1) (place n.val (y 1).val))
  rw [place_eq n (idx2_lt1 y)]

theorem aList_read (p : Fin 2) (n : Fin 1024) (I : S1x131072.Idx → Elt F .i32) (y : S128.Idx) :
    (aList p).view.read (Elt F) (GA I n.val) y = I (ix2 (0 : Fin 1) (place n.val (y 0).val)) := by
  show GA I n.val ((aList p).view.emb y) = _
  rw [emb_aList]; rfl

theorem aList_inb (p : Fin 2) (n : Fin 1024) (I : S1x131072.Idx → Elt F .i32)
    (hI : ∀ x, (show BitVec 32 from I x).toNat < 131072) :
    ∀ x, (show BitVec 32 from (aList p).view.read (Elt F) (GA I n.val) x).toNat < S131072x128.size gathers_S131072x128_S128x128.axis := by
  intro x; rw [aList_read]; exact hI _

/-- The word the list holds for row `k` of a block. -/
theorem rows_val (p : Fin 2) (n : Fin 1024) (I : S1x131072.Idx → Elt F .i32)
    (hI : ∀ x, (show BitVec 32 from I x).toNat < 131072) (k : Fin 128) :
    (SparseCore.rows (F := F) ((aList p).view.read (Elt F) (GA I n.val)) (o := 128) rfl (aList_inb p n I hI) k).val
      = (rowOf (F := F) (I (ix2 (0 : Fin 1) (place n.val k.val)))).val := by
  unfold SparseCore.rows
  show (show BitVec 32 from (aList p).view.read (Elt F) (GA I n.val) _).toNat = _
  rw [aList_read]
  have e : ((S128.rowMajor.symm (k.cast rfl)) 0).val = k.val := by
    rw [← Shape.rowMajor_val_one (S128.rowMajor.symm (k.cast rfl)), Equiv.apply_symm_apply]; rfl
  exact (congrArg (fun j : ℕ => (show BitVec 32 from I (ix2 (0 : Fin 1) (place n.val j))).toNat) e).trans
    (Nat.mod_eq_of_lt (hI _)).symm

theorem bLeftWrite (p : Fin 2) (n : Fin 1024) (X : S131072x256.Idx → Elt F .f32) (I : S1x131072.Idx → Elt F .i32)
    (hI : ∀ x, (show BitVec 32 from I x).toNat < 131072) (fd : S2x128x256.Idx → Elt F .f32) :
    ∀ x ∈ bSetL p, (bLeft p).view.write (Elt F) fd
      (SparseCore.gatherPayload gathers_S131072x128_S128x128 (xLeft.view.read (Elt F) X)
        (SparseCore.rows (F := F) ((aList p).view.read (Elt F) (GA I n.val)) rfl (aList_inb p n I hI))) Finset.univ x = GB X I n.val x := by
  rw [← set_bLeft]
  refine write_eq_on (bLeft p).view fd (GB X I n.val) _ fun y => ?_
  show X (xLeft.view.emb (gathers_S131072x128_S128x128.idx
    (SparseCore.rows (F := F) ((aList p).view.read (Elt F) (GA I n.val)) rfl (aList_inb p n I hI)) y)) = GB X I n.val ((bLeft p).view.emb y)
  rw [emb_xLeft, emb_bLeft]
  show _ = X (ix2 (rowOf (F := F) (I (ix2 (0 : Fin 1) (place n.val (y 0).val)))) _)
  congr 1
  refine idx2_ext ?_ ?_
  · rw [← rows_val p n I hI (y 0)]
    exact congrArg Fin.val (Shape.Gathers.idx_axis gathers_S131072x128_S128x128 _ y)
  · exact Shape.Gathers.idx_of_ne gathers_S131072x128_S128x128
      (SparseCore.rows (F := F) ((aList p).view.read (Elt F) (GA I n.val)) rfl (aList_inb p n I hI)) y 1 (by decide)

theorem bRightWrite (p : Fin 2) (n : Fin 1024) (X : S131072x256.Idx → Elt F .f32) (I : S1x131072.Idx → Elt F .i32)
    (hI : ∀ x, (show BitVec 32 from I x).toNat < 131072) (fd : S2x128x256.Idx → Elt F .f32) :
    ∀ x ∈ bSetR p, (bRight p).view.write (Elt F) fd
      (SparseCore.gatherPayload gathers_S131072x128_S128x128 (xRight.view.read (Elt F) X)
        (SparseCore.rows (F := F) ((aList p).view.read (Elt F) (GA I n.val)) rfl (aList_inb p n I hI))) Finset.univ x = GB X I n.val x := by
  rw [← set_bRight]
  refine write_eq_on (bRight p).view fd (GB X I n.val) _ fun y => ?_
  show X (xRight.view.emb (gathers_S131072x128_S128x128.idx
    (SparseCore.rows (F := F) ((aList p).view.read (Elt F) (GA I n.val)) rfl (aList_inb p n I hI)) y)) = GB X I n.val ((bRight p).view.emb y)
  rw [emb_xRight, emb_bRight]
  show _ = X (ix2 (rowOf (F := F) (I (ix2 (0 : Fin 1) (place n.val (y 0).val)))) _)
  congr 1
  refine idx2_ext ?_ ?_
  · rw [← rows_val p n I hI (y 0)]
    exact congrArg Fin.val (Shape.Gathers.idx_axis gathers_S131072x128_S128x128 _ y)
  · exact congrArg (128 + ·) (Shape.Gathers.idx_of_ne gathers_S131072x128_S128x128
      (SparseCore.rows (F := F) ((aList p).view.read (Elt F) (GA I n.val)) rfl (aList_inb p n I hI)) y 1 (by decide))

theorem oWrite (p : Fin 2) (n : Fin 1024) (X : S131072x256.Idx → Elt F .f32) (I : S1x131072.Idx → Elt F .i32)
    (fd : S131072x256.Idx → Elt F .f32) :
    ∀ x ∈ oSet n.val, (oBlk n).view.write (Elt F) fd ((bSlot p).view.read (Elt F) (GB X I n.val)) Finset.univ x = G X I x := by
  rw [← set_oBlk]
  refine write_eq_on (oBlk n).view fd (G X I) _ fun y => ?_
  show GB X I n.val ((bSlot p).view.emb y) = G X I ((oBlk n).view.emb y)
  rw [emb_bSlot, emb_oBlk]
  show G X I (ix2 (place n.val (y 0).val) (y 1)) = _
  rw [place_eq n (idx2_lt0 y)]
  rfl

end Cert.KernelIdeal
-- ==== Proof.Steps.lean ====
module
public import proofs.«01_k».proof.Proof.Views
public import Idealize.ShloMosaic.Lib.SparseCore.Quiescent
public import Idealize.ShloMosaic.Lib.SparseCore.Ops
public import Idealize.ShloMosaic.Lib.Tactic

/-!
One tile's transfers, each as a rule over the windows of `Views`.

A fetch of an index block and its wait, the two gathers with their waits, the write-out of a block
and its wait.
-/

@[expose] public section

set_option maxRecDepth 20000

noncomputable section

namespace Cert.KernelIdeal

open Cert.KernelIdeal.Gen
open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The ghost state: the handshakes' rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none

abbrev cV (i : grid0.Coords) : Fin τ.nSC := (i 0).castLE hcore0
abbrev jV (i : grid0.Coords) : Fin τ.nSub := (i 1).castLE hsub0
/-- The thread of tile `i`. -/
abbrev tile (d : Dev nD) (i : grid0.Coords) : Thread nD τ := V d (cV i) (jV i)

abbrev xLoc (d : Dev nD) : Loc nD τ sig := (SparseCore.T d).loc main_v9
abbrev iLoc (d : Dev nD) : Loc nD τ sig := (SparseCore.T d).loc main_v8
abbrev oLoc (d : Dev nD) : Loc nD τ sig := (SparseCore.T d).loc main_v10
abbrev aLoc (d : Dev nD) (i : grid0.Coords) : Loc nD τ sig := (tile d i).loc cc0_scoped0
abbrev bLoc (d : Dev nD) (i : grid0.Coords) : Loc nD τ sig := (tile d i).loc cc0_scoped2

section

variable (d : Dev nD) (i : grid0.Coords)

/-! ## A window's points-to, at its buffer -/

theorem pts_aSlot (p : Fin 2) (q : PosShare TreeShare) (f : S2x1x128.Idx → Elt F .i32) :
    ((aSlot p).view.loc (tile d i) ↦[(aSlot p).view.set]{q} f : sProp 𝕄) = aLoc d i ↦[aSet p]{q} f := by
  rw [set_aSlot]; rfl
theorem pts_aList (p : Fin 2) (q : PosShare TreeShare) (f : S2x1x128.Idx → Elt F .i32) :
    ((aList p).view.loc (tile d i) ↦[(aList p).view.set]{q} f : sProp 𝕄) = aLoc d i ↦[aSet p]{q} f := by
  rw [set_aList]; rfl
theorem pts_bSlot (p : Fin 2) (q : PosShare TreeShare) (f : S2x128x256.Idx → Elt F .f32) :
    ((bSlot p).view.loc (tile d i) ↦[(bSlot p).view.set]{q} f : sProp 𝕄) = bLoc d i ↦[bSet p]{q} f := by
  rw [set_bSlot]; rfl
theorem pts_bLeft (p : Fin 2) (q : PosShare TreeShare) (f : S2x128x256.Idx → Elt F .f32) :
    ((bLeft p).view.loc (tile d i) ↦[(bLeft p).view.set]{q} f : sProp 𝕄) = bLoc d i ↦[bSetL p]{q} f := by
  rw [set_bLeft]; rfl
theorem pts_bRight (p : Fin 2) (q : PosShare TreeShare) (f : S2x128x256.Idx → Elt F .f32) :
    ((bRight p).view.loc (tile d i) ↦[(bRight p).view.set]{q} f : sProp 𝕄) = bLoc d i ↦[bSetR p]{q} f := by
  rw [set_bRight]; rfl
theorem pts_iBlk (n : Fin 1024) (q : PosShare TreeShare) (f : S1x131072.Idx → Elt F .i32) :
    ((iBlk n).view.loc (tile d i) ↦[(iBlk n).view.set]{q} f : sProp 𝕄) = iLoc d ↦[iSet n.val]{q} f := by
  rw [set_iBlk]; rfl
theorem pts_oBlk (n : Fin 1024) (q : PosShare TreeShare) (f : S131072x256.Idx → Elt F .f32) :
    ((oBlk n).view.loc (tile d i) ↦[(oBlk n).view.set]{q} f : sProp 𝕄) = oLoc d ↦[oSet n.val]{q} f := by
  rw [set_oBlk]; rfl

/-- A row slot is its two halves. -/
theorem bSet_split (p : Fin 2) (f : S2x128x256.Idx → Elt F .f32) :
    (bLoc d i ↦[bSet p]{fullShare} f : sProp 𝕄) ⊣⊢ iprop((bLoc d i ↦[bSetL p]{fullShare} f) ∗ bLoc d i ↦[bSetR p]{fullShare} f) := by
  have hd : Disjoint (bSetL p) (bSetR p) := by
    rw [Finset.disjoint_left]; intro x hx hy
    exact (Finset.mem_filter.mp hy).2.2 (Finset.mem_filter.mp hx).2.2
  have hu : bSet p = bSetL p ∪ bSetR p := by
    ext x; simp only [Finset.mem_union, Finset.mem_filter, Finset.mem_univ, true_and]; tauto
  rw [hu]
  exact pointsTo_union (ℓ := bLoc d i) hd

/-! ## What a transfer in flight delivers -/

variable (X : S131072x256.Idx → Elt F .f32) (I : S1x131072.Idx → Elt F .i32)

/-- Index block `n` on its way into index slot `p`. -/
def FA (n : Fin 1024) (p : Fin 2) (q : PosShare TreeShare) : sProp 𝕄 :=
  Transfers.Flight countersEmb (tile d i) (.dma (aSem p)) (none : HIx 1) (aSlot p).view.dmaCredit
    iprop((aLoc d i ↦[aSet p]{fullShare} GA I n.val) ∗ iLoc d ↦[iSet n.val]{q} I)

/-- Row slot `p` on its way out to block `n` of the result. -/
def FB (n : Fin 1024) (p : Fin 2) : sProp 𝕄 :=
  Transfers.Flight countersEmb (tile d i) (.dma (bSem p)) (none : HIx 1) (oBlk n).view.dmaCredit
    iprop((oLoc d ↦[oSet n.val]{fullShare} G X I) ∗ bLoc d i ↦[bSet p]{fullShare} GB X I n.val)

/-- The waits so far, each before the tile's or of no handshake. -/
def Owe (O : CellTallies nD τ sig (HIx 1)) (W : Waits sig (HIx 1)) : sProp 𝕄 :=
  iprop(∃ W', ⌜∀ p ∈ W', p ∈ W ∨ p.2 = none⌝ ∗ owes (tile d i) O W')

theorem iPts_split (n : Fin 1024) (q : PosShare TreeShare) :
    (iLoc d ↦{q} I : sProp 𝕄) ⊣⊢ iprop((iLoc d ↦[iSet n.val]{q} I) ∗ iLoc d ↦[Finset.univ \ iSet n.val]{q} I) :=
  pointsTo_split_subset (ℓ := iLoc d) (Finset.subset_univ _)

/-- The fetch of an index block. -/
theorem fetch_step (n : Fin 1024) (p : Fin 2) (q : PosShare TreeShare) (Q : PUnit → sProp 𝕄)
    (hs : (iBlk n).view.WordExact) (hd : (aSlot p).view.WordExact)
    (ht : DmaTarget.Typed (nD := nD) (p := (tile d i).2) .hbm (.dma (aSem p)) (.here (aSlot p))) :
    iprop((∃ f, aLoc d i ↦[aSet p]{fullShare} f) ∗ semVal (tile d i, .dma (aSem p)) 0 ∗ (iLoc d ↦{q} I)
        ∗ ((FA d i I n p q ∗ iLoc d ↦[Finset.univ \ iSet n.val]{q} I) -∗ Q ⟨⟩))
      ⊢ wp frame (wpE (defs₀ (F := F)) 𝒱₀ (tile d i) none) Set.univ
          (Prog.lift (.enqueueDma (iBlk n) (.here (aSlot p)) (.dma (aSem p)) hs hd ht)) Q := by
  iintro ⟨⟨%f, Ha⟩, Hs, Hi, HQ⟩
  ihave Hi := (iPts_split d I n q).1 $$ Hi
  icases Hi with ⟨Hi, Hr⟩
  ihave Hi := (Entails.of_eq (pts_iBlk d i n q I).symm) $$ Hi
  ihave Ha := (Entails.of_eq (pts_aSlot d i p fullShare f).symm) $$ Ha
  iapply (Transfers.wp_dmaLocal countersEmb 𝒱₀ (tile d i) none (none : HIx 1) (aSlot p).view.dmaCredit rfl
    (View.dmaCredit_pos _ (by decide)) (Finset.Subset.refl _) (k := Prog.ret) (via := .same)) $$ [Hi Ha Hs]
  · isplitl [Hi]; · iexact Hi
    isplitl [Ha]; · iexact Ha
    iexact Hs
  iintro Hfl
  rw [wp_ret]
  imodintro
  iapply HQ
  isplitl [Hfl]
  · unfold FA
    iapply (Transfers.Flight_mono countersEmb (tile d i) ?_) $$ Hfl
    refine sep_mono (Entails.of_eq ?_) (Entails.of_eq (pts_iBlk d i n q I))
    refine (pts_aSlot d i p fullShare _).trans ?_
    exact pointsTo_congr (aWrite p n I f)
  · iexact Hr

/-- The wait for it. -/
theorem fetch_wait (n : Fin 1024) (p : Fin 2) (q : PosShare TreeShare) (O : CellTallies nD τ sig (HIx 1)) (W : Waits sig (HIx 1))
    (Q : PUnit → sProp 𝕄) (hs : (iBlk n).view.WordExact) (hd : (aSlot p).view.WordExact) :
    iprop(Transfers.MayWaits (tile d i) (none : HIx 1) O ∗ FA d i I n p q ∗ (iLoc d ↦[Finset.univ \ iSet n.val]{q} I) ∗ Owe d i O W
        ∗ (((aLoc d i ↦[aSet p]{fullShare} GA I n.val) ∗ semVal (tile d i, .dma (aSem p)) 0 ∗ (iLoc d ↦{q} I) ∗ Owe d i O W) -∗ Q ⟨⟩))
      ⊢ wp frame (wpE (defs₀ (F := F)) 𝒱₀ (tile d i) none) Set.univ
          (Prog.lift (.waitDma2 (aSem p) (iBlk n) (aSlot p) hs hd)) Q := by
  unfold Owe
  iintro ⟨Hmw, Hfl, Hr, ⟨%W', %hW', HO⟩, HQ⟩
  unfold FA
  iapply (Transfers.wp_waitLocalO countersEmb 𝒱₀ (tile d i) none (none : HIx 1) (rfl : (aSlot p).view.dmaCredit = _) (k := Prog.ret)) $$ [Hfl HO Hmw]
  · isplitl [Hfl]; · iexact Hfl
    isplitl [HO]; · iexact HO
    iapply (Transfers.MayWaits.elim (SemLoc.dma (aSem p))) $$ Hmw
  iintro ⟨⟨Ha, Hi⟩, Hs, HO⟩
  rw [wp_ret]
  imodintro
  iapply HQ
  isplitl [Ha]; · iexact Ha
  isplitl [Hs]; · iexact Hs
  isplitl [Hi Hr]
  · iapply (iPts_split d I n q).2
    isplitl [Hi] <;> iassumption
  iexists _; isplitr
  swap; · iexact HO
  ipureintro; intro p' hp
  rcases Finset.mem_insert.mp hp with hp | hp
  · exact .inr (hp ▸ rfl)
  · exact hW' p' hp

/-- The write-out of a block. -/
theorem out_step (n : Fin 1024) (p : Fin 2) (Q : PUnit → sProp 𝕄)
    (hs : (bSlot p).view.WordExact) (hd : (oBlk n).view.WordExact)
    (ht : DmaTarget.Typed (nD := nD) (p := (tile d i).2) .vmem (.dma (bSem p)) (.here (oBlk n))) :
    iprop((bLoc d i ↦[bSet p]{fullShare} GB X I n.val) ∗ semVal (tile d i, .dma (bSem p)) 0 ∗ (∃ f, oLoc d ↦[oSet n.val]{fullShare} f)
        ∗ (FB d i X I n p -∗ Q ⟨⟩))
      ⊢ wp frame (wpE (defs₀ (F := F)) 𝒱₀ (tile d i) none) Set.univ
          (Prog.lift (.enqueueDma (bSlot p) (.here (oBlk n)) (.dma (bSem p)) hs hd ht)) Q := by
  iintro ⟨Hb, Hs, ⟨%f, Ho⟩, HQ⟩
  ihave Hb := (Entails.of_eq (pts_bSlot d i p fullShare _).symm) $$ Hb
  ihave Ho := (Entails.of_eq (pts_oBlk d i n fullShare f).symm) $$ Ho
  iapply (Transfers.wp_dmaLocal countersEmb 𝒱₀ (tile d i) none (none : HIx 1) (oBlk n).view.dmaCredit rfl
    (View.dmaCredit_pos _ (by decide)) (Finset.Subset.refl _) (k := Prog.ret) (via := .same)) $$ [Hb Ho Hs]
  · isplitl [Hb]; · iexact Hb
    isplitl [Ho]; · iexact Ho
    iexact Hs
  iintro Hfl
  rw [wp_ret]
  imodintro
  iapply HQ
  unfold FB
  iapply (Transfers.Flight_mono countersEmb (tile d i) ?_) $$ Hfl
  refine sep_mono (Entails.of_eq ?_) (Entails.of_eq (pts_bSlot d i p fullShare _))
  refine (pts_oBlk d i n fullShare _).trans ?_
  exact pointsTo_congr (oWrite p n X I f)

/-- The wait for it. -/
theorem out_wait (n : Fin 1024) (p : Fin 2) (O : CellTallies nD τ sig (HIx 1)) (W : Waits sig (HIx 1))
    (Q : PUnit → sProp 𝕄) (hs : (bSlot p).view.WordExact) (hd : (oBlk n).view.WordExact) :
    iprop(Transfers.MayWaits (tile d i) (none : HIx 1) O ∗ FB d i X I n p ∗ Owe d i O W
        ∗ (((oLoc d ↦[oSet n.val]{fullShare} G X I) ∗ (bLoc d i ↦[bSet p]{fullShare} GB X I n.val)
            ∗ semVal (tile d i, .dma (bSem p)) 0 ∗ Owe d i O W) -∗ Q ⟨⟩))
      ⊢ wp frame (wpE (defs₀ (F := F)) 𝒱₀ (tile d i) none) Set.univ
          (Prog.lift (.waitDma2 (bSem p) (bSlot p) (oBlk n) hs hd)) Q := by
  unfold Owe
  iintro ⟨Hmw, Hfl, ⟨%W', %hW', HO⟩, HQ⟩
  unfold FB
  iapply (Transfers.wp_waitLocalO countersEmb 𝒱₀ (tile d i) none (none : HIx 1) (rfl : (oBlk n).view.dmaCredit = _) (k := Prog.ret)) $$ [Hfl HO Hmw]
  · isplitl [Hfl]; · iexact Hfl
    isplitl [HO]; · iexact HO
    iapply (Transfers.MayWaits.elim (SemLoc.dma (bSem p))) $$ Hmw
  iintro ⟨⟨Ho, Hb⟩, Hs, HO⟩
  rw [wp_ret]
  imodintro
  iapply HQ
  isplitl [Ho]; · iexact Ho
  isplitl [Hb]; · iexact Hb
  isplitl [Hs]; · iexact Hs
  iexists _; isplitr
  swap; · iexact HO
  ipureintro; intro p' hp
  rcases Finset.mem_insert.mp hp with hp | hp
  · exact .inr (hp ▸ rfl)
  · exact hW' p' hp

theorem left_credit (p : Fin 2) (h : S131072x128.Gathers 0 S128x128) :
    ∑ j, ((bLeft p).slice (S128x128.rowRect h.axis' j) (S128x128.stride_rowRect h.axis' j)).view.dmaCredit = (bLeft p).view.dmaCredit := by
  revert p h; decide
theorem right_credit (p : Fin 2) (h : S131072x128.Gathers 0 S128x128) :
    ∑ j, ((bRight p).slice (S128x128.rowRect h.axis' j) (S128x128.stride_rowRect h.axis' j)).view.dmaCredit = (bRight p).view.dmaCredit := by
  revert p h; decide

/-- The gather of the left half of the columns, and its wait. -/
theorem gather_left (n : Fin 1024) (p : Fin 2) (q : PosShare TreeShare) (O : CellTallies nD τ sig (HIx 1)) (W : Waits sig (HIx 1))
    (hI : ∀ x, (show BitVec 32 from I x).toNat < 131072) (sem : DmaSem sig) (Q : PUnit → sProp 𝕄)
    (hp hn hsrc he hsp hr hw1 hw2) :
    iprop(Transfers.MayWaits (tile d i) (none : HIx 1) O ∗ (∃ f, bLoc d i ↦[bSetL p]{fullShare} f) ∗ (xLoc d ↦{q} X)
        ∗ (aLoc d i ↦[aSet p]{fullShare} GA I n.val) ∗ semVal (tile d i, .dma sem) 0 ∗ Owe d i O W
        ∗ (((bLoc d i ↦[bSetL p]{fullShare} GB X I n.val) ∗ (xLoc d ↦{q} X)
            ∗ (aLoc d i ↦[aSet p]{fullShare} GA I n.val) ∗ semVal (tile d i, .dma sem) 0 ∗ Owe d i O W) -∗ Q ⟨⟩))
      ⊢ wp frame (wpE (defs₀ (F := F)) 𝒱₀ (tile d i) none) Set.univ
          (SparseCore.enqueueIndirectGather (p := (tile d i).2) (a := 0) hp xLeft (bLeft p) gathers_S131072x128_S128x128 (aList p) hn sem hsrc he hsp hr)
          fun _ => wp frame (wpE (defs₀ (F := F)) 𝒱₀ (tile d i) none) Set.univ
            (SparseCore.waitIndirectGather sem xLeft (bLeft p) hw1 hw2) Q := by
  unfold Owe
  iintro ⟨Hmw, ⟨%f, Hb⟩, Hx, Ha, Hs, ⟨%W', %hW', HO⟩, HQ⟩
  ihave Hx := (pointsTo_split_subset (ℓ := xLoc d) (q := q) (f := X) (S := Finset.univ) (Finset.subset_univ xLeft.view.set)).1 $$ Hx
  icases Hx with ⟨Hx, Hxr⟩
  ihave Hb := (Entails.of_eq (pts_bLeft d i p fullShare f).symm) $$ Hb
  ihave Ha := (Entails.of_eq (pts_aList d i p fullShare _).symm) $$ Ha
  iapply (SparseCore.wp_indirectGatherLocal countersEmb 𝒱₀ (tile d i) none (hg := gathers_S131072x128_S128x128) (hsrc := hsrc) (he := he) (hsp := hsp) (hr := hr) (none : HIx 1)
      (bLeft p).view.dmaCredit (left_credit p _) (by decide) (aList_inb p n I hI) (k := Prog.ret)) $$ [Hx Hb Ha Hs]
  · isplitl [Hx]; · iexact Hx
    isplitl [Hb]; · iexact Hb
    isplitl [Ha]; · iexact Ha
    iexact Hs
  iintro Hfl
  rw [wp_ret]
  imodintro
  iapply (Transfers.wp_waitLocalO countersEmb 𝒱₀ (tile d i) none (none : HIx 1) (rfl : (bLeft p).view.dmaCredit = _) (k := Prog.ret)) $$ [Hfl HO Hmw]
  · isplitl [Hfl]; · iexact Hfl
    isplitl [HO]; · iexact HO
    iapply (Transfers.MayWaits.elim (SemLoc.dma sem)) $$ Hmw
  iintro ⟨⟨Hb, Hx, Ha⟩, Hs, HO⟩
  rw [wp_ret]
  imodintro
  iapply HQ
  isplitl [Hb]
  · iapply (Entails.of_eq ((pts_bLeft d i p fullShare _).trans (pointsTo_congr (bLeftWrite p n X I hI f)))) $$ Hb
  isplitl [Hx Hxr]
  · iapply (pointsTo_split_subset (ℓ := xLoc d) (q := q) (f := X) (S := Finset.univ) (Finset.subset_univ xLeft.view.set)).2
    isplitl [Hx]; · iexact Hx
    iexact Hxr
  isplitl [Ha]; · iapply (Entails.of_eq (pts_aList d i p fullShare _)) $$ Ha
  isplitl [Hs]; · iexact Hs
  iexists _; isplitr
  swap; · iexact HO
  ipureintro; intro p' hp
  rcases Finset.mem_insert.mp hp with hp | hp
  · exact .inr (hp ▸ rfl)
  · exact hW' p' hp

/-- The gather of the right half of the columns, and its wait. -/
theorem gather_right (n : Fin 1024) (p : Fin 2) (q : PosShare TreeShare) (O : CellTallies nD τ sig (HIx 1)) (W : Waits sig (HIx 1))
    (hI : ∀ x, (show BitVec 32 from I x).toNat < 131072) (sem : DmaSem sig) (Q : PUnit → sProp 𝕄)
    (hp hn hsrc he hsp hr hw1 hw2) :
    iprop(Transfers.MayWaits (tile d i) (none : HIx 1) O ∗ (∃ f, bLoc d i ↦[bSetR p]{fullShare} f) ∗ (xLoc d ↦{q} X)
        ∗ (aLoc d i ↦[aSet p]{fullShare} GA I n.val) ∗ semVal (tile d i, .dma sem) 0 ∗ Owe d i O W
        ∗ (((bLoc d i ↦[bSetR p]{fullShare} GB X I n.val) ∗ (xLoc d ↦{q} X)
            ∗ (aLoc d i ↦[aSet p]{fullShare} GA I n.val) ∗ semVal (tile d i, .dma sem) 0 ∗ Owe d i O W) -∗ Q ⟨⟩))
      ⊢ wp frame (wpE (defs₀ (F := F)) 𝒱₀ (tile d i) none) Set.univ
          (SparseCore.enqueueIndirectGather (p := (tile d i).2) (a := 0) hp xRight (bRight p) gathers_S131072x128_S128x128 (aList p) hn sem hsrc he hsp hr)
          fun _ => wp frame (wpE (defs₀ (F := F)) 𝒱₀ (tile d i) none) Set.univ
            (SparseCore.waitIndirectGather sem xRight (bRight p) hw1 hw2) Q := by
  unfold Owe
  iintro ⟨Hmw, ⟨%f, Hb⟩, Hx, Ha, Hs, ⟨%W', %hW', HO⟩, HQ⟩
  ihave Hx := (pointsTo_split_subset (ℓ := xLoc d) (q := q) (f := X) (S := Finset.univ) (Finset.subset_univ xRight.view.set)).1 $$ Hx
  icases Hx with ⟨Hx, Hxr⟩
  ihave Hb := (Entails.of_eq (pts_bRight d i p fullShare f).symm) $$ Hb
  ihave Ha := (Entails.of_eq (pts_aList d i p fullShare _).symm) $$ Ha
  iapply (SparseCore.wp_indirectGatherLocal countersEmb 𝒱₀ (tile d i) none (hg := gathers_S131072x128_S128x128) (hsrc := hsrc) (he := he) (hsp := hsp) (hr := hr) (none : HIx 1)
      (bRight p).view.dmaCredit (right_credit p _) (by decide) (aList_inb p n I hI) (k := Prog.ret)) $$ [Hx Hb Ha Hs]
  · isplitl [Hx]; · iexact Hx
    isplitl [Hb]; · iexact Hb
    isplitl [Ha]; · iexact Ha
    iexact Hs
  iintro Hfl
  rw [wp_ret]
  imodintro
  iapply (Transfers.wp_waitLocalO countersEmb 𝒱₀ (tile d i) none (none : HIx 1) (rfl : (bRight p).view.dmaCredit = _) (k := Prog.ret)) $$ [Hfl HO Hmw]
  · isplitl [Hfl]; · iexact Hfl
    isplitl [HO]; · iexact HO
    iapply (Transfers.MayWaits.elim (SemLoc.dma sem)) $$ Hmw
  iintro ⟨⟨Hb, Hx, Ha⟩, Hs, HO⟩
  rw [wp_ret]
  imodintro
  iapply HQ
  isplitl [Hb]
  · iapply (Entails.of_eq ((pts_bRight d i p fullShare _).trans (pointsTo_congr (bRightWrite p n X I hI f)))) $$ Hb
  isplitl [Hx Hxr]
  · iapply (pointsTo_split_subset (ℓ := xLoc d) (q := q) (f := X) (S := Finset.univ) (Finset.subset_univ xRight.view.set)).2
    isplitl [Hx]; · iexact Hx
    iexact Hxr
  isplitl [Ha]; · iapply (Entails.of_eq (pts_aList d i p fullShare _)) $$ Ha
  isplitl [Hs]; · iexact Hs
  iexists _; isplitr
  swap; · iexact HO
  ipureintro; intro p' hp
  rcases Finset.mem_insert.mp hp with hp | hp
  · exact .inr (hp ▸ rfl)
  · exact hW' p' hp

end

end Cert.KernelIdeal
-- ==== Proof.Trip.lean ====
module
public import proofs.«01_k».proof.Proof.Steps
public import proofs.«01_k».proof.Proof.Words
public import proofs.«01_k».proof.Proof.Gen.KernelIdeal.Skeleton

/-!
One trip of the pipeline's loop, and what holds between the trips.

Before trip `t` the index block of the trip is on its way into slot `t % 2` and the other index slot
is free; the row slot `t % 2` is free and the other one is on its way out to the block of the trip
before. The trip starts the next fetch, waits for its own, gathers the two halves of the columns,
starts its write-out and waits for the one before.
-/

@[expose] public section

set_option maxRecDepth 20000

noncomputable section

namespace Cert.KernelIdeal

open Cert.KernelIdeal.Gen
open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slot of trip `n`. -/
def par (n : ℕ) : Fin 2 := ⟨n % 2, Nat.mod_lt _ (by decide)⟩
theorem par_two (n : ℕ) : par (n + 1 + 1) = par n := Fin.ext (by show (n + 1 + 1) % 2 = n % 2; omega)

/-- The block of trip `t`, as one of the 1024. -/
def blkF (i : grid0.Coords) (t : ℕ) : Fin 1024 := ⟨blk i t % 1024, Nat.mod_lt _ (by decide)⟩
theorem blkF_val (i : grid0.Coords) {t : ℕ} (h : t < 32) : (blkF i t).val = blk i t := by
  have := tid_lt i
  show blk i t % 1024 = blk i t
  unfold blk; omega

/-- The blocks `lo ≤ n < hi` of the result. -/
abbrev oRange (lo hi : ℕ) : Finset S131072x256.Idx := Finset.univ.filter fun x => lo ≤ (x 0).val / 128 ∧ (x 0).val / 128 < hi

/-- The five words the loop carries before trip `t`. -/
def words (t : ℕ) : BitVec 32 × BitVec 32 × BitVec 32 × BitVec 32 × BitVec 32 :=
  (wd (min (t + 1) 32), wd t, wd t, wd (t - 1), wd (t % 32))
theorem words_of_lt {t : ℕ} (h : t < 32) : words t = (wd (t + 1), wd t, wd t, wd (t - 1), wd t) := by
  unfold words; rw [Nat.min_eq_left (by omega), Nat.mod_eq_of_lt h]

/-- The number of the tile's first block, as the program computes it. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 32#32

section

variable (d : Dev nD) (i : grid0.Coords)
variable (X : S131072x256.Idx → Elt F .f32) (I : S1x131072.Idx → Elt F .i32) (f₀ : S131072x256.Idx → Elt F .f32)
variable (qi : Fin 2 → PosShare TreeShare) (qx : PosShare TreeShare)

/-- A free index slot. -/
def AFree (p : Fin 2) : sProp 𝕄 :=
  iprop((∃ f, aLoc d i ↦[aSet p]{fullShare} f) ∗ semVal (tile d i, .dma (aSem p)) 0 ∗ (iLoc d ↦{qi p} I))
/-- An index slot being filled with block `n`. -/
def AFly (n : Fin 1024) (p : Fin 2) : sProp 𝕄 :=
  iprop(FA d i I n p (qi p) ∗ (iLoc d ↦[Finset.univ \ iSet n.val]{qi p} I))
/-- A free row slot. -/
def BFree (p : Fin 2) : sProp 𝕄 :=
  iprop((∃ f, bLoc d i ↦[bSet p]{fullShare} f) ∗ semVal (tile d i, .dma (bSem p)) 0)
/-- The index slot of trip `t`, before it. -/
def NextA (t : ℕ) : sProp 𝕄 := if t < 32 then AFly d i I qi (blkF i t) (par t) else AFree d i I qi (par t)
/-- The other row slot, before trip `t`. -/
def PrevB (t : ℕ) : sProp 𝕄 := if 0 < t then FB d i X I (blkF i (t - 1)) (par (t + 1)) else BFree d i (par (t + 1))
/-- The blocks of the tile already written. -/
def Done (t : ℕ) : sProp 𝕄 := iprop(oLoc d ↦[oRange (blk i 0) (blk i (t - 1))]{fullShare} G X I)
/-- The blocks of the tile not begun. -/
def Todo (t : ℕ) : sProp 𝕄 := iprop(oLoc d ↦[oRange (blk i t) (blk i 32)]{fullShare} f₀)

theorem todo_take (t : ℕ) (h : t < 32) :
    Todo d i f₀ t ⊢ iprop((∃ f, oLoc d ↦[oSet (blkF i t).val]{fullShare} f) ∗ Todo d i f₀ (t + 1)) := by
  have hs : oRange (blk i t) (blk i 32) = oSet (blkF i t).val ∪ oRange (blk i (t + 1)) (blk i 32) := by
    rw [blkF_val i h]
    ext x; simp only [Finset.mem_union, Finset.mem_filter, Finset.mem_univ, true_and, blk]; omega
  have hd : Disjoint (oSet (blkF i t).val) (oRange (blk i (t + 1)) (blk i 32)) := by
    rw [blkF_val i h, Finset.disjoint_left]; intro x hx hy
    simp only [Finset.mem_filter, Finset.mem_univ, true_and, blk] at hx hy; omega
  unfold Todo
  rw [hs]
  iintro H
  ihave H := (pointsTo_union (ℓ := oLoc d) hd).1 $$ H
  icases H with ⟨H, H'⟩
  isplitl [H]
  · iexists _; iexact H
  · iexact H'

theorem done_put (t : ℕ) (h0 : 0 < t) (h : t < 33) :
    iprop((oLoc d ↦[oSet (blkF i (t - 1)).val]{fullShare} G X I) ∗ Done d i X I t) ⊢ Done d i X I (t + 1) := by
  have hs : oRange (blk i 0) (blk i t) = oSet (blkF i (t - 1)).val ∪ oRange (blk i 0) (blk i (t - 1)) := by
    rw [blkF_val i (by omega)]
    ext x; simp only [Finset.mem_union, Finset.mem_filter, Finset.mem_univ, true_and, blk]; omega
  have hd : Disjoint (oSet (blkF i (t - 1)).val) (oRange (blk i 0) (blk i (t - 1))) := by
    rw [blkF_val i (by omega), Finset.disjoint_left]; intro x hx hy
    simp only [Finset.mem_filter, Finset.mem_univ, true_and, blk] at hx hy; omega
  unfold Done
  rw [show t + 1 - 1 = t from rfl, hs]
  exact (pointsTo_union (ℓ := oLoc d) hd).2

/-! ## The transfers as the program states them -/

/-- The fetch of the next trip's index block, if there is a next trip. -/
theorem fetch_if {c : Prop} [Decidable c] (t : ℕ) (hc : c ↔ t + 1 < 32) {α : Type} (k : Prog (TpuEff nD τ sig (Elt F) Λ₀ (tile d i).2) α) (Q : α → sProp 𝕄)
    {src : c → Memref sig .scVector .hbm S1x128 .i32} {dst : c → Memref sig .scVector .vmem S1x128 .i32} {sem : c → DmaSem sig}
    {h1 : ∀ h, (src h).view.WordExact} {h2 : ∀ h, (dst h).view.WordExact}
    {h3 : ∀ h, DmaTarget.Typed (nD := nD) (p := (tile d i).2) .hbm (.dma (sem h)) (.here (dst h))}
    (hsrc : ∀ h, src h = iBlk (blkF i (t + 1))) (hdst : ∀ h, dst h = aSlot (par (t + 1))) (hsem : ∀ h, sem h = aSem (par (t + 1))) :
    iprop(AFree d i I qi (par (t + 1)) ∗ (NextA d i I qi (t + 1) -∗ wp frame (wpE (defs₀ (F := F)) 𝒱₀ (tile d i) none) Set.univ k Q))
      ⊢ wp frame (wpE (defs₀ (F := F)) 𝒱₀ (tile d i) none) Set.univ
          (dite c (fun h => Prog.lift (.enqueueDma (src h) (.here (dst h)) (.dma (sem h)) (h1 h) (h2 h) (h3 h)) >>= fun _ => k) (fun _ => k)) Q := by
  by_cases h : c
  · obtain rfl : src = fun _ => iBlk (blkF i (t + 1)) := funext hsrc
    obtain rfl : dst = fun _ => aSlot (par (t + 1)) := funext hdst
    obtain rfl : sem = fun _ => aSem (par (t + 1)) := funext hsem
    rw [dif_pos h, wp_bind]
    unfold NextA AFree AFly
    rw [if_pos (hc.1 h)]
    iintro ⟨⟨Ha, Hs, Hi⟩, HQ⟩
    iapply (fetch_step d i I (blkF i (t + 1)) (par (t + 1)) (qi (par (t + 1))))
    isplitl [Ha]; · iexact Ha
    isplitl [Hs]; · iexact Hs
    isplitl [Hi]; · iexact Hi
    iintro H; iapply HQ; iexact H
  · rw [dif_neg h]
    unfold NextA
    rw [if_neg (fun h' => h (hc.2 h'))]
    iintro ⟨Ha, HQ⟩
    iapply HQ; iexact Ha

/-- The wait for the trip's index block. -/
theorem wait_if {c : Prop} [Decidable c] (hc : c) (n : Fin 1024) (p : Fin 2) (O : CellTallies nD τ sig (HIx 1)) (W : Waits sig (HIx 1)) {α : Type} (k : Prog (TpuEff nD τ sig (Elt F) Λ₀ (tile d i).2) α) (Q : α → sProp 𝕄)
    {src : c → Memref sig .scVector .hbm S1x128 .i32} {dst : c → Memref sig .scVector .vmem S1x128 .i32} {sem : c → DmaSem sig}
    {h1 : ∀ h, (src h).view.WordExact} {h2 : ∀ h, (dst h).view.WordExact}
    (hsrc : ∀ h, src h = iBlk n) (hdst : ∀ h, dst h = aSlot p) (hsem : ∀ h, sem h = aSem p) :
    iprop(Transfers.MayWaits (tile d i) (none : HIx 1) O ∗ AFly d i I qi n p ∗ Owe d i O W
        ∗ (((aLoc d i ↦[aSet p]{fullShare} GA I n.val) ∗ semVal (tile d i, .dma (aSem p)) 0 ∗ (iLoc d ↦{qi p} I) ∗ Owe d i O W) -∗ wp frame (wpE (defs₀ (F := F)) 𝒱₀ (tile d i) none) Set.univ k Q))
      ⊢ wp frame (wpE (defs₀ (F := F)) 𝒱₀ (tile d i) none) Set.univ
          (dite c (fun h => Prog.lift (.waitDma2 (sem h) (src h) (dst h) (h1 h) (h2 h)) >>= fun _ => k) (fun _ => k)) Q := by
  obtain rfl : src = fun _ => iBlk n := funext hsrc
  obtain rfl : dst = fun _ => aSlot p := funext hdst
  obtain rfl : sem = fun _ => aSem p := funext hsem
  rw [dif_pos hc, wp_bind]
  unfold AFly
  iintro ⟨Hm, ⟨Ha, Hi⟩, HO, HQ⟩
  iapply (fetch_wait d i I n p (qi p) O W)
  isplitl [Hm]; · iexact Hm
  isplitl [Ha]; · iexact Ha
  isplitl [Hi]; · iexact Hi
  isplitl [HO]; · iexact HO
  iintro H; iapply HQ; iexact H

/-- The write-out of the trip's block. -/
theorem out_if {c : Prop} [Decidable c] (hc : c) (n : Fin 1024) (p : Fin 2) {α : Type} (k : Prog (TpuEff nD τ sig (Elt F) Λ₀ (tile d i).2) α) (Q : α → sProp 𝕄)
    {src : c → Memref sig .scVector .vmem S128x256 .f32} {dst : c → Memref sig .scVector .hbm S128x256 .f32} {sem : c → DmaSem sig}
    {h1 : ∀ h, (src h).view.WordExact} {h2 : ∀ h, (dst h).view.WordExact}
    {h3 : ∀ h, DmaTarget.Typed (nD := nD) (p := (tile d i).2) .vmem (.dma (sem h)) (.here (dst h))}
    (hsrc : ∀ h, src h = bSlot p) (hdst : ∀ h, dst h = oBlk n) (hsem : ∀ h, sem h = bSem p) :
    iprop((bLoc d i ↦[bSetL p]{fullShare} GB X I n.val) ∗ (bLoc d i ↦[bSetR p]{fullShare} GB X I n.val) ∗ semVal (tile d i, .dma (bSem p)) 0
        ∗ (∃ f, oLoc d ↦[oSet n.val]{fullShare} f) ∗ (FB d i X I n p -∗ wp frame (wpE (defs₀ (F := F)) 𝒱₀ (tile d i) none) Set.univ k Q))
      ⊢ wp frame (wpE (defs₀ (F := F)) 𝒱₀ (tile d i) none) Set.univ
          (dite c (fun h => Prog.lift (.enqueueDma (src h) (.here (dst h)) (.dma (sem h)) (h1 h) (h2 h) (h3 h)) >>= fun _ => k) (fun _ => k)) Q := by
  obtain rfl : src = fun _ => bSlot p := funext hsrc
  obtain rfl : dst = fun _ => oBlk n := funext hdst
  obtain rfl : sem = fun _ => bSem p := funext hsem
  rw [dif_pos hc, wp_bind]
  iintro ⟨Hl, Hr, Hs, Ho, HQ⟩
  iapply (out_step d i X I n p)
  isplitl [Hl Hr]
  · iapply (bSet_split d i p _).2
    isplitl [Hl]; · iexact Hl
    iexact Hr
  isplitl [Hs]; · iexact Hs
  isplitl [Ho]; · iexact Ho
  iintro H; iapply HQ; iexact H

/-- The wait for the write-out of the trip before, if there was one. -/
theorem prev_if {c : Prop} [Decidable c] (t : ℕ) (ht : t < 32) (hc : c ↔ 0 < t) (O : CellTallies nD τ sig (HIx 1)) (W : Waits sig (HIx 1)) {α : Type} (k : Prog (TpuEff nD τ sig (Elt F) Λ₀ (tile d i).2) α) (Q : α → sProp 𝕄)
    {src : c → Memref sig .scVector .vmem S128x256 .f32} {dst : c → Memref sig .scVector .hbm S128x256 .f32} {sem : c → DmaSem sig}
    {h1 : ∀ h, (src h).view.WordExact} {h2 : ∀ h, (dst h).view.WordExact}
    (hsrc : ∀ h, src h = bSlot (par (t + 1))) (hdst : ∀ h, dst h = oBlk (blkF i (t - 1))) (hsem : ∀ h, sem h = bSem (par (t + 1))) :
    iprop(Transfers.MayWaits (tile d i) (none : HIx 1) O ∗ PrevB d i X I t ∗ Done d i X I t ∗ Owe d i O W
        ∗ ((BFree d i (par (t + 1)) ∗ Done d i X I (t + 1) ∗ Owe d i O W) -∗ wp frame (wpE (defs₀ (F := F)) 𝒱₀ (tile d i) none) Set.univ k Q))
      ⊢ wp frame (wpE (defs₀ (F := F)) 𝒱₀ (tile d i) none) Set.univ
          (dite c (fun h => Prog.lift (.waitDma2 (sem h) (src h) (dst h) (h1 h) (h2 h)) >>= fun _ => k) (fun _ => k)) Q := by
  by_cases h : c
  · obtain rfl : src = fun _ => bSlot (par (t + 1)) := funext hsrc
    obtain rfl : dst = fun _ => oBlk (blkF i (t - 1)) := funext hdst
    obtain rfl : sem = fun _ => bSem (par (t + 1)) := funext hsem
    rw [dif_pos h, wp_bind]
    unfold PrevB BFree
    rw [if_pos (hc.1 h)]
    iintro ⟨Hm, Hb, Hd, HO, HQ⟩
    iapply (out_wait d i X I (blkF i (t - 1)) (par (t + 1)) O W)
    isplitl [Hm]; · iexact Hm
    isplitl [Hb]; · iexact Hb
    isplitl [HO]; · iexact HO
    iintro ⟨Ho, Hb, Hs, HO⟩
    iapply HQ
    isplitl [Hb Hs]
    · isplitl [Hb]
      · iexists _; iexact Hb
      iexact Hs
    isplitl [Ho Hd]
    · iapply (done_put d i X I t (hc.1 h) (by omega))
      isplitl [Ho]; · iexact Ho
      iexact Hd
    iexact HO
  · have h0 : t = 0 := by by_contra h'; exact h (hc.2 (by omega))
    subst h0
    rw [dif_neg h]
    unfold PrevB
    rw [if_neg (by decide)]
    iintro ⟨-, Hb, Hd, HO, HQ⟩
    iapply HQ
    isplitl [Hb]; · iexact Hb
    isplitl [Hd]; · iexact Hd
    iexact HO

/-- The gather of the left half, over the program's windows. -/
theorem left_at (n : Fin 1024) (p : Fin 2) (O : CellTallies nD τ sig (HIx 1)) (W : Waits sig (HIx 1))
    (hI : ∀ x, (show BitVec 32 from I x).toNat < 131072) (sem : DmaSem sig) (Q : PUnit → sProp 𝕄)
    {b b' : Memref sig .scVector .vmem S128x256 .f32} {a : Memref sig .scVector .vmem S1x128 .i32}
    {hp hn hsrc he hsp hr hw1 hw2} (hb : b = bSlot p) (hb' : b' = bSlot p) (ha : a = aSlot p) :
    iprop(Transfers.MayWaits (tile d i) (none : HIx 1) O ∗ (∃ f, bLoc d i ↦[bSetL p]{fullShare} f) ∗ (xLoc d ↦{qx} X)
        ∗ (aLoc d i ↦[aSet p]{fullShare} GA I n.val) ∗ semVal (tile d i, .dma sem) 0 ∗ Owe d i O W
        ∗ (((bLoc d i ↦[bSetL p]{fullShare} GB X I n.val) ∗ (xLoc d ↦{qx} X)
            ∗ (aLoc d i ↦[aSet p]{fullShare} GA I n.val) ∗ semVal (tile d i, .dma sem) 0 ∗ Owe d i O W) -∗ Q ⟨⟩))
      ⊢ wp frame (wpE (defs₀ (F := F)) 𝒱₀ (tile d i) none) Set.univ
          (SparseCore.enqueueIndirectGather (p := (tile d i).2) (a := 0) hp
            (xW.slice (Rect.unit (s := S131072x256) ![0, 0] S131072x128.size inb_S131072x256_S131072x128_0_0) (fun _ => rfl))
            (b.slice (Rect.unit (s := S128x256) ![0, 0] S128x128.size inb_S128x256_S128x128_0_0) (fun _ => rfl)) gathers_S131072x128_S128x128
            ((a.slice (Rect.unit (s := S1x128) ![0, 0] S1x128.size inb_S1x128_S1x128_0_0) (fun _ => rfl)).squeeze S128 squeezes_S1x128_S128) hn sem hsrc he hsp hr)
          fun _ => wp frame (wpE (defs₀ (F := F)) 𝒱₀ (tile d i) none) Set.univ
            (SparseCore.waitIndirectGather sem
              (xW.slice (Rect.unit (s := S131072x256) ![0, 0] S131072x128.size inb_S131072x256_S131072x128_0_0) (fun _ => rfl))
              (b'.slice (Rect.unit (s := S128x256) ![0, 0] S128x128.size inb_S128x256_S128x128_0_0) (fun _ => rfl)) hw1 hw2) Q := by
  subst hb hb' ha
  exact gather_left d i X I n p qx O W hI sem Q hp hn hsrc he hsp hr hw1 hw2

/-- The gather of the right half, over the program's windows. -/
theorem right_at (n : Fin 1024) (p : Fin 2) (O : CellTallies nD τ sig (HIx 1)) (W : Waits sig (HIx 1))
    (hI : ∀ x, (show BitVec 32 from I x).toNat < 131072) (sem : DmaSem sig) (Q : PUnit → sProp 𝕄)
    {b b' : Memref sig .scVector .vmem S128x256 .f32} {a : Memref sig .scVector .vmem S1x128 .i32}
    {hp hn hsrc he hsp hr hw1 hw2} (hb : b = bSlot p) (hb' : b' = bSlot p) (ha : a = aSlot p) :
    iprop(Transfers.MayWaits (tile d i) (none : HIx 1) O ∗ (∃ f, bLoc d i ↦[bSetR p]{fullShare} f) ∗ (xLoc d ↦{qx} X)
        ∗ (aLoc d i ↦[aSet p]{fullShare} GA I n.val) ∗ semVal (tile d i, .dma sem) 0 ∗ Owe d i O W
        ∗ (((bLoc d i ↦[bSetR p]{fullShare} GB X I n.val) ∗ (xLoc d ↦{qx} X)
            ∗ (aLoc d i ↦[aSet p]{fullShare} GA I n.val) ∗ semVal (tile d i, .dma sem) 0 ∗ Owe d i O W) -∗ Q ⟨⟩))
      ⊢ wp frame (wpE (defs₀ (F := F)) 𝒱₀ (tile d i) none) Set.univ
          (SparseCore.enqueueIndirectGather (p := (tile d i).2) (a := 0) hp
            (xW.slice (Rect.unit (s := S131072x256) ![0, 128] S131072x128.size inb_S131072x256_S131072x128_0_128) (fun _ => rfl))
            (b.slice (Rect.unit (s := S128x256) ![0, 128] S128x128.size inb_S128x256_S128x128_0_128) (fun _ => rfl)) gathers_S131072x128_S128x128
            ((a.slice (Rect.unit (s := S1x128) ![0, 0] S1x128.size inb_S1x128_S1x128_0_0) (fun _ => rfl)).squeeze S128 squeezes_S1x128_S128) hn sem hsrc he hsp hr)
          fun _ => wp frame (wpE (defs₀ (F := F)) 𝒱₀ (tile d i) none) Set.univ
            (SparseCore.waitIndirectGather sem
              (xW.slice (Rect.unit (s := S131072x256) ![0, 128] S131072x128.size inb_S131072x256_S131072x128_0_128) (fun _ => rfl))
              (b'.slice (Rect.unit (s := S128x256) ![0, 128] S128x128.size inb_S128x256_S128x128_0_128) (fun _ => rfl)) hw1 hw2) Q := by
  subst hb hb' ha
  exact gather_right d i X I n p qx O W hI sem Q hp hn hsrc he hsp hr hw1 hw2

/-- A conditional that does nothing. -/
theorem skip_if {c : Prop} [Decidable c] (Q : PUnit → sProp 𝕄) :
    Q ⟨⟩ ⊢ wp frame (wpE (defs₀ (F := F)) 𝒱₀ (tile d i) none) Set.univ (ite c (pure ⟨⟩) (pure ⟨⟩)) Q := by
  rw [ite_self, wp_pure]
  iintro H; imodintro; iexact H

/-- A checked side condition that holds. -/
theorem assume_at {P : Prop} {dec : Decidable P} (h : P) (Q : PLift P → sProp 𝕄) :
    Q ⟨h⟩ ⊢ wp frame (wpE (defs₀ (F := F)) 𝒱₀ (tile d i) none) Set.univ (Prog.lift (TpuEff.assume P dec)) Q := by
  refine (show Q ⟨h⟩ ⊢ wp frame (wpE (defs₀ (F := F)) 𝒱₀ (tile d i) none) Set.univ (.op (.assume P dec) Prog.ret) Q from ?_)
  rw [wp_assume_of 𝒱₀ (tile d i) none Set.univ h, wp_ret]
  iintro H; imodintro; iexact H

/-- What holds before trip `t`. -/
def Inv (O : CellTallies nD τ sig (HIx 1)) (W : Waits sig (HIx 1)) (t : ℕ) (acc : BitVec 32 × BitVec 32 × BitVec 32 × BitVec 32 × BitVec 32) : sProp 𝕄 :=
  iprop(⌜acc = words t⌝ ∗ Transfers.MayWaits (tile d i) (none : HIx 1) O
    ∗ NextA d i I qi t ∗ AFree d i I qi (par (t + 1)) ∗ BFree d i (par t) ∗ PrevB d i X I t
    ∗ semVal (tile d i, .dma cc0_scoped4.sem) 0 ∗ semVal (tile d i, .dma cc0_scoped5.sem) 0
    ∗ (xLoc d ↦{qx} X) ∗ Todo d i f₀ t ∗ Done d i X I t ∗ Owe d i O W)

set_option maxHeartbeats 4000000 in
/-- A trip keeps the invariant. -/
theorem trip (hI : ∀ x, (show BitVec 32 from I x).toNat < 131072) (O : CellTallies nD τ sig (HIx 1)) (W : Waits sig (HIx 1))
    (t : Fin k0_t1_loop.trips) (acc : BitVec 32 × BitVec 32 × BitVec 32 × BitVec 32 × BitVec 32) :
    Inv d i X I f₀ qi qx O W t.val acc
      ⊢ wp frame (wpE (defs₀ (F := F)) 𝒱₀ (tile d i) none) Set.univ
          (k0_t1_body i xW (Memref.isWhole_whole _) iW (Memref.isWhole_whole _) oW (Memref.isWhole_whole _)
            aW (Memref.isWhole_whole _) cc0_scoped1 bW (Memref.isWhole_whole _) cc0_scoped3 cc0_scoped4 cc0_scoped5 (baseW i) t acc)
          (Inv d i X I f₀ qi qx O W (t.val + 1)) := by
  have ht : t.val < 32 := t.isLt.trans_eq trips_eq
  unfold Inv
  unfold BFree
  iintro ⟨%hacc, #Hm, HA, HA', ⟨Hb, Hbs⟩, HP, Hs4, Hs5, HX, HT, HD, HO⟩
  rw [words_of_lt ht] at hacc
  subst hacc
  unfold k0_t1_body
  simp only [k0_part1_eq_skeleton, k0_part2_eq_skeleton, k0_part3_eq_skeleton]
  unfold k0_part1_skel k0_part2_skel k0_part3_skel
  simp only [wp_bind, ite_self]
  iapply (assume_at d i (chk3_ok t))
  iapply (assume_at d i (chk2_ok t))
  iapply (assume_at d i (chk1_ok i t))
  have hc1 : k0_cond1 i t (wd t.val) = 1#1 ↔ t.val + 1 < 32 := by
    rw [cond1_eq]; split
    · exact ⟨fun _ => by omega, fun _ => rfl⟩
    · exact ⟨fun h => absurd h (by decide), fun h => absurd h (by omega)⟩
  have hc7 : k0_cond7 i t (wd t.val) = 1#1 ↔ 0 < t.val := by
    rw [cond7_eq]; split
    · exact ⟨fun _ => by omega, fun _ => rfl⟩
    · exact ⟨fun h => absurd h (by decide), fun h => absurd h (by omega)⟩
  have hn : (blkF i t.val).val = blk i t.val := blkF_val i ht
  iapply (fetch_if d i I qi t.val hc1 _ _
    (fun h => iBlk_of _ (by rw [blkF_val i (hc1.1 h)]; exact off5_eq i t (by have := hc1.1 h; omega)))
    (fun h => aSlot_of _ (off4_eq t)) (fun h => aSem_of _ (off6_eq t)))
  isplitl [HA']; · iexact HA'
  iintro HA'
  simp only [wp_pure]
  imodintro
  iapply (wait_if d i I qi (cond2_eq i t) (blkF i t.val) (par t.val) O W _ _
    (fun h => iBlk_of _ (by rw [hn]; exact off8_eq i t)) (fun h => aSlot_of _ (off7_eq t)) (fun h => aSem_of _ (off9_eq t)))
  isplitr; · iexact Hm
  isplitl [HA]
  · iapply (show NextA d i I qi t.val ⊢ AFly d i I qi (blkF i t.val) (par t.val) by unfold NextA; rw [if_pos ht])
    iexact HA
  isplitl [HO]; · iexact HO
  iintro ⟨Ha, Has, Hi, HO⟩
  simp only [wp_bind, ite_self]
  icases Hb with ⟨%fb, Hb⟩
  ihave Hb := (bSet_split d i (par t.val) fb).1 $$ Hb
  icases Hb with ⟨Hbl, Hbr⟩
  iapply (left_at d i X I qx (blkF i t.val) (par t.val) O W hI _ _ (bSlot_of _ (off10_eq t)) (bSlot_of _ (off10_eq t)) (aSlot_of _ (off11_eq t)))
  isplitr; · iexact Hm
  isplitl [Hbl]; · iexists fb; iexact Hbl
  isplitl [HX]; · iexact HX
  isplitl [Ha]; · iexact Ha
  isplitl [Hs4]; · iexact Hs4
  isplitl [HO]; · iexact HO
  iintro ⟨Hbl, HX, Ha, Hs4, HO⟩
  simp only [wp_pure]
  imodintro
  iapply (right_at d i X I qx (blkF i t.val) (par t.val) O W hI _ _ (bSlot_of _ (off10_eq t)) (bSlot_of _ (off10_eq t)) (aSlot_of _ (off11_eq t)))
  isplitr; · iexact Hm
  isplitl [Hbr]; · iexists fb; iexact Hbr
  isplitl [HX]; · iexact HX
  isplitl [Ha]; · iexact Ha
  isplitl [Hs5]; · iexact Hs5
  isplitl [HO]; · iexact HO
  iintro ⟨Hbr, HX, Ha, Hs5, HO⟩
  ihave HT := (todo_take d i f₀ t.val ht) $$ HT
  icases HT with ⟨Ho, HT⟩
  iapply (out_if d i X I (cond5_eq i t) (blkF i t.val) (par t.val) _ _
    (fun h => bSlot_of _ (off12_eq t)) (fun h => oBlk_of _ (by rw [hn]; exact off13_eq i t)) (fun h => bSem_of _ (off14_eq t)))
  isplitl [Hbl]; · iexact Hbl
  isplitl [Hbr]; · iexact Hbr
  isplitl [Hbs]; · iexact Hbs
  isplitl [Ho]; · iexact Ho
  iintro HF
  simp only [wp_pure]
  imodintro
  iapply (prev_if d i X I t.val ht hc7 O W _ _
    (fun h => bSlot_of _ (off15_eq t (hc7.1 h))) (fun h => oBlk_of _ (by rw [blkF_val i (by omega)]; exact off16_eq i t (hc7.1 h)))
    (fun h => bSem_of _ (off17_eq t (hc7.1 h))))
  isplitr; · iexact Hm
  isplitl [HP]; · iexact HP
  isplitl [HD]; · iexact HD
  isplitl [HO]; · iexact HO
  iintro ⟨HB, HD, HO⟩
  rw [wp_pure]
  imodintro
  isplitr
  · ipureintro
    clear hc1 hc7 hn ht fb
    revert t i
    clear * -
    decide +kernel
  isplitr; · iexact Hm
  isplitl [HA']; · iexact HA'
  isplitl [Ha Has Hi]
  · rw [par_two]
    unfold AFree
    isplitl [Ha]; · iexists _; iexact Ha
    isplitl [Has]; · iexact Has
    iexact Hi
  isplitl [HB]
  · unfold BFree
    iexact HB
  isplitl [HF]
  · unfold PrevB
    rw [if_pos (Nat.succ_pos _), par_two]
    iexact HF
  isplitl [Hs4]; · iexact Hs4
  isplitl [Hs5]; · iexact Hs5
  isplitl [HX]; · iexact HX
  isplitl [HT]; · iexact HT
  isplitl [HD]; · iexact HD
  iexact HO

end

end Cert.KernelIdeal
-- ==== Proof.Tile.lean ====
module
public import proofs.«01_k».proof.Proof.Trip

/-!
One tile's program: the first fetch, the loop, the last wait.

A tile takes a share of the rows and of the row numbers and its 4096 rows of the result, and gives
them back with its rows of the result gathered.
-/

@[expose] public section

set_option maxRecDepth 20000

noncomputable section

namespace Cert.KernelIdeal

open Cert.KernelIdeal.Gen
open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The program as the launch sees it. -/
abbrev ΛP : Labels := Pipeline.Sig Λ₀ (Fin 0) fun p => (pcfgs (F := F) p).Adm
abbrev K : SparseCore.Cfg τ sig (ΛP (F := F)) 1 := sc (F := F)

/-! ## A tile's own semaphores and buffers -/

section

variable (d : Dev nD) (i : grid0.Coords)

/-- The tile's six semaphores. -/
abbrev cell (d : Dev nD) (i : grid0.Coords) (s : DmaSem sig) : GSem nD τ sig := (tile d i, .dma s)

theorem cell_ne {s s' : DmaSem sig} (h : s ≠ s') : cell d i s ≠ cell d i s' :=
  fun e => h (SemLoc.dma.inj (Prod.mk.inj e).2)
theorem cell_own (s : DmaSem sig) : cell d i s ∈ ownCells (tile d i) :=
  mem_ownCells.mpr ⟨rfl, by
    show (SemLoc.dma s : SemLoc sig).isScoped .scVector = true
    revert s; decide⟩

theorem sems_ne : aSem 0 ≠ aSem 1 ∧ aSem 0 ≠ bSem 0 ∧ aSem 0 ≠ bSem 1 ∧ aSem 0 ≠ cc0_scoped4.sem ∧ aSem 0 ≠ cc0_scoped5.sem
    ∧ aSem 1 ≠ bSem 0 ∧ aSem 1 ≠ bSem 1 ∧ aSem 1 ≠ cc0_scoped4.sem ∧ aSem 1 ≠ cc0_scoped5.sem
    ∧ bSem 0 ≠ bSem 1 ∧ bSem 0 ≠ cc0_scoped4.sem ∧ bSem 0 ≠ cc0_scoped5.sem
    ∧ bSem 1 ≠ cc0_scoped4.sem ∧ bSem 1 ≠ cc0_scoped5.sem ∧ (cc0_scoped4.sem : DmaSem sig) ≠ cc0_scoped5.sem := by
  decide +kernel

/-- The rest of the tile's own semaphores. -/
def restCells : Finset (GSem nD τ sig) :=
  ((((((ownCells (tile d i)).erase (cell d i (aSem 0))).erase (cell d i (aSem 1))).erase (cell d i (bSem 0))).erase (cell d i (bSem 1))).erase
    (cell d i cc0_scoped4.sem)).erase (cell d i cc0_scoped5.sem)

theorem ownSems0_tile :
    (ownSems0 (tile d i) : sProp 𝕄)
      = iprop(semVal (cell d i (aSem 0)) 0 ∗ semVal (cell d i (aSem 1)) 0 ∗ semVal (cell d i (bSem 0)) 0 ∗ semVal (cell d i (bSem 1)) 0
          ∗ semVal (cell d i cc0_scoped4.sem) 0 ∗ semVal (cell d i cc0_scoped5.sem) 0 ∗ bigSep (restCells d i) fun g => semVal g 0) := by
  obtain ⟨h01, h02, h03, h04, h05, h12, h13, h14, h15, h23, h24, h25, h34, h35, h45⟩ := sems_ne
  have n {s s' : DmaSem sig} (h : s ≠ s') := (cell_ne d i h).symm
  have e {s : DmaSem sig} {A : Finset (GSem nD τ sig)} {g : GSem nD τ sig} (h : cell d i s ≠ g) (hm : cell d i s ∈ A) : cell d i s ∈ A.erase g :=
    Finset.mem_erase.mpr ⟨h, hm⟩
  unfold SparseCore.Cfg.ownSems0 restCells
  rw [SparseCore.bigSep_erase' (cell_own d i (aSem 0)),
    SparseCore.bigSep_erase' (e (n h01) (cell_own d i (aSem 1))),
    SparseCore.bigSep_erase' (e (n h12) (e (n h02) (cell_own d i (bSem 0)))),
    SparseCore.bigSep_erase' (e (n h23) (e (n h13) (e (n h03) (cell_own d i (bSem 1))))),
    SparseCore.bigSep_erase' (e (n h34) (e (n h24) (e (n h14) (e (n h04) (cell_own d i cc0_scoped4.sem))))),
    SparseCore.bigSep_erase' (e (n h45) (e (n h35) (e (n h25) (e (n h15) (e (n h05) (cell_own d i cc0_scoped5.sem))))))]

/-- The rest of the tile's own buffers. -/
def restBufs : sProp 𝕄 :=
  bigSep (((ownRefs (τ := τ) (.scVector (cV i) (jV i))).erase ((Proc.scVector (cV i) (jV i)).devRef cc0_scoped0)).erase
    ((Proc.scVector (cV i) (jV i)).devRef cc0_scoped2)) fun b => iprop(∃ f, ((d, b) : Loc nD τ sig) ↦{fullShare} f)

theorem ownBufs_tile :
    (ownBufs (tile d i) : sProp 𝕄)
      = iprop((∃ f, aLoc d i ↦{fullShare} f) ∗ (∃ f, bLoc d i ↦{fullShare} f) ∗ restBufs (F := F) d i) := by
  unfold SparseCore.Cfg.ownBufs restBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

/-! ## The two slots of a scratch -/

theorem aSet_union : aSet 0 ∪ aSet 1 = Finset.univ := by
  ext x
  have : (x 0).val < 2 := (x 0).isLt
  simp only [Finset.mem_union, Finset.mem_filter, Finset.mem_univ, true_and, iff_true]
  show (x 0).val = 0 ∨ (x 0).val = 1
  omega
theorem aSet_disj : Disjoint (aSet 0) (aSet 1) := by
  rw [Finset.disjoint_left]; intro x hx hy
  have h0 : (x 0).val = 0 := (Finset.mem_filter.mp hx).2
  have h1 : (x 0).val = 1 := (Finset.mem_filter.mp hy).2
  omega
theorem bSet_union : bSet 0 ∪ bSet 1 = Finset.univ := by
  ext x
  have : (x 0).val < 2 := (x 0).isLt
  simp only [Finset.mem_union, Finset.mem_filter, Finset.mem_univ, true_and, iff_true]
  show (x 0).val = 0 ∨ (x 0).val = 1
  omega
theorem bSet_disj : Disjoint (bSet 0) (bSet 1) := by
  rw [Finset.disjoint_left]; intro x hx hy
  have h0 : (x 0).val = 0 := (Finset.mem_filter.mp hx).2
  have h1 : (x 0).val = 1 := (Finset.mem_filter.mp hy).2
  omega

theorem a_split : (iprop(∃ f, aLoc d i ↦{fullShare} f) : sProp 𝕄)
    ⊢ iprop((∃ f, aLoc d i ↦[aSet 0]{fullShare} f) ∗ ∃ f, aLoc d i ↦[aSet 1]{fullShare} f) := by
  rw [show (Finset.univ : Finset (Idx (aLoc d i))) = aSet 0 ∪ aSet 1 from aSet_union.symm]
  iintro ⟨%f, H⟩
  ihave H := (pointsTo_union (ℓ := aLoc d i) aSet_disj).1 $$ H
  icases H with ⟨H, H'⟩
  isplitl [H]
  · iexists f; iexact H
  iexists f; iexact H'
theorem a_join : (iprop((∃ f, aLoc d i ↦[aSet 0]{fullShare} f) ∗ ∃ f, aLoc d i ↦[aSet 1]{fullShare} f) : sProp 𝕄)
    ⊢ iprop(∃ f, aLoc d i ↦{fullShare} f) := by
  rw [show (Finset.univ : Finset (Idx (aLoc d i))) = aSet 0 ∪ aSet 1 from aSet_union.symm]
  iintro ⟨⟨%f, H⟩, %g, H'⟩
  iexists _
  iapply (pointsTo_join (ℓ := aLoc d i) (f := f) (g := g) aSet_disj)
  isplitl [H]; · iexact H
  iexact H'
theorem b_split : (iprop(∃ f, bLoc d i ↦{fullShare} f) : sProp 𝕄)
    ⊢ iprop((∃ f, bLoc d i ↦[bSet 0]{fullShare} f) ∗ ∃ f, bLoc d i ↦[bSet 1]{fullShare} f) := by
  rw [show (Finset.univ : Finset (Idx (bLoc d i))) = bSet 0 ∪ bSet 1 from bSet_union.symm]
  iintro ⟨%f, H⟩
  ihave H := (pointsTo_union (ℓ := bLoc d i) bSet_disj).1 $$ H
  icases H with ⟨H, H'⟩
  isplitl [H]
  · iexists f; iexact H
  iexists f; iexact H'
theorem b_join : (iprop((∃ f, bLoc d i ↦[bSet 0]{fullShare} f) ∗ ∃ f, bLoc d i ↦[bSet 1]{fullShare} f) : sProp 𝕄)
    ⊢ iprop(∃ f, bLoc d i ↦{fullShare} f) := by
  rw [show (Finset.univ : Finset (Idx (bLoc d i))) = bSet 0 ∪ bSet 1 from bSet_union.symm]
  iintro ⟨⟨%f, H⟩, %g, H'⟩
  iexists _
  iapply (pointsTo_join (ℓ := bLoc d i) (f := f) (g := g) bSet_disj)
  isplitl [H]; · iexact H
  iexact H'

end

/-! ## The tile -/

/-- The two halves of a share. -/
def half (q : PosShare TreeShare) (p : Fin 2) : PosShare TreeShare := if p.val = 0 then q.left else q.right

theorem words_start : words 0 = (Scalar.addi 0#32 1#32, 0#32, 0#32, 0#32, 0#32) := by decide +kernel
theorem words_end : words 32 = (wd 32, wd 32, wd 32, wd 31, wd 0) := by decide +kernel

section

variable [FloatOps F]
variable (d : Dev nD) (i : grid0.Coords)
variable (X : S131072x256.Idx → Elt F .f32) (I : S1x131072.Idx → Elt F .i32) (f₀ : S131072x256.Idx → Elt F .f32)
variable (q : PosShare TreeShare)

/-- What a tile is handed: its share of the rows and of their numbers, and its rows of the result at `f`. -/
def TileRes (f : S131072x256.Idx → Elt F .f32) : sProp 𝕄 :=
  iprop((xLoc d ↦{q} X) ∗ (iLoc d ↦{q} I) ∗ oLoc d ↦[oRange (blk i 0) (blk i 32)]{fullShare} f)

theorem done_start : (iprop(emp) : sProp 𝕄) ⊢ Done d i X I 0 := by
  unfold Done
  rw [show oRange (blk i 0) (blk i (0 - 1)) = ∅ by
    ext x; simp only [Finset.mem_filter, Finset.mem_univ, true_and, Finset.notMem_empty, iff_false]
    show ¬ (blk i 0 ≤ (x 0).val / 128 ∧ (x 0).val / 128 < blk i 0)
    omega]
  rw [pointsTo_empty]

/-- The first fetch, over the program's windows. -/
theorem fetch_at (n : Fin 1024) (p : Fin 2) (r : PosShare TreeShare) (Q : PUnit → sProp 𝕄)
    {src : Memref sig .scVector .hbm S1x128 .i32} {dst : Memref sig .scVector .vmem S1x128 .i32} {sem : DmaSem sig}
    {h1 : src.view.WordExact} {h2 : dst.view.WordExact} {h3 : DmaTarget.Typed (nD := nD) (p := (tile d i).2) .hbm (.dma sem) (.here dst)}
    (hsrc : src = iBlk n) (hdst : dst = aSlot p) (hsem : sem = aSem p) :
    iprop((∃ f, aLoc d i ↦[aSet p]{fullShare} f) ∗ semVal (tile d i, .dma (aSem p)) 0 ∗ (iLoc d ↦{r} I)
        ∗ ((FA d i I n p r ∗ iLoc d ↦[Finset.univ \ iSet n.val]{r} I) -∗ Q ⟨⟩))
      ⊢ wp frame (wpE (defs₀ (F := F)) 𝒱₀ (tile d i) none) Set.univ
          (Prog.lift (.enqueueDma src (.here dst) (.dma sem) h1 h2 h3)) Q := by
  subst hsrc hdst hsem
  exact fetch_step d i I n p r Q h1 h2 h3

/-- The last wait, over the program's windows. -/
theorem last_at (n : Fin 1024) (p : Fin 2) (O : CellTallies nD τ sig (HIx 1)) (W : Waits sig (HIx 1)) (Q : PUnit → sProp 𝕄)
    {src : Memref sig .scVector .vmem S128x256 .f32} {dst : Memref sig .scVector .hbm S128x256 .f32} {sem : DmaSem sig}
    {h1 : src.view.WordExact} {h2 : dst.view.WordExact}
    (hsrc : src = bSlot p) (hdst : dst = oBlk n) (hsem : sem = bSem p) :
    iprop(Transfers.MayWaits (tile d i) (none : HIx 1) O ∗ FB d i X I n p ∗ Owe d i O W
        ∗ (((oLoc d ↦[oSet n.val]{fullShare} G X I) ∗ (bLoc d i ↦[bSet p]{fullShare} GB X I n.val)
            ∗ semVal (tile d i, .dma (bSem p)) 0 ∗ Owe d i O W) -∗ Q ⟨⟩))
      ⊢ wp frame (wpE (defs₀ (F := F)) 𝒱₀ (tile d i) none) Set.univ
          (Prog.lift (.waitDma2 sem src dst h1 h2)) Q := by
  subst hsrc hdst hsem
  exact out_wait d i X I n p O W Q h1 h2

set_option maxHeartbeats 4000000 in
/-- The tile's program. -/
theorem tile_body (hF : (K (F := F)).Facts) (hI : ∀ x, (show BitVec 32 from I x).toNat < 131072)
    (O : CellTallies nD τ sig (HIx 1)) (W : Waits sig (HIx 1)) (hO : ∀ g, O g none = 0) :
    iprop(levAts (K (F := F)).L (K (F := F)).lev ∗ emp ∗ TileRes d i X I q f₀
        ∗ scopedBufs (tile d i) ∗ scopedSems0 (tile d i) ∗ owes (tile d i) O W)
      ⊢ wp frame (wpE (defs₀ (F := F)) 𝒱₀ (tile d i) none) Set.univ
          (cc0_gather i xW (Memref.isWhole_whole _) iW (Memref.isWhole_whole _) oW (Memref.isWhole_whole _)
            aW (Memref.isWhole_whole _) cc0_scoped1 bW (Memref.isWhole_whole _) cc0_scoped3 cc0_scoped4 cc0_scoped5)
          fun _ => iprop(TileRes d i X I q (G X I)
            ∗ scopedBufs (tile d i) ∗ scopedSems0 (tile d i)
            ∗ ∃ W', ⌜∀ p ∈ W', p ∈ W ∨ p.2 = none⌝ ∗ owes (tile d i) O W') := by
  simp only [cc0_gather_eq_skeleton]
  unfold cc0_gather_skel
  simp only [k0_part4_eq_skeleton, k0_part5_eq_skeleton]
  unfold k0_part4_skel k0_part5_skel
  rw [(K (F := F)).scopedBufs_V hF d (cV i) (jV i), SparseCore.Cfg.scopedSems0_V (Val := Elt F) d (cV i) (jV i), ownSems0_tile, ownBufs_tile]
  iintro ⟨#Hlv, -, HR, ⟨Ha, Hb, Hbufs⟩, ⟨Hs0, Hs1, Hs2, Hs3, Hs4, Hs5, Hsems⟩, HO⟩
  unfold TileRes
  icases HR with ⟨HX, Hi, Ho⟩
  ihave Hmw := (show levAts (K (F := F)).L (K (F := F)).lev ⊢ Transfers.MayWaits (tile d i) (none : HIx 1) O from
    (K (F := F)).mayWaits_none (thr := tile d i) hO) $$ Hlv
  icases Hmw with #Hm
  ihave Ha := (a_split d i) $$ Ha
  icases Ha with ⟨Ha0, Ha1⟩
  ihave Hb := (b_split d i) $$ Hb
  icases Hb with ⟨Hb0, Hb1⟩
  ihave Hi := (pointsTo_share (ℓ := iLoc d) (PosShare.mem_left_op_right q)).1 $$ Hi
  icases Hi with ⟨Hi0, Hi1⟩
  simp only [wp_bind]
  iapply (fetch_at d i I (blkF i 0) 0 (half q 0) _
    (iBlk_of _ (by rw [blkF_val i (by decide)]; exact off2_eq i)) (aSlot_of _ off1_eq) (aSem_of _ off3_eq))
  isplitl [Ha0]; · iexact Ha0
  isplitl [Hs0]; · iexact Hs0
  isplitl [Hi0]; · iexact Hi0
  iintro HA
  simp only [wp_pure]
  imodintro
  unfold Scf.Loop.for
  iapply (Scf.wp_for (Fr := frame) (wpE := wpE (defs₀ (F := F)) 𝒱₀ (tile d i) none) (Es := Set.univ) _ _ _ _ _ _
    (Inv d i X I f₀ (half q) q O W) (trip d i X I f₀ (half q) q hI O W))
  isplitl [HX Ho HA Ha1 Hs1 Hi1 Hb0 Hb1 Hs2 Hs3 Hs4 Hs5 HO]
  · unfold Inv
    isplitr; · ipureintro; exact words_start.symm
    isplitr; · iexact Hm
    isplitl [HA]
    · unfold NextA AFly; rw [if_pos (by decide)]; iexact HA
    isplitl [Ha1 Hs1 Hi1]
    · unfold AFree
      isplitl [Ha1]; · iexact Ha1
      isplitl [Hs1]; · iexact Hs1
      iexact Hi1
    isplitl [Hb0 Hs2]
    · unfold BFree
      isplitl [Hb0]; · iexact Hb0
      iexact Hs2
    isplitl [Hb1 Hs3]
    · unfold PrevB BFree; rw [if_neg (by decide)]
      isplitl [Hb1]; · iexact Hb1
      iexact Hs3
    isplitl [Hs4]; · iexact Hs4
    isplitl [Hs5]; · iexact Hs5
    isplitl [HX]; · iexact HX
    isplitl [Ho]; · unfold Todo; iexact Ho
    isplitr; · iapply (done_start d i X I); iempintro
    unfold Owe
    iexists W
    isplitr; · ipureintro; exact fun p hp => .inl hp
    iexact HO
  iintro %acc HI
  rw [show Scf.trips k0_t1_loop.lb k0_t1_loop.ub k0_t1_loop.st = 32 from trips_eq]
  unfold Inv
  icases HI with ⟨%hacc, -, HA, HA', HB, HP, Hs4, Hs5, HX, -, HD, HO⟩
  rw [words_end] at hacc
  subst hacc
  iapply (assume_at d i (chk5_ok i))
  iapply (assume_at d i chk4_ok)
  imodintro
  iapply (last_at d i X I (blkF i 31) 1 O W _ (bSlot_of _ off21_eq)
    (oBlk_of _ (by rw [blkF_val i (by decide)]; exact off19_eq i)) (bSem_of _ off20_eq))
  isplitr; · iexact Hm
  isplitl [HP]
  · iapply (show PrevB d i X I 32 ⊢ FB d i X I (blkF i 31) 1 by
      unfold PrevB; rw [if_pos (by decide)]; exact .rfl)
    iexact HP
  isplitl [HO]; · iexact HO
  iintro ⟨Ho, Hb1, Hs3, HO⟩
  imodintro
  ihave HD := (done_put d i X I 32 (by decide) (by decide)) $$ [Ho HD]
  · isplitl [Ho]; · iexact Ho
    iexact HD
  ihave HA := (show NextA d i I (half q) 32 ⊢ AFree d i I (half q) 0 by
    unfold NextA; rw [if_neg (by decide)]; exact .rfl) $$ HA
  unfold AFree BFree
  icases HA with ⟨Ha0, Hs0, Hi0⟩
  icases HA' with ⟨Ha1, Hs1, Hi1⟩
  icases HB with ⟨Hb0, Hs2⟩
  isplitl [HX Hi0 Hi1 HD]
  · isplitl [HX]; · iexact HX
    isplitl [Hi0 Hi1]
    · iapply (pointsTo_share (ℓ := iLoc d) (PosShare.mem_left_op_right q)).2
      isplitl [Hi0]; · iexact Hi0
      iexact Hi1
    iapply (show Done d i X I (32 + 1) ⊢ (oLoc d ↦[oRange (blk i 0) (blk i 32)]{fullShare} G X I : sProp 𝕄) from .rfl)
    iexact HD
  isplitl [Ha0 Ha1 Hb0 Hb1 Hbufs]
  · isplitl [Ha0 Ha1]
    · iapply (a_join d i)
      isplitl [Ha0]; · iexact Ha0
      iexact Ha1
    isplitl [Hb0 Hb1]
    · iapply (b_join d i)
      isplitl [Hb0]; · iexact Hb0
      iexists _; iexact Hb1
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  unfold Owe
  iexact HO

end

end Cert.KernelIdeal
-- ==== Proof.Launch.lean ====
module
public import proofs.«01_k».proof.Proof.Tile
public import Idealize.ShloMosaic.Lib.ShareLeaves

/-!
The launch: the host's operations before the call, the call dealt to the thirty-two tiles and taken
back, the host's reshape after it.

The rows and their numbers go out as thirty-two shares, the result as thirty-two runs of 4096 rows.
-/

@[expose] public section

set_option maxRecDepth 20000

noncomputable section

namespace Cert.KernelIdeal

open Cert.KernelIdeal.Gen
open Idealize.ShloMosaic Idealize.ShloMosaic.ValueIdx Idealize.ShloMosaic.TcCoe
open Idealize.ShloMosaic.SparseCore (V)
open Idealize.ShloMosaic.SparseCore.Cfg (HIx Pay)
open Idealize.ShloMosaic.StableHlo (held seq seqK after)
open Idealize.ShloMosaic.Pipeline (ucRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The set-up -/

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-- The tile of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## Dealing the three arrays to the tiles -/

/-- Tile `s` of core `c` takes this share of the rows and of their numbers. -/
def shareOf (c : Fin 2) (s : Fin 16) : PosShare TreeShare := leaf 4 (leaf 1 fullShare c) s

theorem deal_share {ℓ : Loc nD τ sig} (f : Buf (Elt F) ℓ) :
    (ℓ ↦{fullShare} f : sProp 𝕄)
      = bigSep Finset.univ fun c : Fin 2 => bigSep Finset.univ fun s : Fin 16 => ℓ ↦{shareOf c s} f := by
  refine (pointsTo_leaves Finset.univ f 1 fullShare).trans ?_
  exact bigSep_congr fun c _ => pointsTo_leaves Finset.univ f 4 (leaf 1 fullShare c)

/-- The rows of core `c`. -/
def coreRows (c : Fin 2) : Finset S131072x256.Idx := oRange (512 * c.val) (512 * c.val + 512)
/-- The rows of tile `s` of core `c`. -/
def tileRows (c : Fin 2) (s : Fin 16) : Finset S131072x256.Idx := oRange (blk (coordsV c s) 0) (blk (coordsV c s) 32)

theorem mem_oRange (lo hi : ℕ) (x : S131072x256.Idx) : x ∈ oRange lo hi ↔ lo ≤ (x 0).val / 128 ∧ (x 0).val / 128 < hi :=
  Finset.mem_filter.trans ⟨fun h => h.2, fun h => ⟨Finset.mem_univ _, h⟩⟩

theorem mem_tileRows (c : Fin 2) (s : Fin 16) (x : S131072x256.Idx) :
    x ∈ tileRows c s ↔ 32 * (16 * c.val + s.val) ≤ (x 0).val / 128 ∧ (x 0).val / 128 < 32 * (16 * c.val + s.val) + 32 :=
  mem_oRange _ _ x

theorem deal_rows (d : Dev nD) (f : Buf (Elt F) (oLoc d)) :
    (oLoc d ↦{fullShare} f : sProp 𝕄)
      = bigSep Finset.univ fun c : Fin 2 => bigSep Finset.univ fun s : Fin 16 => oLoc d ↦[tileRows c s]{fullShare} f := by
  have h1 : (Finset.univ : Finset (Idx (oLoc d))) = Finset.univ.biUnion coreRows := by
    refine Finset.ext fun (x : S131072x256.Idx) => ⟨fun _ => ?_, fun _ => Finset.mem_univ _⟩
    have h0 : (x 0).val < 131072 := (x 0).isLt
    refine Finset.mem_biUnion.mpr ⟨(⟨(x 0).val / 65536, by omega⟩ : Fin 2), Finset.mem_univ _, (mem_oRange _ _ x).mpr ?_⟩
    show 512 * ((x 0).val / 65536) ≤ (x 0).val / 128 ∧ (x 0).val / 128 < 512 * ((x 0).val / 65536) + 512
    omega
  have h2 : ∀ c : Fin 2, coreRows c = Finset.univ.biUnion (tileRows c) := by
    refine fun c => Finset.ext fun (x : S131072x256.Idx) => ⟨fun h => ?_, fun h => ?_⟩
    · have h := (mem_oRange _ _ x).mp h
      refine Finset.mem_biUnion.mpr ⟨(⟨((x 0).val / 128 - 512 * c.val) / 32, by omega⟩ : Fin 16), Finset.mem_univ _, (mem_tileRows _ _ x).mpr ?_⟩
      show 32 * (16 * c.val + ((x 0).val / 128 - 512 * c.val) / 32) ≤ (x 0).val / 128
        ∧ (x 0).val / 128 < 32 * (16 * c.val + ((x 0).val / 128 - 512 * c.val) / 32) + 32
      omega
    · obtain ⟨s, -, h⟩ := Finset.mem_biUnion.mp h
      have h := (mem_tileRows _ _ x).mp h
      have := s.isLt
      exact (mem_oRange _ _ x).mpr (by omega)
  have d1 : ∀ c ∈ (Finset.univ : Finset (Fin 2)), ∀ c' ∈ (Finset.univ : Finset (Fin 2)), c ≠ c' → Disjoint (coreRows c) (coreRows c') := by
    intro c _ c' _ hn
    rw [Finset.disjoint_left]
    intro x hx hy
    have hx := (mem_oRange _ _ x).mp hx
    have hy := (mem_oRange _ _ x).mp hy
    exact hn (Fin.ext (by omega))
  have d2 : ∀ c : Fin 2, ∀ s ∈ (Finset.univ : Finset (Fin 16)), ∀ s' ∈ (Finset.univ : Finset (Fin 16)), s ≠ s' → Disjoint (tileRows c s) (tileRows c s') := by
    intro c s _ s' _ hn
    rw [Finset.disjoint_left]
    intro x hx hy
    have hx := (mem_tileRows _ _ x).mp hx
    have hy := (mem_tileRows _ _ x).mp hy
    exact hn (Fin.ext (by omega))
  rw [h1]
  refine (pointsTo_biUnion Finset.univ (ℓ := oLoc d) coreRows d1).trans (bigSep_congr fun c _ => ?_)
  rw [h2]
  exact pointsTo_biUnion Finset.univ (ℓ := oLoc d) (tileRows c) (d2 c)

/-- The three arrays are what the thirty-two tiles are handed. -/
theorem deal (d : Dev nD) (X : S131072x256.Idx → Elt F .f32) (I : S1x131072.Idx → Elt F .i32) (f : S131072x256.Idx → Elt F .f32) :
    (iprop((xLoc d ↦{fullShare} X) ∗ (iLoc d ↦{fullShare} I) ∗ oLoc d ↦{fullShare} f) : sProp 𝕄)
      = bigSep Finset.univ fun c : Fin 2 => bigSep Finset.univ fun s : Fin 16 =>
          TileRes d (coordsV c s) X I (shareOf c s) f := by
  rw [deal_share (ℓ := xLoc d), deal_share (ℓ := iLoc d), deal_rows, ← bigSep_sep', ← bigSep_sep']
  refine bigSep_congr fun c _ => ?_
  rw [← bigSep_sep', ← bigSep_sep']
  rfl

/-! ## The host's operations -/

section

variable [FloatOps F]
variable (m : (ℓ : Loc nD τ sig) → Buf (Elt F) ℓ) (ρ : Dev nD → PrngReg)

/-- The operations before the call: the row numbers, and the rows as one list. -/
abbrev preOps : List (HloOp τ sig (Elt F)) :=
  [ StableHlo.nullary main_v0 (iotaInDim S4 32 0),
    StableHlo.unary main_v0 main_v1 (broadcastInDim S4x1 ![0] bcast_S4_S4x1_0 : (⟨S4, .i32⟩ : BufTy).Contents (Elt F) → (⟨S4x1, .i32⟩ : BufTy).Contents (Elt F)),
    StableHlo.nullary main_c (constantI S_ 32 32768#32),
    StableHlo.unary main_c main_v2 (broadcastInDim S4x1 ![] bcast_S_S4x1 : (⟨S_, .i32⟩ : BufTy).Contents (Elt F) → (⟨S4x1, .i32⟩ : BufTy).Contents (Elt F)),
    StableHlo.binary main_v1 main_v2 main_v3 (muli : (⟨S4x1, .i32⟩ : BufTy).Contents (Elt F) → (⟨S4x1, .i32⟩ : BufTy).Contents (Elt F) → (⟨S4x1, .i32⟩ : BufTy).Contents (Elt F)),
    StableHlo.unary main_arg1 main_v4 (broadcastInDim S1x32768 ![1] bcast_S32768_S1x32768_1 : (⟨S32768, .i32⟩ : BufTy).Contents (Elt F) → (⟨S1x32768, .i32⟩ : BufTy).Contents (Elt F)),
    StableHlo.unary main_v3 main_v5 (broadcastInDim S4x32768 ![0, 1] bcast_S4x1_S4x32768_0_1 : (⟨S4x1, .i32⟩ : BufTy).Contents (Elt F) → (⟨S4x32768, .i32⟩ : BufTy).Contents (Elt F)),
    StableHlo.unary main_v4 main_v6 (broadcastInDim S4x32768 ![0, 1] bcast_S1x32768_S4x32768_0_1 : (⟨S1x32768, .i32⟩ : BufTy).Contents (Elt F) → (⟨S4x32768, .i32⟩ : BufTy).Contents (Elt F)),
    StableHlo.binary main_v5 main_v6 main_v7 (addi : (⟨S4x32768, .i32⟩ : BufTy).Contents (Elt F) → (⟨S4x32768, .i32⟩ : BufTy).Contents (Elt F) → (⟨S4x32768, .i32⟩ : BufTy).Contents (Elt F)),
    StableHlo.reshape main_v7 main_v8 (rfl : (.i32 : EltTy) = .i32) shapeCasts_S4x32768_S1x131072,
    StableHlo.reshape main_arg0 main_v9 (rfl : (.f32 : EltTy) = .f32) shapeCasts_S4x32768x256_S131072x256 ]

/-- The operation after it. -/
abbrev postOps : List (HloOp τ sig (Elt F)) :=
  [ StableHlo.reshape main_v10 main_v11 (rfl : (.f32 : EltTy) = .f32) shapeCasts_S131072x256_S4x32768x256 ]

theorem preOps_sub : (preOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub ..,
    StableHlo.binary_bufs_sub .., StableHlo.unary_bufs_sub .., StableHlo.unary_bufs_sub .., StableHlo.unary_bufs_sub ..,
    StableHlo.binary_bufs_sub .., StableHlo.reshape_bufs_sub .., StableHlo.reshape_bufs_sub ..⟩
theorem postOps_sub : (postOps : List (HloOp τ sig (Elt F))).Forall fun op => op.bufs ⊆ StableHlo.tcRefs τ sig :=
  StableHlo.reshape_bufs_sub ..

theorem preOps_uc : ∀ op ∈ (preOps : List (HloOp τ sig (Elt F))), op.bufs ⊆ ucRefs τ sig :=
  fun op h => Pipeline.sub_ucRefs op (List.forall_iff_forall_mem.mp preOps_sub op h)
theorem postOps_uc : ∀ op ∈ (postOps : List (HloOp τ sig (Elt F))), op.bufs ⊆ ucRefs τ sig :=
  fun op h => Pipeline.sub_ucRefs op (List.forall_iff_forall_mem.mp postOps_sub op h)
theorem preOps_fresh : ∀ op ∈ (preOps : List (HloOp τ sig (Elt F))), op.fresh = ∅ := by
  intro _ h; (repeat (cases h with | head => rfl | tail _ h => ?_)); exact nomatch h
theorem postOps_fresh : ∀ op ∈ (postOps : List (HloOp τ sig (Elt F))), op.fresh = ∅ := by
  intro _ h; (repeat (cases h with | head => rfl | tail _ h => ?_)); exact nomatch h

abbrev dv (b : Ref sig .tc) : DevRef τ sig := Proc.devRef .tc b

/-- The launch's contents; those before the call; those after it; those at the end. -/
def V0 (d : Dev nD) : Valuation τ sig (Elt F) := fun b => m (d, b)
def V1 (d : Dev nD) : Valuation τ sig (Elt F) := after preOps (V0 m d)
/-- The rows, as the call reads them. -/
def X1 (d : Dev nD) : S131072x256.Idx → Elt F .f32 := V1 m d (dv main_v9)
/-- The row numbers, as the call reads them. -/
def I1 (d : Dev nD) : S1x131072.Idx → Elt F .i32 := V1 m d (dv main_v8)
/-- The result's array before the call. -/
def O1 (d : Dev nD) : S131072x256.Idx → Elt F .f32 := V1 m d (dv main_v10)
def V2 (d : Dev nD) : Valuation τ sig (Elt F) := Function.update (V1 m d) (dv main_v10) (G (X1 m d) (I1 m d))
def V3 (d : Dev nD) : Valuation τ sig (Elt F) := after postOps (V2 m d)

/-- Every number names a row. -/
def InRange : Prop := ∀ d x, (show BitVec 32 from I1 m d x).toNat < 131072

/-! ## What the handshakes carry -/

def P : (K (F := F)).Pay (nD := nD) (Val := Elt F) (Name := ℕ) (U := UU) where
  st := fun q d c => match q with
    | 0 => bigSep Finset.univ fun s : Fin 16 => TileRes d (coordsV c s) (X1 m d) (I1 m d) (shareOf c s) (O1 m d)
  dn := fun q d c => match q with
    | 0 => bigSep Finset.univ fun s : Fin 16 => TileRes d (coordsV c s) (X1 m d) (I1 m d) (shareOf c s) (G (X1 m d) (I1 m d))
  go := fun q d c s => match q with
    | 0 => TileRes d (coordsV c s) (X1 m d) (I1 m d) (shareOf c s) (O1 m d)
  td := fun q d c s => match q with
    | 0 => TileRes d (coordsV c s) (X1 m d) (I1 m d) (shareOf c s) (G (X1 m d) (I1 m d))
  x := fun _ _ => iprop(emp)

instance tileRes_storable (d : Dev nD) (i : grid0.Coords) (X : S131072x256.Idx → Elt F .f32) (I : S1x131072.Idx → Elt F .i32)
    (q : PosShare TreeShare) (f : S131072x256.Idx → Elt F .f32) : BI.Storable (upEmb : UEmb _ 𝕄) (TileRes d i X I q f) :=
  (inferInstance : BI.Storable (upEmb : UEmb _ 𝕄)
    iprop((xLoc d ↦{q} X) ∗ (iLoc d ↦{q} I) ∗ oLoc d ↦[oRange (blk i 0) (blk i 32)]{fullShare} f))

instance tiles_storable (d : Dev nD) (c : Fin 2) (X : S131072x256.Idx → Elt F .f32) (I : S1x131072.Idx → Elt F .i32)
    (f : S131072x256.Idx → Elt F .f32) :
    BI.Storable (upEmb : UEmb _ 𝕄) (bigSep Finset.univ fun s : Fin 16 => TileRes d (coordsV c s) X I (shareOf c s) f) :=
  have := fun s : Fin 16 => tileRes_storable d (coordsV c s) X I (shareOf c s) f
  BI.Storable.bigSep (upEmb : UEmb _ 𝕄) Finset.univ _

instance P_storable : (P (F := F) m).IsStorable where
  st q d c := match q with
    | 0 => tiles_storable d c (X1 m d) (I1 m d) (O1 m d)
  dn q d c := match q with
    | 0 => tiles_storable d c (X1 m d) (I1 m d) (G (X1 m d) (I1 m d))
  go q d c s := match q with
    | 0 => tileRes_storable d (coordsV c s) (X1 m d) (I1 m d) (shareOf c s) (O1 m d)
  td q d c s := match q with
    | 0 => tileRes_storable d (coordsV c s) (X1 m d) (I1 m d) (shareOf c s) (G (X1 m d) (I1 m d))

/-! ## The tiles -/

theorem defs₀_vector (c : Fin τ.nSC) (s : Fin τ.nSub) :
    defs₀ (F := F) (.scVector c s) 0 ()
      = SparseCore.onTile hcore0 hsub0 (fun c s => cc0_gather (coordsV c s)
          xW (Memref.isWhole_whole _) iW (Memref.isWhole_whole _) oW (Memref.isWhole_whole _)
          aW (Memref.isWhole_whole _) cc0_scoped1 bW (Memref.isWhole_whole _) cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hI : InRange m) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X1 m d) (I1 m d) (O1 m d) (shareOf c s) facts (hI d) O W hO).trans
    (wp_mono frame _ _ fun _ => obl_post)

theorem vecSplit : (K (F := F)).VecSplit' (P m) 0 := by
  intro d c
  show (bigSep Finset.univ fun s : Fin 16 => TileRes d (coordsV c s) (X1 m d) (I1 m d) (shareOf c s) (O1 m d))
    ⊢ |={Set.univ}=> iprop((bigSep Finset.univ fun s : Fin 16 => TileRes d (coordsV c s) (X1 m d) (I1 m d) (shareOf c s) (O1 m d))
      ∗ ((bigSep Finset.univ fun s : Fin 16 => TileRes d (coordsV c s) (X1 m d) (I1 m d) (shareOf c s) (G (X1 m d) (I1 m d)))
        -∗ bigSep Finset.univ fun s : Fin 16 => TileRes d (coordsV c s) (X1 m d) (I1 m d) (shareOf c s) (G (X1 m d) (I1 m d))))
  iintro H; imodintro
  isplitl [H]; · iexact H
  iintro H; iexact H

/-! ## The launch element of the ghost state -/

def u₀ : UU := (initOf (K (F := F)).hsCells (K (F := F)).hsToks, 1)

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem main_eq (d : Dev nD) :
    main (F := F) d = seqK preOps (sc.run d 0 >>= fun _ => seqK postOps (pure ⟨⟩)) := rfl

abbrev S3 : Finset (DevRef τ sig) := {dv main_v9, dv main_v8, dv main_v10}
abbrev E3 : Finset (DevRef τ sig) := {dv main_arg0, dv main_arg1, dv main_v11}

theorem uc_mem {b : Ref sig .tc} (h : b.isScoped = false) : dv b ∈ ucRefs τ sig :=
  Finset.mem_filter.mpr ⟨StableHlo.devRef_mem_tcRefs b, by rw [Proc.isScoped_devRef, h]; exact Bool.false_ne_true⟩

theorem S3_sub : S3 ⊆ ucRefs τ sig := by
  intro b hb
  rcases Finset.mem_insert.mp hb with rfl | hb
  · exact uc_mem rfl
  rcases Finset.mem_insert.mp hb with rfl | hb
  · exact uc_mem rfl
  · rw [Finset.mem_singleton.mp hb]; exact uc_mem rfl
theorem E3_sub : E3 ⊆ ucRefs τ sig := by
  intro b hb
  rcases Finset.mem_insert.mp hb with rfl | hb
  · exact uc_mem rfl
  rcases Finset.mem_insert.mp hb with rfl | hb
  · exact uc_mem rfl
  · rw [Finset.mem_singleton.mp hb]; exact uc_mem rfl

theorem held_S3 (d : Dev nD) (W : Valuation τ sig (Elt F)) :
    (held (SparseCore.T d) S3 W : sProp 𝕄)
      = iprop((xLoc d ↦{fullShare} W (dv main_v9)) ∗ (iLoc d ↦{fullShare} W (dv main_v8)) ∗ oLoc d ↦{fullShare} W (dv main_v10)) := by
  unfold held S3
  rw [SparseCore.bigSep_insert' (by decide), SparseCore.bigSep_insert' (by decide), bigSep_singleton]
theorem held_E3 (d : Dev nD) (W : Valuation τ sig (Elt F)) :
    (held (SparseCore.T d) E3 W : sProp 𝕄)
      = iprop(((SparseCore.T d).loc main_arg0 ↦{fullShare} W (dv main_arg0)) ∗ ((SparseCore.T d).loc main_arg1 ↦{fullShare} W (dv main_arg1))
          ∗ (SparseCore.T d).loc main_v11 ↦{fullShare} W (dv main_v11)) := by
  unfold held E3
  rw [SparseCore.bigSep_insert' (by decide), SparseCore.bigSep_insert' (by decide), bigSep_singleton]

theorem st0_eq (d : Dev nD) : (bigSep Finset.univ fun c : Fin ((K (F := F)).nCore 0) => (P m).st 0 d c)
    = (held (SparseCore.T d) S3 (V1 m d) : sProp 𝕄) := by
  rw [held_S3]; exact (deal d (X1 m d) (I1 m d) (O1 m d)).symm
theorem dn0_eq (d : Dev nD) : (bigSep Finset.univ fun c : Fin ((K (F := F)).nCore 0) => (P m).dn 0 d c)
    = (held (SparseCore.T d) S3 (V2 m d) : sProp 𝕄) := by
  have h10 : V2 m d (dv main_v10) = G (X1 m d) (I1 m d) := Function.update_self ..
  have h9 : V2 m d (dv main_v9) = X1 m d := Function.update_of_ne (show dv main_v9 ≠ dv main_v10 by decide) _ _
  have h8 : V2 m d (dv main_v8) = I1 m d := Function.update_of_ne (show dv main_v8 ≠ dv main_v10 by decide) _ _
  rw [held_S3, h10, h9, h8]; exact (deal d (X1 m d) (I1 m d) (G (X1 m d) (I1 m d))).symm

theorem rest_eq (d : Dev nD) : (held (SparseCore.T d) (ucRefs τ sig \ S3) (V1 m d) : sProp 𝕄)
    = held (SparseCore.T d) (ucRefs τ sig \ S3) (V2 m d) :=
  StableHlo.held_congr _ fun b hb => (Function.update_of_ne (fun e => (Finset.mem_sdiff.mp hb).2 (by rw [e]; decide)) _ _).symm

theorem unscoped_held (d : Dev nD) :
    (unscopedBufs d (fun b => m ((SparseCore.T d).loc b)) : sProp 𝕄) = held (SparseCore.T d) (ucRefs τ sig) (V0 m d) :=
  Pipeline.unscopedBufs_held d (V0 m d)

abbrev FIN (d : Dev nD) : sProp 𝕄 := held (SparseCore.T d) E3 (V3 m d)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq, ← StableHlo.seq_bind_seqK, ← StableHlo.seq_bind_seqK]
  iintro ⟨#Hctx, Hst, ⟨Hb, Hh, Hts, -⟩, -⟩
  iapply (StableHlo.wp_seq 𝒱 none Set.univ d (ucRefs τ sig) _ preOps preOps_uc preOps_fresh (V0 m d)) $$ [Hb Hh]
  · isplitl [Hb] <;> iassumption
  iintro ⟨Hb, Hh⟩
  rw [wp_bind]
  ihave Hh' := (show (held (SparseCore.T d) (ucRefs τ sig) (after preOps (V0 m d)) : sProp 𝕄)
      ⊢ iprop((bigSep Finset.univ fun c : Fin ((K (F := F)).nCore 0) => (P m).st 0 d c) ∗ held (SparseCore.T d) (ucRefs τ sig \ S3) (V1 m d)) from
    Entails.of_eq (by rw [st0_eq]; exact StableHlo.held_sub_split _ S3_sub (V1 m d))) $$ Hh
  icases Hh' with ⟨Hs, Hr⟩
  iapply ((K (F := F)).wp_run (D (F := F)) 𝒱 (EH := EH) (P := P m) κ d 0) $$ [Hst Hs Hr Hb Hts]
  isplitr; · iexact Hctx
  isplitl [Hst]; · iexact Hst
  isplitl [Hs]; · iexact Hs
  iintro ⟨Hst, Hdn⟩
  ihave Hh := (show iprop((bigSep Finset.univ fun c : Fin ((K (F := F)).nCore 0) => (P m).dn 0 d c) ∗ held (SparseCore.T d) (ucRefs τ sig \ S3) (V1 m d))
      ⊢ (held (SparseCore.T d) (ucRefs τ sig) (V2 m d) : sProp 𝕄) from
    Entails.of_eq (by rw [dn0_eq, rest_eq]; exact (StableHlo.held_sub_split _ S3_sub (V2 m d)).symm)) $$ [Hdn Hr]
  · isplitl [Hdn] <;> iassumption
  iapply (StableHlo.wp_seq 𝒱 none Set.univ d (ucRefs τ sig) _ postOps postOps_uc postOps_fresh (V2 m d)) $$ [Hb Hh]
  · isplitl [Hb] <;> iassumption
  iintro ⟨Hb, Hh⟩
  simp only [wp_pure]
  imodintro
  ihave Hh' := (show (held (SparseCore.T d) (ucRefs τ sig) (after postOps (V2 m d)) : sProp 𝕄)
      ⊢ iprop(FIN m d ∗ held (SparseCore.T d) (ucRefs τ sig \ E3) (V3 m d)) from
    Entails.of_eq (StableHlo.held_sub_split _ E3_sub (V3 m d))) $$ Hh
  icases Hh' with ⟨Hf, -⟩
  isplitl [Hst]; · iexact Hst
  isplitl [Hf]; · iexact Hf
  isplitl [Hb] <;> iassumption

/-! ## The run -/

def fq (d : Dev nD) (s' : Phys nD τ sig (Elt F)) : Prop :=
  s'.mem.mem ((SparseCore.T d).loc main_arg0) = V3 m d (dv main_arg0)
    ∧ s'.mem.mem ((SparseCore.T d).loc main_arg1) = V3 m d (dv main_arg1)
    ∧ s'.mem.mem ((SparseCore.T d).loc main_v11) = V3 m d (dv main_v11)

theorem hfin (d : Dev nD) (s' : Phys nD τ sig (Elt F)) : iprop(FIN m d ∗ SI s') ⊢ (⌜fq m d s'⌝ : sProp 𝕄) := by
  unfold FIN
  rw [held_E3]
  iintro ⟨⟨Ha, Hb, Hc⟩, HSI⟩
  ihave H := (persistent_entails_right (SI_pointsTo_agree (st := s') (ℓ := (SparseCore.T d).loc main_arg0) (I := Finset.univ) (q := fullShare) (f := V3 m d (dv main_arg0)))) $$ [HSI Ha]
  · isplitl [HSI] <;> iassumption
  icases H with ⟨%h1, HSI, -⟩
  ihave H := (persistent_entails_right (SI_pointsTo_agree (st := s') (ℓ := (SparseCore.T d).loc main_arg1) (I := Finset.univ) (q := fullShare) (f := V3 m d (dv main_arg1)))) $$ [HSI Hb]
  · isplitl [HSI] <;> iassumption
  icases H with ⟨%h2, HSI, -⟩
  ihave H := (SI_pointsTo_agree (st := s') (ℓ := (SparseCore.T d).loc main_v11) (I := Finset.univ) (q := fullShare) (f := V3 m d (dv main_v11))) $$ [HSI Hc]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem ((d.tc : Thread nD τ).loc main_arg0) = V3 m d (dv main_arg0)
    ∧ r.2.mem ((d.tc : Thread nD τ).loc main_arg1) = V3 m d (dv main_arg1)
    ∧ r.2.mem ((d.tc : Thread nD τ).loc main_v11) = V3 m d (dv main_v11)) ∧ r.2.sem = fun _ => 0

/-- From any memory whose numbers name rows, the program runs; its arrays end at `V3`, its counters at zero. -/
theorem run_main [∀ e, Nonempty (Elt F e)] (hI : InRange m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end

end Cert.KernelIdeal
-- ==== Proof.Value.lean ====
module
public import proofs.«01_k».proof.Proof.Launch
public import proofs.«01_k».proof.Proof.Gen.ReferenceIdeal
public import proofs.«01_k».proof.Proof.Gen.Pre_rows_in_range

/-!
What the program leaves and what the reference computes, both at one element.

Element `(p, n, c)` is element `(p, dest n, c)` of the argument, for either.
-/

@[expose] public section

set_option maxRecDepth 20000

noncomputable section

namespace Cert.KernelIdeal

open Cert.KernelIdeal.Gen
open Idealize.ShloMosaic Idealize.ShloMosaic.ValueIdx Idealize.ShloMosaic.TcCoe
open Idealize.ShloMosaic.StableHlo

variable {F : FTy → Type}

/-- An index of three places. -/
abbrev ix3 (p : Fin 4) (n : Fin 32768) (c : Fin 256) : S4x32768x256.Idx :=
  fun a => match a with | ⟨0, _⟩ => p | ⟨1, _⟩ => n | ⟨2, _⟩ => c

/-- The rows `dest` names, out of each of the four parts of `x`. -/
def gathered (x : S4x32768x256.Idx → Elt F .f32) (dest : S32768.Idx → BitVec 32) : S4x32768x256.Idx → Elt F .f32 :=
  fun y => x (ix3 (y 0) ⟨(dest (ix1 (y 1))).toNat % 32768, Nat.mod_lt _ (by omega)⟩ (y 2))

/-- Every entry of `dest` names a row. -/
def DestOK (dest : S32768.Idx → BitVec 32) : Prop := ∀ n, (dest n).toNat < 32768

/-! ## The program -/

section

variable [FloatOps F]
variable (m : (ℓ : Loc nD τ sig) → Buf (Elt F) ℓ) (d : Dev nD)

/-- The argument and the row numbers at launch. -/
def argX : S4x32768x256.Idx → Elt F .f32 := m ((SparseCore.T d).loc main_arg0)
def argI : S32768.Idx → BitVec 32 := m ((SparseCore.T d).loc main_arg1)

theorem X1_eq : X1 m d = shapeCast S131072x256 (argX m d) shapeCasts_S4x32768x256_S131072x256 := by
  unfold X1 V1
  after_results <;> rfl

theorem I1_eq : I1 m d = shapeCast S1x131072
    (addi (broadcastInDim S4x32768 ![0, 1] bcast_S4x1_S4x32768_0_1
        (muli (broadcastInDim S4x1 ![0] bcast_S4_S4x1_0 (iotaInDim S4 32 0)) (broadcastInDim S4x1 ![] bcast_S_S4x1 (constantI S_ 32 32768#32))))
      (broadcastInDim S4x32768 ![0, 1] bcast_S1x32768_S4x32768_0_1 (broadcastInDim S1x32768 ![1] bcast_S32768_S1x32768_1 (argI m d))))
    shapeCasts_S4x32768_S1x131072 := by
  unfold I1 V1
  after_results <;> rfl

theorem V1_arg0 : V1 m d (dv main_arg0) = m ((SparseCore.T d).loc main_arg0) := by
  unfold V1
  after_results <;> rfl
theorem V1_arg1 : V1 m d (dv main_arg1) = m ((SparseCore.T d).loc main_arg1) := by
  unfold V1
  after_results <;> rfl

theorem V3_arg0 : V3 m d (dv main_arg0) = m ((SparseCore.T d).loc main_arg0) := by
  refine Eq.trans ?_ (V1_arg0 m d)
  refine Eq.trans (b := V2 m d (dv main_arg0)) ?_ (Function.update_of_ne (show dv main_arg0 ≠ dv main_v10 by decide) _ _)
  unfold V3
  after_results <;> rfl
theorem V3_arg1 : V3 m d (dv main_arg1) = m ((SparseCore.T d).loc main_arg1) := by
  refine Eq.trans ?_ (V1_arg1 m d)
  refine Eq.trans (b := V2 m d (dv main_arg1)) ?_ (Function.update_of_ne (show dv main_arg1 ≠ dv main_v10 by decide) _ _)
  unfold V3
  after_results <;> rfl

theorem V3_res : V3 m d (dv main_v11) = shapeCast S4x32768x256 (G (X1 m d) (I1 m d)) shapeCasts_S131072x256_S4x32768x256 := by
  have h : V2 m d (dv main_v10) = G (X1 m d) (I1 m d) := Function.update_self ..
  refine Eq.trans ?_ (congrArg (fun g : S131072x256.Idx → Elt F .f32 => shapeCast S4x32768x256 g shapeCasts_S131072x256_S4x32768x256) h)
  unfold V3
  after_results <;> rfl

/-- The number in place `32768 p + n` is `32768 p + dest n`. -/
theorem I1_apply (p : Fin 4) (n : Fin 32768) (z : S1x131072.Idx) (hz : (z 1).val = 32768 * p.val + n.val) :
    I1 m d z = BitVec.ofNat 32 p.val * 32768#32 + argI m d (ix1 n) := by
  rw [I1_eq]
  have h0 : (z 0).val < 1 := (z 0).isLt
  rw [shapeCast_apply _ _ z (ix2 p n) (by
    rw [Shape.rowMajor_val_two, Shape.rowMajor_val_two]
    show p.val * 32768 + n.val = (z 0).val * 131072 + (z 1).val
    omega)]
  unfold addi
  rw [broadcastInDim_apply _ bcast_S4x1_S4x32768_0_1 _ (ix2 p n) (ix2 p (0 : Fin 1)) (by intro a; fin_cases a <;> rfl),
    broadcastInDim_apply _ bcast_S1x32768_S4x32768_0_1 _ (ix2 p n) (ix2 (0 : Fin 1) n) (by intro a; fin_cases a <;> rfl),
    broadcastInDim_apply _ bcast_S32768_S1x32768_1 _ (ix2 (0 : Fin 1) n) (ix1 n) (by intro a; fin_cases a; rfl)]
  rfl

theorem I1_toNat (hd : DestOK (argI m d)) (p : Fin 4) (n : Fin 32768) (z : S1x131072.Idx) (hz : (z 1).val = 32768 * p.val + n.val) :
    (show BitVec 32 from I1 m d z).toNat = 32768 * p.val + (argI m d (ix1 n)).toNat := by
  rw [I1_apply m d p n z hz]
  have h := hd (ix1 n)
  have hp := p.isLt
  show (BitVec.ofNat 32 p.val * 32768#32 + argI m d (ix1 n)).toNat = _
  rw [BitVec.toNat_add, BitVec.toNat_mul, BitVec.toNat_ofNat, BitVec.toNat_ofNat]
  omega

theorem inRange_of (hd : ∀ d, DestOK (argI m d)) : InRange m := by
  intro d z
  have h1 : (z 1).val < 131072 := (z 1).isLt
  rw [I1_toNat m d (hd d) ⟨(z 1).val / 32768, by omega⟩ ⟨(z 1).val % 32768, by omega⟩ z
    (show (z 1).val = 32768 * ((z 1).val / 32768) + (z 1).val % 32768 by omega)]
  have := hd d (ix1 (⟨(z 1).val % 32768, by omega⟩ : Fin 32768))
  show 32768 * ((z 1).val / 32768) + (argI m d (ix1 (⟨(z 1).val % 32768, _⟩ : Fin 32768))).toNat < 131072
  omega

/-- What the program leaves. -/
theorem result_eq (hd : DestOK (argI m d)) : V3 m d (dv main_v11) = gathered (argX m d) (argI m d) := by
  rw [V3_res]
  funext y
  have h0 : (y 0).val < 4 := (y 0).isLt
  have h1 : (y 1).val < 32768 := (y 1).isLt
  have h2 : (y 2).val < 256 := (y 2).isLt
  rw [shapeCast_apply _ _ y (ix2 (⟨32768 * (y 0).val + (y 1).val, by omega⟩ : Fin 131072) (⟨(y 2).val, h2⟩ : Fin 256)) (by
    rw [Shape.rowMajor_val_two, Shape.rowMajor_val_three]
    show (32768 * (y 0).val + (y 1).val) * 256 + (y 2).val = ((y 0).val * 32768 + (y 1).val) * 256 + (y 2).val
    omega)]
  have hI := I1_toNat m d hd ⟨(y 0).val, h0⟩ ⟨(y 1).val, h1⟩ (ix2 (0 : Fin 1) (⟨32768 * (y 0).val + (y 1).val, by omega⟩ : Fin 131072)) rfl
  have hn := hd (ix1 (⟨(y 1).val, h1⟩ : Fin 32768))
  show X1 m d (ix2 (rowOf (F := F) (I1 m d (ix2 (0 : Fin 1) (⟨32768 * (y 0).val + (y 1).val, by omega⟩ : Fin 131072)))) (⟨(y 2).val, h2⟩ : Fin 256)) = _
  rw [X1_eq, shapeCast_apply _ _ _ (ix3 (y 0) ⟨(argI m d (ix1 (y 1))).toNat % 32768, Nat.mod_lt _ (by omega)⟩ (y 2)) (by
    rw [Shape.rowMajor_val_two, Shape.rowMajor_val_three]
    show ((y 0).val * 32768 + (argI m d (ix1 (y 1))).toNat % 32768) * 256 + (y 2).val
      = ((show BitVec 32 from I1 m d (ix2 (0 : Fin 1) (⟨32768 * (y 0).val + (y 1).val, by omega⟩ : Fin 131072))).toNat % 131072) * 256 + (y 2).val
    rw [hI]
    show ((y 0).val * 32768 + (argI m d (ix1 (⟨(y 1).val, h1⟩ : Fin 32768))).toNat % 32768) * 256 + (y 2).val
      = ((32768 * (y 0).val + (argI m d (ix1 (⟨(y 1).val, h1⟩ : Fin 32768))).toNat) % 131072) * 256 + (y 2).val
    omega)]
  rfl

end

/-! ## The reference -/

/-- The dimension numbers of `x[:, dest]`. -/
abbrev rowsDims (wf : GatherDims.WF S4x32768x256 (⟨2, ![32768, 1]⟩ : Shape) S4x32768x256 [0, 2] [1] [] [1] [] 1 ![4, 1, 256]) :
    GatherDims S4x32768x256 (⟨2, ![32768, 1]⟩ : Shape) S4x32768x256 where
  offsetDims := [0, 2]
  collapsedSliceDims := [1]
  operandBatchingDims := []
  startIndicesBatchingDims := []
  startIndexMap := [1]
  indexVectorDim := 1
  sliceSizes := ![4, 1, 256]
  wf := wf

/-- That gather at one element: the row its number names, which lies in range. -/
theorem gather_rows (wf : GatherDims.WF S4x32768x256 (⟨2, ![32768, 1]⟩ : Shape) S4x32768x256 [0, 2] [1] [] [1] [] 1 ![4, 1, 256])
    (x : S4x32768x256.Idx → Elt F .f32) (idx : IVec (⟨2, ![32768, 1]⟩ : Shape) 32) (y : S4x32768x256.Idx)
    (w : BitVec 32) (hw : idx (ix2 (y 1) (0 : Fin 1)) = w) (hr : w.toNat < 32768) :
    Host.gather (rowsDims wf) x idx y = x (ix3 (y 0) ⟨w.toNat % 32768, Nat.mod_lt _ (by omega)⟩ (y 2)) := by
  unfold Host.gather
  refine congrArg x (funext fun a => Fin.ext ?_)
  have hb (a : Fin 3) : a ∉ (rowsDims wf).operandBatchingDims := List.not_mem_nil
  have hm1 : (1 : Fin 3) ∈ (rowsDims wf).startIndexMap := List.mem_singleton.mpr rfl
  match a with
  | ⟨0, _⟩ =>
    have hk : (0 : Fin 3) ∈ (rowsDims wf).sKept := (show (0 : Fin S4x32768x256.rank) ∈ S4x32768x256.kept ([1] ++ []) by decide)
    show (rowsDims wf).start y idx 0 + (rowsDims wf).batchCoord y 0 + (rowsDims wf).offCoord y 0 = (y 0).val
    unfold GatherDims.start GatherDims.offCoord
    rw [GatherDims.batchCoord_eq_zero _ _ _ (hb 0), dif_neg (show (0 : Fin 3) ∉ ([1] : List (Fin 3)) by decide), dif_pos hk]
    simp only [Nat.zero_add]
    rfl
  | ⟨2, _⟩ =>
    have hk : (2 : Fin 3) ∈ (rowsDims wf).sKept := (show (2 : Fin S4x32768x256.rank) ∈ S4x32768x256.kept ([1] ++ []) by decide)
    show (rowsDims wf).start y idx 2 + (rowsDims wf).batchCoord y 2 + (rowsDims wf).offCoord y 2 = (y 2).val
    unfold GatherDims.start GatherDims.offCoord
    rw [GatherDims.batchCoord_eq_zero _ _ _ (hb 2), dif_neg (show (2 : Fin 3) ∉ ([1] : List (Fin 3)) by decide), dif_pos hk]
    simp only [Nat.zero_add]
    rfl
  | ⟨1, _⟩ =>
    show (rowsDims wf).start y idx 1 + (rowsDims wf).batchCoord y 1 + (rowsDims wf).offCoord y 1 = w.toNat % 32768
    rw [GatherDims.batchCoord_eq_zero _ _ _ (hb 1),
      GatherDims.offCoord_eq_zero _ _ _ (fun h => ((GatherDims.mem_sKept _ _).mp h).1 (List.mem_singleton.mpr rfl))]
    simp only [Nat.add_zero]
    unfold GatherDims.start
    rw [dif_pos hm1]
    have hsi : (rowsDims wf).siIdx y ⟨List.idxOf (1 : Fin 3) (rowsDims wf).startIndexMap, List.idxOf_lt_length_iff.2 hm1⟩
        = ix2 (y 1) (0 : Fin 1) := by
      funext b; refine Fin.ext ?_
      match b with
      | ⟨0, _⟩ => rfl
      | ⟨1, _⟩ => rfl
    rw [hsi]
    show min (idx (ix2 (y 1) (0 : Fin 1))).toInt.toNat (32768 - 1) = w.toNat % 32768
    rw [show idx (ix2 (y 1) (0 : Fin 1)) = w from hw]
    show min w.toInt.toNat (32768 - 1) = w.toNat % 32768
    rw [BitVec.toInt_eq_toNat_of_lt (by omega)]
    omega

/-- What the reference computes. -/
theorem reference_eq [Cert.ReferenceIdeal.Facts₀] (x : S4x32768x256.Idx → Elt F .f32) (dest : S32768.Idx → BitVec 32) (hd : DestOK dest)
    {h0 h2 : S_.BroadcastsInDim S32768 ![]} {h1 : S32768.BroadcastsInDim (⟨2, ![32768, 1]⟩ : Shape) ![0]}
    (wf : GatherDims.WF S4x32768x256 (⟨2, ![32768, 1]⟩ : Shape) S4x32768x256 [0, 2] [1] [] [1] [] 1 ![4, 1, 256]) :
    Host.gather (rowsDims wf) x
      (broadcastInDim (⟨2, ![32768, 1]⟩ : Shape) ![0] h1
        (select (cmpi .slt dest (broadcastInDim S32768 ![] h0 (constantI S_ 32 0#32)))
          (addi dest (broadcastInDim S32768 ![] h2 (constantI S_ 32 32768#32))) dest)) = gathered x dest := by
  funext y
  have hn := hd (ix1 (y 1))
  refine gather_rows wf x _ y (dest (ix1 (y 1))) ?_ hn
  rw [broadcastInDim_apply _ h1 _ (ix2 (y 1) (0 : Fin 1)) (ix1 (y 1)) (by intro a; fin_cases a; rfl)]
  show Scalar.select (IntOp.cmpi .slt (dest (ix1 (y 1))) 0#32) _ (dest (ix1 (y 1))) = _
  have hc : IntOp.cmpi .slt (dest (ix1 (y 1))) 0#32 = 0#1 := by
    have : BitVec.slt (dest (ix1 (y 1))) 0#32 = false := by
      rw [BitVec.slt_eq_decide, BitVec.toInt_eq_toNat_of_lt (by omega)]
      simp
    show BitVec.ofBool (BitVec.slt (dest (ix1 (y 1))) 0#32) = 0#1
    rw [this]; rfl
  rw [hc]; rfl

/-! ## The precondition -/

/-- The precondition, all ones, puts every entry of `dest` in range. -/
theorem destOK_of_pre [FloatOps F] [Cert.Pre_rows_in_range.Facts] (x : S4x32768x256.Idx → Elt F .f32) (dest : S32768.Idx → BitVec 32)
    (h : Cert.Pre_rows_in_range.fn (F := F) x dest = fun _ => 1#1) : DestOK dest := by
  have both (p q : Bool) : IntOp.andi (BitVec.ofBool p) (BitVec.ofBool q) = 1#1 ↔ p = true ∧ q = true := by
    cases p <;> cases q <;> decide
  intro n
  have e : IntOp.andi (BitVec.ofBool (BitVec.sle 0#32 (dest n))) (BitVec.ofBool (BitVec.slt (dest n) 32768#32)) = 1#1 := congrFun h n
  obtain ⟨h1, h2⟩ := (both _ _).mp e
  rw [BitVec.sle_eq_decide, decide_eq_true_eq] at h1
  rw [BitVec.slt_eq_decide, decide_eq_true_eq] at h2
  have h3 : (32768#32).toInt = 32768 := by decide
  have h4 : (0#32).toInt = 0 := by decide
  rw [h3] at h2
  rw [h4] at h1
  have := BitVec.toInt_eq_toNat_cond (dest n)
  omega

end Cert.KernelIdeal
-- ==== Proof.AttnRef.lean ====
module

public import proofs.«01_k».proof.Proof.Gen.Reference2Ideal.Run
public import Idealize.ShloMosaic.Lib.Pointwise

/-! The reference of the differential attention, read at one index. Its composed term is long, so it is cut into stages
    here: the scores, their exponentials, the softmax, the difference of the two softmaxes, the sum over the values, and the
    normalisation. Each stage is read at an index over arbitrary arrays of its inputs. -/

@[expose] public section

set_option maxRecDepth 16384

noncomputable section

namespace Cert.Reference2Ideal.Attn

open Idealize.ShloMosaic Idealize.ShloMosaic.Ideal Idealize.ShloMosaic.TcCoe Idealize.SL.Sem
open Cert.Reference2Ideal Cert.Reference2Ideal.Gen Cert.Reference2Ideal.Value

/-- The scores of every query and key, times 1/8. -/
def scores (Q K : FVec Ideal S1x16640x8x2x64 .f32) : FVec Ideal S1x8x2x16384x16640 .f32 :=
  mulf (Host.dotGeneral dot_S1x16384x8x2x64_S1x16640x8x2x64_S1x8x2x16384x16640_4_4_1_1_023_023 none
      (extractStridedSlice S1x16384x8x2x64 ![0, 0, 0, 0, 0] Q slices_S1x16640x8x2x64_S1x16384x8x2x64_0_0_0_0_0) K)
    (broadcastInDim S1x8x2x16384x16640 ![] bcast_S_S1x8x2x16384x16640 (constant S_ .f32 0x3E000000#32))

/-- The greatest score of every query, as the softmax subtracts it. -/
def top (S : FVec Ideal S1x8x2x16384x16640 .f32) : FVec Ideal S1x8x2x16384 .f32 :=
  maximumf (broadcastInDim S1x8x2x16384 ![] bcast_S_S1x8x2x16384 (constant S_ .f32 0xFF800000#32))
    (Host.reduce FloatOps.maximumf S (constant S_ .f32 0xFF800000#32) reducesTo_S1x8x2x16384x16640_S1x8x2x16384_d4 h_S_)

/-- The exponentials of the scores less the greatest. -/
def expo (S : FVec Ideal S1x8x2x16384x16640 .f32) (M : FVec Ideal S1x8x2x16384 .f32) :
    FVec Ideal S1x8x2x16384x16640 .f32 :=
  Host.exp (subf S (broadcastInDim S1x8x2x16384x16640 ![0, 1, 2, 3, 4] bcast_S1x8x2x16384x1_S1x8x2x16384x16640_0_1_2_3_4
    (broadcastInDim S1x8x2x16384x1 ![0, 1, 2, 3] bcast_S1x8x2x16384_S1x8x2x16384x1_0_1_2_3 M)))

/-- The exponentials over their sum. -/
def soft (E : FVec Ideal S1x8x2x16384x16640 .f32) : FVec Ideal S1x8x2x16384x16640 .f32 :=
  Host.divf E (broadcastInDim S1x8x2x16384x16640 ![0, 1, 2, 3, 4] bcast_S1x8x2x16384x1_S1x8x2x16384x16640_0_1_2_3_4
    (broadcastInDim S1x8x2x16384x1 ![0, 1, 2, 3] bcast_S1x8x2x16384_S1x8x2x16384x1_0_1_2_3
      (Host.reduceAdd E (constant S_ .f32 0x00000000#32) reducesTo_S1x8x2x16384x16640_S1x8x2x16384_d4 h_S_)))

/-- The factor of the second softmax. -/
def lam (P : FVec Ideal S4x64 .f32) : FVec Ideal S_ .f32 :=
  addf (subf
    (Host.exp (Host.reduceAdd (mulf (shapeCast _ (extractStridedSlice S1x64 ![0, 0] P slices_S4x64_S1x64_0_0) shapeCasts_S1x64_S64)
      (shapeCast _ (extractStridedSlice S1x64 ![1, 0] P slices_S4x64_S1x64_1_0) shapeCasts_S1x64_S64))
      (constant S_ .f32 0x00000000#32) reducesTo_S64_S_d0 h_S_))
    (Host.exp (Host.reduceAdd (mulf (shapeCast _ (extractStridedSlice S1x64 ![2, 0] P slices_S4x64_S1x64_2_0) shapeCasts_S1x64_S64)
      (shapeCast _ (extractStridedSlice S1x64 ![3, 0] P slices_S4x64_S1x64_3_0) shapeCasts_S1x64_S64))
      (constant S_ .f32 0x00000000#32) reducesTo_S64_S_d0 h_S_)))
    (constant S_ .f32 0x3F0E59D5#32)

/-- The first softmax less the second times the factor. -/
def diff (p : FVec Ideal S1x8x2x16384x16640 .f32) (L : FVec Ideal S_ .f32) : FVec Ideal S1x8x16384x16640 .f32 :=
  subf (shapeCast _ (extractStridedSlice S1x8x1x16384x16640 ![0, 0, 0, 0, 0] p
      slices_S1x8x2x16384x16640_S1x8x1x16384x16640_0_0_0_0_0) shapeCasts_S1x8x1x16384x16640_S1x8x16384x16640)
    (mulf (broadcastInDim S1x8x16384x16640 ![] bcast_S_S1x8x16384x16640 L)
      (shapeCast _ (extractStridedSlice S1x8x1x16384x16640 ![0, 0, 1, 0, 0] p
        slices_S1x8x2x16384x16640_S1x8x1x16384x16640_0_0_1_0_0) shapeCasts_S1x8x1x16384x16640_S1x8x16384x16640))

/-- The sum over the values, weighted. -/
def mix (v : FVec Ideal S1x16640x8x128 .f32) (W : FVec Ideal S1x8x16384x16640 .f32) : FVec Ideal S1x16384x8x128 .f32 :=
  transpose S1x16384x8x128 [0, 3, 1, 2] (Host.dotGeneral dot_S1x16640x8x128_S1x8x16384x16640_S1x8x128x16384_1_3_3_2_02_01 none v W)
    transposes_S1x8x128x16384_S1x16384x8x128_0_3_1_2

/-- The normalisation of every head's output. -/
def norm (O : FVec Ideal S1x16384x8x128 .f32) (U : FVec Ideal S128 .f32) : FVec Ideal S16384x1024 .bf16 :=
  truncf .bf16 (shapeCast _ (mulf (mulf (mulf O (broadcastInDim S1x16384x8x128 ![0, 1, 2, 3] bcast_S1x16384x8x1_S1x16384x8x128_0_1_2_3 (Host.rsqrt (addf (Host.divf (broadcastInDim S1x16384x8x1 ![0, 1, 2] bcast_S1x16384x8_S1x16384x8x1_0_1_2 (Host.reduceAdd (mulf O O) (constant S_ .f32 0x00000000#32) reducesTo_S1x16384x8x128_S1x16384x8_d3 h_S_)) (broadcastInDim S1x16384x8x1 ![] bcast_S_S1x16384x8x1 (constant S_ .f32 0x43000000#32))) (broadcastInDim S1x16384x8x1 ![] bcast_S_S1x16384x8x1 (constant S_ .f32 0x358637BD#32))))))
    (broadcastInDim S1x16384x8x128 ![0, 1, 2, 3] bcast_S1x1x1x128_S1x16384x8x128_0_1_2_3 (broadcastInDim S1x1x1x128 ![3] bcast_S128_S1x1x1x128_3 U)))
    (broadcastInDim S1x16384x8x128 ![] bcast_S_S1x16384x8x128 (constant S_ .f32 0x3EE34C57#32))) shapeCasts_S1x16384x8x128_S16384x1024) bitsLt_bf16_f32

theorem scores_apply (Q K : FVec Ideal S1x16640x8x2x64 .f32) (h : Fin 8) (g : Fin 2) (t : Fin 16384) (κ : Fin 16640) :
    scores Q K (ix5 0 h g t κ)
      = (∑ d : Fin 64, Q (ix5 0 ⟨t.val, by omega⟩ h g d) * K (ix5 0 κ h g d)) * Ideal.ofBits .f32 0x3E000000#32 := by
  pointwise [scores]
  try rfl

/-- A maximum along the last of five axes, and with its initial value once more, is a fold along that axis. -/
theorem max_last {n0 n1 n2 n3 n4 : ℕ} {t u : Shape} (h : (⟨5, ![n0, n1, n2, n3, n4]⟩ : Shape).ReducesTo [4] t)
    (hu : 0 < u.numel) (v : FVec Ideal ⟨5, ![n0, n1, n2, n3, n4]⟩ .f32) (b : FVec Ideal u .f32) (A : FVec Ideal t .f32)
    (b0 : EReal) (hb : ∀ i, b i = b0) (hA : ∀ j, A j = b0) (j : t.Idx) :
    ∃ g : Fin n4 → (⟨5, ![n0, n1, n2, n3, n4]⟩ : Shape).Idx,
      maximumf A (Host.reduce FloatOps.maximumf v b h hu) j = max b0 (Finset.univ.fold max b0 (fun k => (v (g k) : EReal))) := by
  have e := (Host.reduce_eq_fold (FloatOps.maximumf (F := Ideal) (φ := .f32)) v b h hu j).trans
    (Shape.ReducesTo.fold_fiber_r5_a4 h j (FloatOps.maximumf (F := Ideal) (φ := .f32)) (b (Shape.Idx.first hu)) v)
  have e1 : maximumf A (Host.reduce FloatOps.maximumf v b h hu) j
      = FloatOps.maximumf (F := Ideal) (φ := .f32) (A j) (Host.reduce FloatOps.maximumf v b h hu j) := rfl
  rw [e1, e, hA, hb]
  simp only [Ideal.maximumf_eq_max]
  exact ⟨_, rfl⟩

/-- A constant, broadcast, is the constant. -/
theorem const_at {t : Shape} {f : Fin (S_ : Shape).rank → Fin t.rank} (h) (w : BitVec 32) (j : t.Idx) :
    (broadcastInDim t f h (constant (F := Ideal) S_ .f32 w) : FVec Ideal t .f32) j = Ideal.ofBits .f32 w := rfl

theorem top_eq (S : FVec Ideal S1x8x2x16384x16640 .f32) (j : S1x8x2x16384.Idx) :
    ∃ g : Fin 16640 → S1x8x2x16384x16640.Idx,
      top S j = max (Ideal.ofBits .f32 0xFF800000#32)
          (Finset.univ.fold max (Ideal.ofBits .f32 0xFF800000#32) (fun k => (S (g k) : EReal))) := by
  unfold top
  exact max_last reducesTo_S1x8x2x16384x16640_S1x8x2x16384_d4 h_S_ S (constant S_ .f32 0xFF800000#32)
    (broadcastInDim S1x8x2x16384 ![] bcast_S_S1x8x2x16384 (constant S_ .f32 0xFF800000#32)) (Ideal.ofBits .f32 0xFF800000#32)
    (fun _ => rfl) (const_at _ _) j

theorem expo_apply (S : FVec Ideal S1x8x2x16384x16640 .f32) (M : FVec Ideal S1x8x2x16384 .f32)
    (h : Fin 8) (g : Fin 2) (t : Fin 16384) (κ : Fin 16640) :
    expo S M (ix5 0 h g t κ) = Ideal.exp (S (ix5 0 h g t κ) - M (ix4 0 h g t)) := by
  pointwise [expo]
  try rfl

theorem soft_apply (E : FVec Ideal S1x8x2x16384x16640 .f32) (h : Fin 8) (g : Fin 2) (t : Fin 16384) (κ : Fin 16640) :
    soft E (ix5 0 h g t κ) = Ideal.div (E (ix5 0 h g t κ)) (∑ κ : Fin 16640, E (ix5 0 h g t κ)) := by
  pointwise [soft]
  try rfl

theorem lam_apply (P : FVec Ideal S4x64 .f32) :
    lam P ix0 = Ideal.exp (∑ x : Fin 64, P (ix2 0 x) * P (ix2 1 x)) - Ideal.exp (∑ x : Fin 64, P (ix2 2 x) * P (ix2 3 x))
      + Ideal.ofBits .f32 1057905109#32 := by
  pointwise [lam]
  try rfl

theorem diff_apply (p : FVec Ideal S1x8x2x16384x16640 .f32) (L : FVec Ideal S_ .f32) (h : Fin 8) (t : Fin 16384)
    (κ : Fin 16640) : diff p L (ix4 0 h t κ) = p (ix5 0 h 0 t κ) - L ix0 * p (ix5 0 h 1 t κ) := by
  pointwise [diff]
  try rfl

theorem mix_apply (v : FVec Ideal S1x16640x8x128 .f32) (W : FVec Ideal S1x8x16384x16640 .f32) (h : Fin 8)
    (t : Fin 16384) (e : Fin 128) :
    mix v W (ix4 0 t h e) = ∑ κ : Fin 16640, v (ix4 0 κ h e) * W (ix4 0 h t κ) := by
  pointwise [mix]
  try rfl

theorem norm_apply (O : FVec Ideal S1x16384x8x128 .f32) (U : FVec Ideal S128 .f32) (h : Fin 8)
    (t : Fin 16384) (e : Fin 128) :
    norm O U (ix2 t ⟨h.val * 128 + e.val, by omega⟩)
      = O (ix4 0 t h e) * FloatOps.rsqrt (F := Ideal) (φ := .f32)
          (Ideal.div (∑ x : Fin 128, O (ix4 0 t h x) * O (ix4 0 t h x)) (Ideal.ofBits .f32 0x43000000#32)
            + Ideal.ofBits .f32 0x358637BD#32)
        * U (ix1 e) * Ideal.ofBits .f32 1055083607#32 := by
  pointwise [norm]
  try rfl

theorem res_eq (m : (ℓ : Loc nD τ sig) → Buf (Elt Ideal) ℓ) (c : Dev nD) :
    (res_main_v56 m c : FVec Ideal S16384x1024 .bf16)
      = norm (mix (m ((c.tc : Thread nD τ).loc main_arg2))
          (diff (soft (expo (scores (m ((c.tc : Thread nD τ).loc main_arg0)) (m ((c.tc : Thread nD τ).loc main_arg1)))
            (top (scores (m ((c.tc : Thread nD τ).loc main_arg0)) (m ((c.tc : Thread nD τ).loc main_arg1))))))
            (lam (m ((c.tc : Thread nD τ).loc main_arg3)))))
        (m ((c.tc : Thread nD τ).loc main_arg4)) := by
  unfold res_main_v56 norm mix diff soft expo top scores lam
  rfl

end Cert.Reference2Ideal.Attn
-- ==== Proof.AttnLoop.lean ====
module

public import proofs.«01_k».proof.Proof.Gen.Kernel2Ideal.Value

@[expose] public section

set_option maxRecDepth 16384

/-!
  One block of the differential attention, read off the kernel's run: what a trip over 3328 keys makes of the two
  scratch buffers (the weighted sums of the values and the sums of the weights), what five trips make of them, and the
  four stores of 256 rows that the block ends with.
-/

noncomputable section

namespace Cert.Kernel2Ideal.Attn

open Idealize.ShloMosaic Idealize.ShloMosaic.TcCoe Idealize.ShloMosaic.Tactic Idealize.SL.Sem
open Cert.Kernel2Ideal Cert.Kernel2Ideal.Gen

variable {F : FTy → Type} [FloatOps F] [Named F]

/-- The 3328 key rows of trip `k`. -/
def keyRows (x1 : Vec F S1x16640x128 .bf16) (k : Fin k0_t1_loop.trips) : Vec F S1x3328x128 .bf16 :=
  View.ld x1 (Rect.unit (s := S1x16640x128) (k0_off1 k) S1x3328x128.size (k0_off1_inb k))

/-- The `j`-th of the 13 slabs of 256 transposed value rows of trip `k`. -/
def valSlab (x2 : Vec F S1x65x128x256 .bf16) (k : Fin k0_t1_loop.trips) (j : Fin 13) : Vec F S1x1x128x256 .bf16 :=
  View.ld x2 (Rect.unit (s := S1x65x128x256) (k0_off2 k (BitVec.ofNat 32 j.val)) S1x1x128x256.size (k0_off2_inb k j))

/-- What a trip leaves of the weighted sums. -/
def accStep (q : FVec F S2048x128 .bf16) (x1 : Vec F S1x16640x128 .bf16) (x2 : Vec F S1x65x128x256 .bf16)
    (k : Fin k0_t1_loop.trips) (a : Vec F S128x2048 .f32) : FVec F S128x2048 .f32 :=
  k0_pay10 (k0_pay4 q (keyRows x1 k))
    (k0_pay6 (k0_pay4 q (keyRows x1 k))
      (k0_pay5 a (k0_pay4 q (keyRows x1 k)) (valSlab x2 k 0) (valSlab x2 k 1) (valSlab x2 k 2) (valSlab x2 k 3)
        (valSlab x2 k 4))
      (valSlab x2 k 5) (valSlab x2 k 6) (valSlab x2 k 7) (valSlab x2 k 8) (valSlab x2 k 9))
    (valSlab x2 k 10) (valSlab x2 k 11) (valSlab x2 k 12)

theorem hz : (![0, 0] : Fin 2 → Nat) = fun _ => 0 := funext fun a => by fin_cases a <;> rfl
theorem hz4 : (![0, 0, 0, 0] : Fin 4 → Nat) = fun _ => 0 := funext fun a => by fin_cases a <;> rfl

/-- One trip stores each scratch buffer once; its loads are reads of the four buffers it is given. -/
theorem trip_raw (𝒱 : Variants) (c : Dev nD) (bd : Option 𝒱.V) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (v0 : Vec F S1x4x512x128 .f32) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 v0 X3 X4 k f8 f9
      = ([⟨Rect.unit (s := S128x2048) ![0, 0] S128x2048.size inb_S128x2048_S128x2048_0_0, accStep (k0_pay7 v0) (arg3.view.read (Elt F) X3) (arg4.view.read (Elt F) X4) k (View.ld (arg8.view.read (Elt F) f8) (Rect.unit (s := S128x2048) ![0, 0] S128x2048.size inb_S128x2048_S128x2048_0_0))⟩],
         [⟨Rect.unit (s := S1x2048) ![0, 0] S1x2048.size inb_S1x2048_S1x2048_0_0, k0_pay3 (k0_pay7 v0) (keyRows (arg3.view.read (Elt F) X3) k) (View.ld (arg9.view.read (Elt F) f9) (Rect.unit (s := S1x2048) ![0, 0] S1x2048.size inb_S1x2048_S1x2048_0_0))⟩]) := by
  unfold tripL_k0_t1 trip_k0_t1
  rfl

/-- One trip stores each scratch buffer once and whole. -/
theorem trip_lists (𝒱 : Variants) (c : Dev nD) (bd : Option 𝒱.V) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (v0 : Vec F S1x4x512x128 .f32) (x1 : Vec F S1x16640x128 .bf16) (x2 : Vec F S1x65x128x256 .bf16) (k : Fin k0_t1_loop.trips) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 v0 (harg3.unread x1) (harg4.unread x2) k f8 f9
      = ([⟨Rect.unit (s := S128x2048) ![0, 0] S128x2048.size inb_S128x2048_S128x2048_0_0, accStep (k0_pay7 v0) x1 x2 k (arg8.view.read (Elt F) f8)⟩],
         [⟨Rect.unit (s := S1x2048) ![0, 0] S1x2048.size inb_S1x2048_S1x2048_0_0, k0_pay3 (k0_pay7 v0) (keyRows x1 k) (arg9.view.read (Elt F) f9)⟩]) := by
  rw [trip_raw, harg3.read_unread, harg4.read_unread, View.ld_unit_zero (S := S128x2048) hz, View.ld_unit_zero (S := S1x2048) hz]

/-- The two scratch buffers after `n` trips, from `a` and `l`. -/
def after (q : FVec F S2048x128 .bf16) (x1 : Vec F S1x16640x128 .bf16) (x2 : Vec F S1x65x128x256 .bf16)
    (a : Vec F S128x2048 .f32) (l : Vec F S1x2048 .f32) : ℕ → Vec F S128x2048 .f32 × Vec F S1x2048 .f32
  | 0 => (a, l)
  | n + 1 =>
    if h : n < k0_t1_loop.trips then
      (accStep q x1 x2 ⟨n, h⟩ (after q x1 x2 a l n).1, k0_pay3 q (keyRows x1 ⟨n, h⟩) (after q x1 x2 a l n).2)
    else after q x1 x2 a l n

/-- After `n` trips the scratch buffers read as `after` says. -/
theorem read_trips (𝒱 : Variants) (c : Dev nD) (bd : Option 𝒱.V) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (v0 : Vec F S1x4x512x128 .f32) (x1 : Vec F S1x16640x128 .bf16) (x2 : Vec F S1x65x128x256 .bf16) (G8 : BufTy.Contents (Elt F) arg8.view.ty) (G9 : BufTy.Contents (Elt F) arg9.view.ty) (n : ℕ) (hn : n ≤ k0_t1_loop.trips) :
    arg8.view.read (Elt F) (arg8.view.writes (Elt F) G8 (pb_k0_t1 (F := F) 𝒱 c bd i arg2 harg2 arg3 harg3 arg4 harg4 arg5 harg5 arg6 harg6 arg7 harg7 arg8 harg8 arg9 harg9 v0 (harg3.unread x1) (harg4.unread x2) G8 G9 n).1)
        = (after (k0_pay7 v0) x1 x2 (arg8.view.read (Elt F) G8) (arg9.view.read (Elt F) G9) n).1
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 v0 (harg3.unread x1) (harg4.unread x2) G8 G9 n).2)
        = (after (k0_pay7 v0) x1 x2 (arg8.view.read (Elt F) G8) (arg9.view.read (Elt F) G9) n).2 := by
  induction n with
  | zero => exact ⟨rfl, rfl⟩
  | succ n ih =>
    obtain ⟨i8, i9⟩ := ih (Nat.le_of_succ_le hn)
    have e := pb_k0_t1_succ (F := F) 𝒱 c bd i arg2 harg2 arg3 harg3 arg4 harg4 arg5 harg5 arg6 harg6 arg7 harg7 arg8 harg8 arg9 harg9 v0 (harg3.unread x1) (harg4.unread x2) G8 G9 ⟨n, hn⟩
    rw [trip_lists] at e
    dsimp only at e
    rw [e, i8, i9, after, dif_pos (show n < k0_t1_loop.trips from hn)]
    dsimp only
    refine ⟨?_, ?_⟩
    · rw [List.singleton_append, View.read_writes_eq_canon _ _ _ (fun y => ⟨_, List.mem_cons_self, ?_⟩),
        View.canon_cons_unit_zero (S := S128x2048) hz]
      rw [Rect.mem_set_unit]; intro a; rw [congrFun hz a]; exact ⟨Nat.zero_le _, by rw [Nat.zero_add]; exact (y a).isLt⟩
    · rw [List.singleton_append, View.read_writes_eq_canon _ _ _ (fun y => ⟨_, List.mem_cons_self, ?_⟩),
        View.canon_cons_unit_zero (S := S1x2048) hz]
      rw [Rect.mem_set_unit]; intro a; rw [congrFun hz a]; exact ⟨Nat.zero_le _, by rw [Nat.zero_add]; exact (y a).isLt⟩

/-- The scratch buffers when the loop is left. -/
def atExit (x0 : Vec F S1x4x512x128 .f32) (x1 : Vec F S1x16640x128 .bf16) (x2 : Vec F S1x65x128x256 .bf16) :
    Vec F S128x2048 .f32 × Vec F S1x2048 .f32 :=
  after (k0_pay7 x0) x1 x2 k0_pay8 k0_pay9 5

/-- The quotients, transposed and put one below the other: 2048 rows of 128. -/
def outRows (A : Vec F S128x2048 .f32) (L : Vec F S1x2048 .f32) : FVec F S2048x128 .f32 :=
  k0_pay17 (k0_pay11 A L) (k0_pay12 A L) (k0_pay13 A L) (k0_pay14 A L) (k0_pay15 A L) (k0_pay16 A L)

/-- The 256 output rows of sub-block `b`, as the body's store of them computes them. -/
def rowBlock (A : Vec F S128x2048 .f32) (L : Vec F S1x2048 .f32) (x3 x4 : Vec F S1x128 .f32) :
    Fin 4 → FVec F S256x128 .bf16
  | 0 => k0_pay18 (k0_pay11 A L) (k0_pay12 A L) (k0_pay13 A L) (k0_pay14 A L) (k0_pay15 A L) (k0_pay16 A L) x3 x4
  | 1 => k0_pay21 (k0_pay19 (k0_pay11 A L) (k0_pay12 A L) (k0_pay13 A L) (k0_pay14 A L) (k0_pay15 A L) (k0_pay16 A L) x3)
      (k0_pay20 (k0_pay11 A L) (k0_pay12 A L) (k0_pay13 A L) (k0_pay14 A L) (k0_pay15 A L) (k0_pay16 A L) x3) x4
  | 2 => k0_pay22 (outRows A L) x3 x4
  | 3 => k0_pay1 (k0_pay23 (outRows A L) x3) (k0_pay24 (outRows A L) x3) (Scalar.ofBits .f32 0x43000000#32) x4

theorem trips_five : k0_t1_loop.trips = 5 := by decide +kernel

/-- The load of scratch buffer 8 after the loop, as the run states it. -/
def exit8 (c : Dev nD) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (x0 : Vec F S1x4x512x128 .f32) (x1 : Vec F S1x16640x128 .bf16) (x2 : Vec F S1x65x128x256 .bf16) : Vec F S128x2048 .f32 :=
  arg8.view.readCov ((pb_k0_t1 Variants.none c none i arg2 harg2 arg3 harg3 arg4 harg4 arg5 harg5 arg6 harg6 arg7 harg7 arg8 harg8 arg9 harg9 x0 (harg3.unread x1) (harg4.unread x2)
      (arg8.view.writes (Elt F) arg8.view.junk [⟨Rect.unit (s := S128x2048) ![0, 0] S128x2048.size inb_S128x2048_S128x2048_0_0, k0_pay8⟩])
      (arg9.view.writes (Elt F) arg9.view.junk [⟨Rect.unit (s := S1x2048) ![0, 0] S1x2048.size inb_S1x2048_S1x2048_0_0, k0_pay9⟩])
      (Scf.trips k0_t1_loop.lb k0_t1_loop.ub k0_t1_loop.st)).1
    ++ [⟨Rect.unit (s := S128x2048) ![0, 0] S128x2048.size inb_S128x2048_S128x2048_0_0, k0_pay8⟩])
    (Rect.unit (s := S128x2048) ![0, 0] S128x2048.size inb_S128x2048_S128x2048_0_0).toLoadRect

/-- The load of scratch buffer 9 after the loop, as the run states it. -/
def exit9 (c : Dev nD) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (x0 : Vec F S1x4x512x128 .f32) (x1 : Vec F S1x16640x128 .bf16) (x2 : Vec F S1x65x128x256 .bf16) : Vec F S1x2048 .f32 :=
  arg9.view.readCov ((pb_k0_t1 Variants.none c none i arg2 harg2 arg3 harg3 arg4 harg4 arg5 harg5 arg6 harg6 arg7 harg7 arg8 harg8 arg9 harg9 x0 (harg3.unread x1) (harg4.unread x2)
      (arg8.view.writes (Elt F) arg8.view.junk [⟨Rect.unit (s := S128x2048) ![0, 0] S128x2048.size inb_S128x2048_S128x2048_0_0, k0_pay8⟩])
      (arg9.view.writes (Elt F) arg9.view.junk [⟨Rect.unit (s := S1x2048) ![0, 0] S1x2048.size inb_S1x2048_S1x2048_0_0, k0_pay9⟩])
      (Scf.trips k0_t1_loop.lb k0_t1_loop.ub k0_t1_loop.st)).2
    ++ [⟨Rect.unit (s := S1x2048) ![0, 0] S1x2048.size inb_S1x2048_S1x2048_0_0, k0_pay9⟩])
    (Rect.unit (s := S1x2048) ![0, 0] S1x2048.size inb_S1x2048_S1x2048_0_0).toLoadRect

/-- A store that covers a buffer leaves what it stores. -/
theorem read_write_whole {sg : RefSig} {κ : Kind} {sp : Space} {S : Shape} {e : EltTy} [∀ e, Nonempty (Elt F e)] (v : View sg κ sp S e)
    (f : v.ty.Contents (Elt F)) {off : Fin S.rank → ℕ} (h0 : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_cons_self, ?_⟩), View.canon_cons_unit_zero h0]
  rw [Rect.mem_set_unit]; intro a; rw [congrFun h0 a]; exact ⟨Nat.zero_le _, by rw [Nat.zero_add]; exact (y a).isLt⟩

theorem exit_eq (c : Dev nD) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (x0 : Vec F S1x4x512x128 .f32) (x1 : Vec F S1x16640x128 .bf16) (x2 : Vec F S1x65x128x256 .bf16) :
    exit8 c i arg2 harg2 arg3 harg3 arg4 harg4 arg5 harg5 arg6 harg6 arg7 harg7 arg8 harg8 arg9 harg9 x0 x1 x2 = (atExit x0 x1 x2).1 ∧ exit9 c i arg2 harg2 arg3 harg3 arg4 harg4 arg5 harg5 arg6 harg6 arg7 harg7 arg8 harg8 arg9 harg9 x0 x1 x2 = (atExit x0 x1 x2).2 := by
  have h := read_trips Variants.none c none i arg2 harg2 arg3 harg3 arg4 harg4 arg5 harg5 arg6 harg6 arg7 harg7 arg8 harg8 arg9 harg9 x0 x1 x2
    (arg8.view.writes (Elt F) arg8.view.junk [⟨Rect.unit (s := S128x2048) ![0, 0] S128x2048.size inb_S128x2048_S128x2048_0_0, k0_pay8⟩])
    (arg9.view.writes (Elt F) arg9.view.junk [⟨Rect.unit (s := S1x2048) ![0, 0] S1x2048.size inb_S1x2048_S1x2048_0_0, k0_pay9⟩]) 5 (le_of_eq trips_five.symm)
  rw [read_write_whole _ _ hz, read_write_whole _ _ hz, ← View.writes_append, ← View.writes_append] at h
  have h5 : Scf.trips k0_t1_loop.lb k0_t1_loop.ub k0_t1_loop.st = 5 := trips_five
  unfold exit8 exit9 View.readCov atExit
  rw [View.readAt_eq_ld, View.readAt_eq_ld, View.ld_unit_zero hz, View.ld_unit_zero hz, h5]
  exact h

/-- The four stores, over the loads after the loop. -/
theorem out_raw (c : Dev nD) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (x0 : Vec F S1x4x512x128 .f32) (x1 : Vec F S1x16640x128 .bf16) (x2 : Vec F S1x65x128x256 .bf16) (x3 : Vec F S1x128 .f32) (x4 : Vec F S1x128 .f32) :
    (kernelRun0_A c i arg2 harg2 arg3 harg3 arg4 harg4 arg5 harg5 arg6 harg6 arg7 harg7 arg8 harg8 arg9 harg9 x0 x1 x2 x3 x4).1 = (fun A L y3 y4 =>
          [⟨Rect.unit (s := S1024x128) ![768, 0] S256x128.size inb_S1024x128_S256x128_768_0, rowBlock A L y3 y4 3⟩,
           ⟨Rect.unit (s := S1024x128) ![512, 0] S256x128.size inb_S1024x128_S256x128_512_0, rowBlock A L y3 y4 2⟩,
           ⟨Rect.unit (s := S1024x128) ![256, 0] S256x128.size inb_S1024x128_S256x128_256_0, rowBlock A L y3 y4 1⟩,
           ⟨Rect.unit (s := S1024x128) ![0, 0] S256x128.size inb_S1024x128_S256x128_0_0, rowBlock A L y3 y4 0⟩])
        (exit8 c i arg2 harg2 arg3 harg3 arg4 harg4 arg5 harg5 arg6 harg6 arg7 harg7 arg8 harg8 arg9 harg9 (View.ld (arg2.view.read (Elt F) (harg2.unread x0)) (Rect.unit (s := S1x4x512x128) ![0, 0, 0, 0] S1x4x512x128.size inb_S1x4x512x128_S1x4x512x128_0_0_0_0)) x1 x2)
        (exit9 c i arg2 harg2 arg3 harg3 arg4 harg4 arg5 harg5 arg6 harg6 arg7 harg7 arg8 harg8 arg9 harg9 (View.ld (arg2.view.read (Elt F) (harg2.unread x0)) (Rect.unit (s := S1x4x512x128) ![0, 0, 0, 0] S1x4x512x128.size inb_S1x4x512x128_S1x4x512x128_0_0_0_0)) x1 x2)
        (View.ld (arg5.view.read (Elt F) (harg5.unread x3)) (Rect.unit (s := S1x128) ![0, 0] S1x128.size inb_S1x128_S1x128_0_0))
        (View.ld (arg6.view.read (Elt F) (harg6.unread x4)) (Rect.unit (s := S1x128) ![0, 0] S1x128.size inb_S1x128_S1x128_0_0)) := by
  unfold kernelRun0_A
  rfl

/-- What a point leaves in its output block: the four row blocks, last first. -/
theorem out_block (c : Dev nD) (i : grid0.Coords) (arg2 : Memref sig .tc .vmem S1x4x512x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .bf16) (harg7 : arg7.IsWhole) (arg8 : Memref sig .tc .vmem S128x2048 .f32) (harg8 : arg8.IsWhole) (arg9 : Memref sig .tc .vmem S1x2048 .f32) (harg9 : arg9.IsWhole)
    (x0 : Vec F S1x4x512x128 .f32) (x1 : Vec F S1x16640x128 .bf16) (x2 : Vec F S1x65x128x256 .bf16) (x3 : Vec F S1x128 .f32) (x4 : Vec F S1x128 .f32) :
    out0_A_5 c i arg2 harg2 arg3 harg3 arg4 harg4 arg5 harg5 arg6 harg6 arg7 harg7 arg8 harg8 arg9 harg9 x0 x1 x2 x3 x4
      = VO0_5.read (Elt F) (VO0_5.writes (Elt F) VO0_5.junk
          [⟨Rect.unit (s := S1024x128) ![768, 0] S256x128.size inb_S1024x128_S256x128_768_0, rowBlock (atExit x0 x1 x2).1 (atExit x0 x1 x2).2 x3 x4 3⟩,
           ⟨Rect.unit (s := S1024x128) ![512, 0] S256x128.size inb_S1024x128_S256x128_512_0, rowBlock (atExit x0 x1 x2).1 (atExit x0 x1 x2).2 x3 x4 2⟩,
           ⟨Rect.unit (s := S1024x128) ![256, 0] S256x128.size inb_S1024x128_S256x128_256_0, rowBlock (atExit x0 x1 x2).1 (atExit x0 x1 x2).2 x3 x4 1⟩,
           ⟨Rect.unit (s := S1024x128) ![0, 0] S256x128.size inb_S1024x128_S256x128_0_0, rowBlock (atExit x0 x1 x2).1 (atExit x0 x1 x2).2 x3 x4 0⟩]) := by
  unfold out0_A_5
  rw [out_raw, harg2.read_unread, harg5.read_unread, harg6.read_unread,
    View.ld_unit_zero (S := S1x4x512x128) hz4, View.ld_unit_zero (S := S1x128) hz, View.ld_unit_zero (S := S1x128) hz,
    (exit_eq c i arg2 harg2 arg3 harg3 arg4 harg4 arg5 harg5 arg6 harg6 arg7 harg7 arg8 harg8 arg9 harg9 x0 x1 x2).1,
    (exit_eq c i arg2 harg2 arg3 harg3 arg4 harg4 arg5 harg5 arg6 harg6 arg7 harg7 arg8 harg8 arg9 harg9 x0 x1 x2).2]

end Cert.Kernel2Ideal.Attn
-- ==== Proof.AttnSum.lean ====
module

public import proofs.«01_k».proof.Proof.AttnLoop
public import Idealize.ShloMosaic.Lib.Pointwise
public import Idealize.ShloMosaic.Lib.Pipeline.ValueKit.Tiles

@[expose] public section

set_option maxRecDepth 16384

/-!
  The loop of one attention block on the extended reals: its five trips of thirteen slabs of 256 keys add up to one sum
  over all 16640 keys, both for the weights and for the values under the weights.
-/

noncomputable section

namespace Cert.Kernel2Ideal.Attn

open Idealize.ShloMosaic Idealize.ShloMosaic.Ideal
open Cert.Kernel2Ideal Cert.Kernel2Ideal.Gen

/-- The weight of key `κ` for the query row `r`: two to the power of their product. -/
def wt (q : FVec Ideal S2048x128 .bf16) (x1 : FVec Ideal S1x16640x128 .bf16) (r : Fin 2048) (κ : Fin 16640) : EReal :=
  FloatOps.exp2 (F := Ideal) (φ := .f32) (∑ l : Fin 128, x1 (ix3 0 κ l) * q (ix2 r l))

/-- The value of key `κ` in column `e`, of the transposed slabs. -/
def slabVal (x2 : FVec Ideal S1x65x128x256 .bf16) (e : Fin 128) (κ : Fin 16640) : EReal :=
  x2 (ix4 0 ⟨κ.val / 256, by omega⟩ e ⟨κ.val % 256, by omega⟩)

theorem trips_lt (k : Fin k0_t1_loop.trips) : k.val < 5 := k.isLt

/-- A key row of trip `k` is a row of the whole. -/
theorem keyRows_apply (x1 : FVec Ideal S1x16640x128 .bf16) (k : Fin k0_t1_loop.trips) (y : Fin 3328) (l : Fin 128) :
    keyRows (F := Ideal) x1 k (ix3 0 y l)
      = x1 (ix3 0 ⟨k.val * 3328 + y.val, by have := trips_lt k; omega⟩ l) := by
  unfold keyRows
  refine View.ld_unit_apply_of (Val := Elt Ideal) (e := EltTy.bf16) x1 _ _ _ _ _ fun a => ?_
  rw [congrFun (k0_off1_eq k) a]
  fin_cases a
  · rfl
  · show k.val * 3328 + y.val = 3328 * k.val + y.val
    omega
  · show l.val = 0 + l.val
    omega

/-- A slab of trip `k` is a slab of the whole. -/
theorem valSlab_apply (x2 : FVec Ideal S1x65x128x256 .bf16) (k : Fin k0_t1_loop.trips) (j : Fin 13) (e : Fin 128)
    (s : Fin 256) :
    valSlab (F := Ideal) x2 k j (ix4 0 0 e s)
      = slabVal x2 e ⟨k.val * 3328 + (j.val * 256 + s.val), by have := trips_lt k; omega⟩ := by
  unfold valSlab slabVal
  refine View.ld_unit_apply_of (Val := Elt Ideal) (e := EltTy.bf16) x2 _ _ _ _ _ fun a => ?_
  rw [congrFun (k0_off2_eq k j) a]
  fin_cases a
  · rfl
  · show (k.val * 3328 + (j.val * 256 + s.val)) / 256 = 13 * k.val + j.val + 0
    omega
  · show e.val = 0 + e.val
    omega
  · show (k.val * 3328 + (j.val * 256 + s.val)) % 256 = 0 + s.val
    omega

/-- The weights of a trip. -/
theorem pay2_apply (q : FVec Ideal S2048x128 .bf16) (x1 : FVec Ideal S1x16640x128 .bf16) (k : Fin k0_t1_loop.trips)
    (y : Fin 3328) (r : Fin 2048) :
    k0_pay2 (F := Ideal) q (keyRows x1 k) (ix2 y r)
      = wt q x1 r ⟨k.val * 3328 + y.val, by have := trips_lt k; omega⟩ := by
  pointwise [k0_pay2]
  unfold wt
  refine congrArg _ (Finset.sum_congr rfl fun l _ => ?_)
  rw [keyRows_apply]

theorem pay4_apply (q : FVec Ideal S2048x128 .bf16) (x1 : FVec Ideal S1x16640x128 .bf16) (k : Fin k0_t1_loop.trips)
    (y : Fin 3328) (r : Fin 2048) :
    k0_pay4 (F := Ideal) q (keyRows x1 k) (ix2 y r)
      = wt q x1 r ⟨k.val * 3328 + y.val, by have := trips_lt k; omega⟩ :=
  pay2_apply q x1 k y r

/-- A trip adds its weights to the running sums. -/
theorem pay3_apply (q : FVec Ideal S2048x128 .bf16) (x1 : FVec Ideal S1x16640x128 .bf16) (k : Fin k0_t1_loop.trips)
    (l : FVec Ideal S1x2048 .f32) (r : Fin 2048) :
    k0_pay3 (F := Ideal) q (keyRows x1 k) l (ix2 0 r)
      = l (ix2 0 r) + ∑ y : Fin 3328, wt q x1 r ⟨k.val * 3328 + y.val, by have := trips_lt k; omega⟩ := by
  pointwise [k0_pay3]
  refine congrArg _ (Finset.sum_congr rfl fun y _ => ?_)
  rw [pay2_apply]

/-- One slab's share of a weighted sum. -/
def slabSum (p : FVec Ideal S3328x2048 .bf16) (v : FVec Ideal S1x1x128x256 .bf16) (j : Fin 13) (e : Fin 128)
    (r : Fin 2048) : EReal :=
  ∑ s : Fin 256, v (ix4 0 0 e s) * p (ix2 ⟨256 * j.val + s.val, by omega⟩ r)

theorem pay5_apply (a : FVec Ideal S128x2048 .f32) (p : FVec Ideal S3328x2048 .bf16)
    (v0 v1 v2 v3 v4 : FVec Ideal S1x1x128x256 .bf16) (e : Fin 128) (r : Fin 2048) :
    k0_pay5 (F := Ideal) a p v0 v1 v2 v3 v4 (ix2 e r)
      = a (ix2 e r) + slabSum p v0 0 e r + slabSum p v1 1 e r + slabSum p v2 2 e r + slabSum p v3 3 e r
        + slabSum p v4 4 e r := by
  pointwise [k0_pay5]
  unfold slabSum
  have h0 : ∀ s : Fin 256, (ix2 (⟨s.val, by omega⟩ : Fin 3328) r) = ix2 ⟨256 * (0 : Fin 13).val + s.val, by have := (0 : Fin 13).isLt; omega⟩ r :=
    fun s => by congr 1; exact Fin.ext (by simp)
  simp only [h0]
  rfl

theorem pay6_apply (a : FVec Ideal S128x2048 .f32) (p : FVec Ideal S3328x2048 .bf16)
    (v0 v1 v2 v3 v4 : FVec Ideal S1x1x128x256 .bf16) (e : Fin 128) (r : Fin 2048) :
    k0_pay6 (F := Ideal) p a v0 v1 v2 v3 v4 (ix2 e r)
      = a (ix2 e r) + slabSum p v0 5 e r + slabSum p v1 6 e r + slabSum p v2 7 e r + slabSum p v3 8 e r
        + slabSum p v4 9 e r := by
  pointwise [k0_pay6]
  rfl

theorem pay10_apply (a : FVec Ideal S128x2048 .f32) (p : FVec Ideal S3328x2048 .bf16)
    (v0 v1 v2 : FVec Ideal S1x1x128x256 .bf16) (e : Fin 128) (r : Fin 2048) :
    k0_pay10 (F := Ideal) p a v0 v1 v2 (ix2 e r)
      = a (ix2 e r) + slabSum p v0 10 e r + slabSum p v1 11 e r + slabSum p v2 12 e r := by
  pointwise [k0_pay10]
  rfl

theorem slabSum_eq (q : FVec Ideal S2048x128 .bf16) (x1 : FVec Ideal S1x16640x128 .bf16)
    (x2 : FVec Ideal S1x65x128x256 .bf16) (k : Fin k0_t1_loop.trips) (j : Fin 13) (e : Fin 128) (r : Fin 2048) :
    slabSum (k0_pay4 (F := Ideal) q (keyRows x1 k)) (valSlab (F := Ideal) x2 k j) j e r
      = ∑ s : Fin 256, slabVal x2 e ⟨k.val * 3328 + (j.val * 256 + s.val), by have := trips_lt k; omega⟩
          * wt q x1 r ⟨k.val * 3328 + (j.val * 256 + s.val), by have := trips_lt k; omega⟩ := by
  unfold slabSum
  refine Finset.sum_congr rfl fun s _ => ?_
  rw [valSlab_apply, pay4_apply]
  congr 2
  exact Fin.ext (by show k.val * 3328 + (256 * j.val + s.val) = k.val * 3328 + (j.val * 256 + s.val); omega)

/-- A trip adds its 3328 weighted values to the running sums. -/
theorem accStep_apply (q : FVec Ideal S2048x128 .bf16) (x1 : FVec Ideal S1x16640x128 .bf16)
    (x2 : FVec Ideal S1x65x128x256 .bf16) (k : Fin k0_t1_loop.trips) (a : FVec Ideal S128x2048 .f32) (e : Fin 128)
    (r : Fin 2048) :
    accStep (F := Ideal) q x1 x2 k a (ix2 e r)
      = a (ix2 e r) + ∑ y : Fin 3328, slabVal x2 e ⟨k.val * 3328 + y.val, by have := trips_lt k; omega⟩
          * wt q x1 r ⟨k.val * 3328 + y.val, by have := trips_lt k; omega⟩ := by
  rw [Fin.sum_univ_tiles 13 256 rfl (fun y : Fin 3328 => slabVal x2 e ⟨k.val * 3328 + y.val, by have := trips_lt k; omega⟩
          * wt q x1 r ⟨k.val * 3328 + y.val, by have := trips_lt k; omega⟩)]
  simp only [← slabSum_eq]
  unfold accStep
  rw [pay10_apply, pay6_apply, pay5_apply]
  simp only [Fin.sum_univ_succ, Finset.univ_eq_empty, Finset.sum_empty, add_zero, add_assoc]
  rfl

theorem pay8_apply (e : Fin 128) (r : Fin 2048) : k0_pay8 (F := Ideal) (ix2 e r) = 0 := by
  pointwise [k0_pay8]

theorem pay9_apply (r : Fin 2048) : k0_pay9 (F := Ideal) (ix2 0 r) = 0 := by
  pointwise [k0_pay9]

/-- After the loop: the sum of the values of all keys under their weights. -/
theorem acc_apply (x0 : FVec Ideal S1x4x512x128 .f32) (x1 : FVec Ideal S1x16640x128 .bf16)
    (x2 : FVec Ideal S1x65x128x256 .bf16) (e : Fin 128) (r : Fin 2048) :
    (atExit (F := Ideal) x0 x1 x2).1 (ix2 e r)
      = ∑ κ : Fin 16640, slabVal x2 e κ * wt (k0_pay7 x0) x1 r κ := by
  rw [Fin.sum_univ_tiles 5 3328 rfl, Fin.sum_univ_five]
  unfold atExit
  simp only [after, trips_five, show (0:ℕ) < 5 by decide, show (1:ℕ) < 5 by decide, show (2:ℕ) < 5 by decide,
    show (3:ℕ) < 5 by decide, show (4:ℕ) < 5 by decide, dite_true, accStep_apply, pay8_apply, zero_add]
  rfl

/-- After the loop: the sum of the weights of all keys. -/
theorem den_apply (x0 : FVec Ideal S1x4x512x128 .f32) (x1 : FVec Ideal S1x16640x128 .bf16)
    (x2 : FVec Ideal S1x65x128x256 .bf16) (r : Fin 2048) :
    (atExit (F := Ideal) x0 x1 x2).2 (ix2 0 r) = ∑ κ : Fin 16640, wt (k0_pay7 x0) x1 r κ := by
  rw [Fin.sum_univ_tiles 5 3328 rfl, Fin.sum_univ_five]
  unfold atExit
  simp only [after, trips_five, show (0:ℕ) < 5 by decide, show (1:ℕ) < 5 by decide, show (2:ℕ) < 5 by decide,
    show (3:ℕ) < 5 by decide, show (4:ℕ) < 5 by decide, dite_true, pay3_apply, pay9_apply, zero_add]
  rfl

end Cert.Kernel2Ideal.Attn
-- ==== Proof.AttnRows.lean ====
module

public import proofs.«01_k».proof.Proof.AttnSum

@[expose] public section

set_option maxRecDepth 16384

/-!
  The rows that a block of the differential attention ends with: the quotient of the two sums, transposed; the difference
  of the two components' rows; that difference over its root mean square, times the two given rows.
-/

noncomputable section

namespace Cert.Kernel2Ideal.Attn

open Idealize.ShloMosaic Idealize.ShloMosaic.Ideal
open Cert.Kernel2Ideal Cert.Kernel2Ideal.Gen

/-- The block's query rows: slot after slot, 512 rows each. -/
theorem pay7_apply (x0 : FVec Ideal S1x4x512x128 .f32) (b : Fin 4) (t : Fin 512) (l : Fin 128) :
    k0_pay7 (F := Ideal) x0 (ix2 ⟨512 * b.val + t.val, by omega⟩ l)
      = x0 (ix4 0 b t l) * (((8 * Real.log 2)⁻¹ : ℝ) : EReal) := by
  pointwise [k0_pay7]
  rfl

/-- The attention's output in column `e` for the query row `r`: weighted sum over sum of weights. -/
def quo (A : FVec Ideal S128x2048 .f32) (L : FVec Ideal S1x2048 .f32) (r : Fin 2048) (e : Fin 128) : EReal :=
  Ideal.div (A (ix2 e r)) (L (ix2 0 r))

theorem outRows_apply (A : FVec Ideal S128x2048 .f32) (L : FVec Ideal S1x2048 .f32) (r : Fin 2048) (e : Fin 128) :
    outRows (F := Ideal) A L (ix2 r e) = quo A L r e := by
  unfold outRows
  pointwise [k0_pay17, k0_pay11, k0_pay12, k0_pay13, k0_pay14, k0_pay15, k0_pay16]
  have hr : ∀ r' : Fin 2048, r'.val = r.val → div (A (ix2 e r')) (L (ix2 0 r')) = quo A L r e :=
    fun r' h => by rw [Fin.ext h]; rfl
  split_ifs <;> exact hr _ (by first | rfl | (dsimp only; omega) | (simp; omega))

/-- The difference of the two components' outputs in a row, the second weighed with the given row. -/
def dif (R : Fin 2048 → Fin 128 → EReal) (x3 : FVec Ideal S1x128 .f32) (b : Fin 4) (ρ : Fin 256) (e : Fin 128) : EReal :=
  R ⟨512 * b.val + ρ.val, by omega⟩ e - x3 (ix2 0 e) * R ⟨512 * b.val + 256 + ρ.val, by omega⟩ e

/-- The row over its root mean square, times the given row. -/
def nrm (D : Fin 128 → EReal) (x4 : FVec Ideal S1x128 .f32) (e : Fin 128) : EReal :=
  D e * FloatOps.rsqrt (F := Ideal) (φ := .f32)
      (Ideal.div (∑ x : Fin 128, D x * D x) (Ideal.ofBits .f32 0x43000000#32) + Ideal.ofBits .f32 0x358637BD#32)
    * x4 (ix2 0 e)

theorem pay22_apply (R : FVec Ideal S2048x128 .f32) (x3 x4 : FVec Ideal S1x128 .f32) (ρ : Fin 256) (e : Fin 128) :
    k0_pay22 (F := Ideal) R x3 x4 (ix2 ρ e) = nrm (dif (fun r e => R (ix2 r e)) x3 2 ρ) x4 e := by
  pointwise [k0_pay22]
  rfl

theorem pay1_apply (R : FVec Ideal S2048x128 .f32) (x3 x4 : FVec Ideal S1x128 .f32) (ρ : Fin 256) (e : Fin 128) :
    k0_pay1 (F := Ideal) (k0_pay23 R x3) (k0_pay24 R x3) (Scalar.ofBits .f32 0x43000000#32) x4 (ix2 ρ e)
      = nrm (dif (fun r e => R (ix2 r e)) x3 3 ρ) x4 e := by
  pointwise [k0_pay1, k0_pay23, k0_pay24]
  rfl

theorem pay18_apply (v23 : FVec Ideal S128x2048 .f32) (v25 v27 v29 v31 v33 : FVec Ideal S256x128 .f32)
    (x3 x4 : FVec Ideal S1x128 .f32) (ρ : Fin 256) (e : Fin 128) :
    k0_pay18 (F := Ideal) v23 v25 v27 v29 v31 v33 x3 x4 (ix2 ρ e)
      = nrm (dif (fun r e => k0_pay17 (F := Ideal) v23 v25 v27 v29 v31 v33 (ix2 r e)) x3 0 ρ) x4 e := by
  unfold nrm dif
  pointwise [k0_pay18]

theorem pay21_apply (v23 : FVec Ideal S128x2048 .f32) (v25 v27 v29 v31 v33 : FVec Ideal S256x128 .f32)
    (x3 x4 : FVec Ideal S1x128 .f32) (ρ : Fin 256) (e : Fin 128) :
    k0_pay21 (F := Ideal) (k0_pay19 v23 v25 v27 v29 v31 v33 x3) (k0_pay20 v23 v25 v27 v29 v31 v33 x3) x4 (ix2 ρ e)
      = nrm (dif (fun r e => k0_pay17 (F := Ideal) v23 v25 v27 v29 v31 v33 (ix2 r e)) x3 1 ρ) x4 e := by
  pointwise [k0_pay21, k0_pay19, k0_pay20]
  rfl

/-- The 256 rows of the block's query slot `b`: the normed difference of the components' quotients. -/
theorem rowBlock_apply (A : FVec Ideal S128x2048 .f32) (L : FVec Ideal S1x2048 .f32) (x3 x4 : FVec Ideal S1x128 .f32)
    (b : Fin 4) (ρ : Fin 256) (e : Fin 128) :
    rowBlock (F := Ideal) A L x3 x4 b (ix2 ρ e) = nrm (dif (quo A L) x3 b ρ) x4 e := by
  have hR : (fun r e => outRows (F := Ideal) A L (ix2 r e)) = quo A L :=
    funext fun r => funext fun e => outRows_apply A L r e
  rw [← hR]
  fin_cases b
  · exact pay18_apply ..
  · exact pay21_apply ..
  · exact pay22_apply ..
  · exact pay1_apply ..

end Cert.Kernel2Ideal.Attn
-- ==== Proof.AttnHost.lean ====
module

public import proofs.«01_k».proof.Proof.AttnRows
public import Idealize.ShloMosaic.Lib.StableHlo.ReadAt

@[expose] public section

set_option maxRecDepth 16384

/-!
  The arrays the host prepares for the differential attention, read at an index in the arguments: the queries, per slot of
  256 tokens once with the first component's lanes and once with the second's, the other lanes zero; the keys; the values,
  transposed in slabs of 256; the row of the second component's weight; the row of the norm's scale.
-/

noncomputable section

namespace Cert.Kernel2Ideal.Attn

open Idealize.ShloMosaic Idealize.ShloMosaic.Ideal Idealize.ShloMosaic.TcCoe Idealize.SL.Sem Idealize.ShloMosaic.StableHlo
open Cert.Kernel2Ideal Cert.Kernel2Ideal.Gen

variable (m : (ℓ : Loc nD τ sig) → Buf (Elt Ideal) ℓ) (c : Dev nD)

/-- The five arguments. -/
abbrev argQ : FVec Ideal S1x16640x8x2x64 .f32 := m ((c : Thread nD τ).loc main_arg0)
@[inherit_doc argQ] abbrev argK : FVec Ideal S1x16640x8x2x64 .f32 := m ((c : Thread nD τ).loc main_arg1)
@[inherit_doc argQ] abbrev argV : FVec Ideal S1x16640x8x128 .f32 := m ((c : Thread nD τ).loc main_arg2)
@[inherit_doc argQ] abbrev argP : FVec Ideal S4x64 .f32 := m ((c : Thread nD τ).loc main_arg3)
@[inherit_doc argQ] abbrev argS : FVec Ideal S128 .f32 := m ((c : Thread nD τ).loc main_arg4)

/-- The weight of the second component, of the four rows of 64. -/
def lamOf (P : FVec Ideal S4x64 .f32) : EReal :=
  Ideal.exp (∑ x : Fin 64, P (ix2 0 x) * P (ix2 1 x)) - Ideal.exp (∑ x : Fin 64, P (ix2 2 x) * P (ix2 3 x))
    + Ideal.ofBits .f32 1057905109#32

/-- The row of the second component's weight. -/
theorem lam_at (e : Fin 128) : (V m c main_v33 : FVec Ideal S1x128 .f32) (ix2 0 e) = lamOf (argP m c) := by
  unfold V
  after_reads_at
  rfl

/-- The row of the norm's scale. -/
theorem sub_at (e : Fin 128) : (V m c main_v36 : FVec Ideal S1x128 .f32) (ix2 0 e)
    = (argS m c (ix1 e) * Ideal.ofBits .f32 1055083607#32 : EReal) := by
  unfold V
  after_reads_at

/-- The values, in transposed slabs. -/
theorem v_at (h : Fin 8) (j : Fin 65) (e : Fin 128) (s : Fin 256) :
    (V m c main_v16 : FVec Ideal S8x65x128x256 .bf16) (ix4 h j e s)
      = argV m c (ix4 0 ⟨j.val * 256 + s.val, by omega⟩ h e) := by
  unfold V
  after_reads_at

/-- The keys, a head's two components side by side in 128 lanes. -/
theorem k_at (h : Fin 8) (κ : Fin 16640) (l : Fin 128) :
    (V m c main_v12 : FVec Ideal S8x16640x128 .bf16) (ix3 h κ l)
      = argK m c (ix5 0 κ h ⟨l.val / 64, by omega⟩ ⟨l.val % 64, by omega⟩) := by
  unfold V
  after_reads_at

/-- The comparison that tells the first component's lanes. -/
theorem lane_lt (l : Fin 128) : IntOp.cmpi CmpIPredicate.slt (BitVec.ofNat 32 l.val) 64#32 = if l.val < 64 then 1#1 else 0#1 := by
  revert l; decide

/-- The queries with only the first component's lanes. -/
theorem lo_at (h : Fin 8) (j : Fin 65) (r : Fin 256) (l : Fin 128) :
    (V m c main_v6 : FVec Ideal S8x65x256x128 .f32) (ix4 h j r l)
      = if l.val < 64 then
          argQ m c (ix5 0 ⟨j.val * 256 + r.val, by omega⟩ h ⟨l.val / 64, by omega⟩ ⟨l.val % 64, by omega⟩)
        else (0 : EReal) := by
  unfold V
  after_reads_at
  rw [lane_lt]
  split_ifs with h1
  · rfl
  · show Ideal.ofBits .f32 0#32 = 0
    pointwise

/-- The queries with only the second component's lanes. -/
theorem hi_at (h : Fin 8) (j : Fin 65) (r : Fin 256) (l : Fin 128) :
    (V m c main_v7 : FVec Ideal S8x65x256x128 .f32) (ix4 h j r l)
      = if l.val < 64 then (0 : EReal)
        else argQ m c (ix5 0 ⟨j.val * 256 + r.val, by omega⟩ h ⟨l.val / 64, by omega⟩ ⟨l.val % 64, by omega⟩) := by
  unfold V
  after_reads_at
  rw [lane_lt]
  split_ifs with h1
  · show Ideal.ofBits .f32 0#32 = 0
    pointwise
  · rfl

/-- The first half of a slot is not written after its place in the program. -/
theorem lo_upto : StableHlo.upto [hostOps0, hostOps0_1, hostOps0_2, hostOps0_3, hostOps0_4].flatten (fun b => m (c, b)) 17
    (Proc.devRef .tc main_v6) = V m c main_v6 := by
  unfold V
  after_reads_simp

/-- The second half of a slot is not written after its place in the program. -/
theorem hi_upto : StableHlo.upto [hostOps0, hostOps0_1, hostOps0_2, hostOps0_3, hostOps0_4].flatten (fun b => m (c, b)) 17
    (Proc.devRef .tc main_v7) = V m c main_v7 := by
  unfold V
  after_reads_simp

/-- A slot of queries is its two halves, one after the other. -/
theorem cat_eq : (V m c main_v8 : FVec Ideal S8x65x512x128 .f32)
    = concatenate S8x65x512x128 2 [⟨S8x65x256x128, V m c main_v6⟩, ⟨S8x65x256x128, V m c main_v7⟩]
        concatenates_S8x65x256x128_S8x65x256x128_S8x65x512x128_d2 := by
  rw [← lo_upto, ← hi_upto]
  conv_lhs => unfold V
  after_reads_at

/-- The queries: rows 0 to 255 of a slot have the first component's lanes, rows 256 to 511 the second's. -/
theorem q_at (h : Fin 8) (j : Fin 65) (r : Fin 512) (l : Fin 128) :
    (V m c main_v8 : FVec Ideal S8x65x512x128 .f32) (ix4 h j r l)
      = if l.val / 64 = r.val / 256 then
          argQ m c (ix5 0 ⟨j.val * 256 + r.val % 256, by omega⟩ h ⟨l.val / 64, by omega⟩ ⟨l.val % 64, by omega⟩)
        else (0 : EReal) := by
  have e : (V m c main_v8 : FVec Ideal S8x65x512x128 .f32) (ix4 h j r l)
      = concatenate S8x65x512x128 2 [⟨S8x65x256x128, V m c main_v6⟩, ⟨S8x65x256x128, V m c main_v7⟩]
        concatenates_S8x65x256x128_S8x65x256x128_S8x65x512x128_d2 (ix4 h j r l) := by rw [cat_eq]
  refine e.trans ?_
  generalize hA : (V m c main_v6 : FVec Ideal S8x65x256x128 .f32) = A
  generalize hB : (V m c main_v7 : FVec Ideal S8x65x256x128 .f32) = B
  pointwise
  subst hA hB
  by_cases h1 : r.val < 256
  · rw [dif_pos h1]
    refine (lo_at m c h j ⟨r.val, h1⟩ l).trans ?_
    have hm : r.val % 256 = r.val := by omega
    by_cases h2 : l.val < 64
    · rw [if_pos h2, if_pos (by omega)]
      simp only [hm]
    · rw [if_neg h2, if_neg (by omega)]
  · rw [dif_neg h1]
    refine (hi_at m c h j ⟨r.val - 256, by omega⟩ l).trans ?_
    have hm : r.val % 256 = r.val - 256 := by omega
    by_cases h2 : l.val < 64
    · rw [if_pos h2, if_neg (by omega)]
    · rw [if_neg h2, if_pos (by omega)]
      simp only [hm]

end Cert.Kernel2Ideal.Attn
-- ==== Proof.AttnMath.lean ====
module

public import Idealize.ShloMosaic.Lib.Pointwise

/-! The arithmetic of the differential attention over the reals: that the attention is the same whether or not the greatest
    score is subtracted before the exponential, and that a product over 128 lanes of which one half is zero is the product
    over the other 64. -/

@[expose] public section

noncomputable section

namespace Cert.Attn

open Idealize.ShloMosaic

/-- A sum of real numbers, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many real numbers is a real number. -/
theorem fold_max_coe {n : ℕ} (hn : 0 < n) (f : Fin n → EReal) (hf : ∀ k, ∃ r : ℝ, f k = r) :
    ∃ M : ℝ, max (⊥ : EReal) (Finset.univ.fold max ⊥ f) = M := by
  have hne : (Finset.univ : Finset (Fin n)).Nonempty := ⟨⟨0, hn⟩, Finset.mem_univ _⟩
  obtain ⟨i, -, hi⟩ := Finset.exists_mem_eq_sup (Finset.univ : Finset (Fin n)) hne f
  obtain ⟨r, hr⟩ := hf i
  refine ⟨r, ?_⟩
  rw [max_eq_right bot_le]
  exact hi.trans hr

/-- A constant 1/8. -/
theorem ofBits_eighth : Ideal.ofBits .f32 0x3E000000#32 = ((1 / 8 : ℝ) : EReal) := by
  simp [Ideal.ofBits, Ideal.ieee, -EReal.coe_mul]; norm_num

/-- The number every maximum starts from. -/
theorem ofBits_least : Ideal.ofBits .f32 0xFF800000#32 = ⊥ := by simp [Ideal.ofBits, Ideal.ieee]

/-- The number above all finite ones. -/
theorem ofBits_greatest : Ideal.ofBits .f32 0x7F800000#32 = ⊤ := by simp [Ideal.ofBits, Ideal.ieee]

/-- The constant of the second softmax's factor is a real number. -/
theorem ofBits_init : ∃ r : ℝ, Ideal.ofBits .f32 1057905109#32 = r := by
  refine ⟨9329109 / 16777216, ?_⟩
  simp [Ideal.ofBits, Ideal.ieee, -EReal.coe_mul]; norm_num

/-- A power of two of a score in binary units is the exponential of the score. -/
theorem exp2_scaled (s : ℝ) : Ideal.exp2 ((s * (8 * Real.log 2)⁻¹ : ℝ) : EReal) = ((Real.exp (s * (1 / 8)) : ℝ) : EReal) := by
  rw [Ideal.exp2_coe]
  congr 1
  show (2 : ℝ) ^ (s * (8 * Real.log 2)⁻¹) = _
  rw [Real.rpow_def_of_pos (by norm_num)]
  congr 1
  have : Real.log 2 ≠ 0 := (Real.log_pos (by norm_num)).ne'
  field_simp

/-- A product over 128 lanes, of which one half is zero, is the product over the other half's 64. -/
theorem lanes_sum (k : Fin 2 → Fin 64 → ℝ) (q : Fin 64 → ℝ) (g : Fin 2) (c : ℝ) :
    ∑ l : Fin 128, (((k ⟨l.val / 64, by omega⟩ ⟨l.val % 64, by omega⟩ : ℝ) : EReal)
        * ((if l.val / 64 = g.val then ((q ⟨l.val % 64, by omega⟩ : ℝ) : EReal) else 0) * (c : EReal)))
      = (((∑ d : Fin 64, q d * k g d) * c : ℝ) : EReal) := by
  have e : ∀ l : Fin 128, (((k ⟨l.val / 64, by omega⟩ ⟨l.val % 64, by omega⟩ : ℝ) : EReal)
        * ((if l.val / 64 = g.val then ((q ⟨l.val % 64, by omega⟩ : ℝ) : EReal) else 0) * (c : EReal)))
      = ((k ⟨l.val / 64, by omega⟩ ⟨l.val % 64, by omega⟩
        * ((if l.val / 64 = g.val then q ⟨l.val % 64, by omega⟩ else 0) * c) : ℝ) : EReal) := by
    intro l
    split_ifs <;> push_cast <;> rfl
  rw [Finset.sum_congr rfl fun l _ => e l, sum_coe]
  congr 1
  rw [Fin.sum_univ_tiles 2 64 (by norm_num), Finset.sum_mul, Finset.sum_eq_single g]
  · refine Finset.sum_congr rfl fun d _ => ?_
    have h1 : (64 * g.val + d.val) / 64 = g.val := by omega
    have h2 : (64 * g.val + d.val) % 64 = d.val := by omega
    have h3 : (g.val * 64 + d.val) / 64 = g.val := by omega
    have h4 : (g.val * 64 + d.val) % 64 = d.val := by omega
    simp only [h1, h2, h3, h4, if_true]
    ring
  · intro b _ hb
    refine Finset.sum_eq_zero fun d _ => ?_
    have h3 : ¬ (b.val * 64 + d.val) / 64 = g.val := fun h => hb (Fin.ext (by omega))
    have h1 : ¬ (64 * b.val + d.val) / 64 = g.val := fun h => hb (Fin.ext (by omega))
    simp only [h1, h3, if_false]
    ring
  · intro h
    exact absurd (Finset.mem_univ _) h

/-- One softmax of the attention, without and with the greatest score subtracted. -/
theorem soft_shift {n : ℕ} (hn : 0 < n) (v s : Fin n → ℝ) (M : ℝ) :
    (∑ κ, v κ * Real.exp (s κ)) * (1 / ∑ κ, Real.exp (s κ))
      = ∑ κ, v κ * (Real.exp (s κ - M) * (1 / ∑ κ, Real.exp (s κ - M))) := by
  have hne : (Finset.univ : Finset (Fin n)).Nonempty := ⟨⟨0, hn⟩, Finset.mem_univ _⟩
  have hz : (∑ κ, Real.exp (s κ)) ≠ 0 := (Finset.sum_pos (fun κ _ => Real.exp_pos _) hne).ne'
  have hM : Real.exp (-M) ≠ 0 := (Real.exp_pos _).ne'
  have e : ∀ κ, Real.exp (s κ - M) = Real.exp (s κ) * Real.exp (-M) := fun κ => by
    rw [sub_eq_add_neg, Real.exp_add]
  simp only [e, ← Finset.sum_mul]
  rw [Finset.sum_mul]
  refine Finset.sum_congr rfl fun κ _ => ?_
  field_simp

/-- The difference of the two softmaxes over the values: the kernel's sums, divided at the end, are the reference's. -/
theorem attn_eq {n : ℕ} (hn : 0 < n) (v s0 s1 : Fin n → ℝ) (M0 M1 l : ℝ) :
    Ideal.div (∑ κ, (v κ : EReal) * ((Real.exp (s0 κ) : ℝ) : EReal)) (∑ κ, ((Real.exp (s0 κ) : ℝ) : EReal))
        - (l : EReal) * Ideal.div (∑ κ, (v κ : EReal) * ((Real.exp (s1 κ) : ℝ) : EReal)) (∑ κ, ((Real.exp (s1 κ) : ℝ) : EReal))
      = ∑ κ, (v κ : EReal)
          * (Ideal.div (Ideal.exp ((s0 κ : EReal) - (M0 : EReal))) (∑ κ, Ideal.exp ((s0 κ : EReal) - (M0 : EReal)))
            - (l : EReal)
              * Ideal.div (Ideal.exp ((s1 κ : EReal) - (M1 : EReal))) (∑ κ, Ideal.exp ((s1 κ : EReal) - (M1 : EReal)))) := by
  have hne : (Finset.univ : Finset (Fin n)).Nonempty := ⟨⟨0, hn⟩, Finset.mem_univ _⟩
  have hz : ∀ f : Fin n → ℝ, (∑ κ, Real.exp (f κ)) ≠ 0 := fun f => (Finset.sum_pos (fun κ _ => Real.exp_pos _) hne).ne'
  simp only [← EReal.coe_sub, Ideal.exp_coe, ← EReal.coe_mul, sum_coe]
  simp only [Ideal.div_coe (hz _), ← EReal.coe_mul, ← EReal.coe_sub, sum_coe]
  congr 1
  rw [soft_shift hn v s0 M0, soft_shift hn v s1 M1, Finset.mul_sum, ← Finset.sum_sub_distrib]
  refine Finset.sum_congr rfl fun κ _ => ?_
  ring

end Cert.Attn
-- ==== Proof.AttnEq.lean ====
module

public import proofs.«01_k».proof.Proof.AttnHost
public import proofs.«01_k».proof.Proof.AttnRef
public import proofs.«01_k».proof.Proof.AttnMath

@[expose] public section

set_option maxRecDepth 16384

/-!
  One row of a block's output is one row of the reference: the kernel's sums over all keys, divided at the end, are the
  reference's two softmaxes over the values, for finite queries, keys, values and weight rows.
-/

noncomputable section

namespace Cert.Kernel2Ideal.Attn

open Idealize.ShloMosaic Idealize.ShloMosaic.Ideal
open Cert.Kernel2Ideal Cert.Kernel2Ideal.Gen

/-- An array of finite numbers. -/
def Fin1 {s : Shape} (X : s.Idx → EReal) : Prop := ∀ i, ∃ r : ℝ, X i = r

/-- What a block's windows hold for the query slot `b` of the block at head `h` and step `i`. -/
structure Holds (Q K : FVec Ideal S1x16640x8x2x64 .f32) (V : FVec Ideal S1x16640x8x128 .f32) (L : EReal)
    (U : FVec Ideal S128 .f32) (h : Fin 8) (i : Fin 16) (b : Fin 4) (x0 : FVec Ideal S1x4x512x128 .f32)
    (x1 : FVec Ideal S1x16640x128 .bf16) (x2 : FVec Ideal S1x65x128x256 .bf16) (x3 x4 : FVec Ideal S1x128 .f32) : Prop where
  q : ∀ (t : Fin 512) (l : Fin 128), x0 (ix4 0 b t l)
    = if l.val / 64 = t.val / 256 then
        Q (ix5 0 ⟨(4 * i.val + b.val) * 256 + t.val % 256, by omega⟩ h ⟨l.val / 64, by omega⟩ ⟨l.val % 64, by omega⟩)
      else (0 : EReal)
  k : ∀ (κ : Fin 16640) (l : Fin 128), x1 (ix3 0 κ l) = K (ix5 0 κ h ⟨l.val / 64, by omega⟩ ⟨l.val % 64, by omega⟩)
  v : ∀ (j : Fin 65) (e : Fin 128) (s : Fin 256), x2 (ix4 0 j e s) = V (ix4 0 ⟨j.val * 256 + s.val, by omega⟩ h e)
  lam : ∀ e : Fin 128, x3 (ix2 0 e) = L
  sub : ∀ e : Fin 128, x4 (ix2 0 e) = (U (ix1 e) * Ideal.ofBits .f32 1055083607#32 : EReal)

section
variable {Q K : FVec Ideal S1x16640x8x2x64 .f32} {V : FVec Ideal S1x16640x8x128 .f32} {L : EReal}
  {U : FVec Ideal S128 .f32} {h : Fin 8} {i : Fin 16} {b : Fin 4} {x0 : FVec Ideal S1x4x512x128 .f32}
  {x1 : FVec Ideal S1x16640x128 .bf16} {x2 : FVec Ideal S1x65x128x256 .bf16} {x3 x4 : FVec Ideal S1x128 .f32}

/-- The score of token `t` with key `κ`, of finite queries and keys. -/
def sc (q k : S1x16640x8x2x64.Idx → ℝ) (h : Fin 8) (g : Fin 2) (t : Fin 16640) (κ : Fin 16640) : ℝ :=
  (∑ d : Fin 64, q (ix5 0 t h g d) * k (ix5 0 κ h g d)) * (1 / 8)

/-- The kernel's weight of a key is the exponential of its score. -/
theorem wt_eq (H : Holds Q K V L U h i b x0 x1 x2 x3 x4) {q k : S1x16640x8x2x64.Idx → ℝ} (hq : ∀ i, Q i = (q i : EReal))
    (hk : ∀ i, K i = (k i : EReal)) (g : Fin 2) (ρ : Fin 256) (κ : Fin 16640) :
    wt (k0_pay7 x0) x1 ⟨512 * b.val + (256 * g.val + ρ.val), by omega⟩ κ
      = ((Real.exp (sc q k h g ⟨(4 * i.val + b.val) * 256 + ρ.val, by omega⟩ κ) : ℝ) : EReal) := by
  unfold wt
  have e : ∀ l : Fin 128, x1 (ix3 0 κ l) * k0_pay7 (F := Ideal) x0 (ix2 ⟨512 * b.val + (256 * g.val + ρ.val), by omega⟩ l)
      = (((fun (g : Fin 2) (d : Fin 64) => k (ix5 0 κ h g d)) ⟨l.val / 64, by omega⟩ ⟨l.val % 64, by omega⟩ : ℝ) : EReal)
        * ((if l.val / 64 = g.val then
            (((fun d : Fin 64 => q (ix5 0 ⟨(4 * i.val + b.val) * 256 + ρ.val, by omega⟩ h g d)) ⟨l.val % 64, by omega⟩ : ℝ) : EReal)
            else 0) * (((8 * Real.log 2)⁻¹ : ℝ) : EReal)) := by
    intro l
    rw [pay7_apply x0 b ⟨256 * g.val + ρ.val, by omega⟩ l, H.q, H.k, hk]
    have h1 : (256 * g.val + ρ.val) / 256 = g.val := by omega
    have h2 : (256 * g.val + ρ.val) % 256 = ρ.val := by omega
    simp only [h1, h2]
    split_ifs with hl
    · rw [hq]
      have : (⟨l.val / 64, by omega⟩ : Fin 2) = g := Fin.ext hl
      rw [this]
    · rfl
  refine (congrArg (FloatOps.exp2 (F := Ideal) (φ := .f32)) ((Finset.sum_congr rfl fun l _ => e l).trans
    (Cert.Attn.lanes_sum (fun (g : Fin 2) (d : Fin 64) => k (ix5 0 κ h g d))
      (fun d : Fin 64 => q (ix5 0 ⟨(4 * i.val + b.val) * 256 + ρ.val, by omega⟩ h g d)) g (8 * Real.log 2)⁻¹))).trans ?_
  exact Cert.Attn.exp2_scaled _

/-- The quotient of a row, of finite inputs. -/
theorem quo_eq (H : Holds Q K V L U h i b x0 x1 x2 x3 x4) {q k : S1x16640x8x2x64.Idx → ℝ} {v : S1x16640x8x128.Idx → ℝ}
    (hq : ∀ i, Q i = (q i : EReal)) (hk : ∀ i, K i = (k i : EReal)) (hv : ∀ i, V i = (v i : EReal))
    (g : Fin 2) (ρ : Fin 256) (e : Fin 128) :
    quo (atExit (F := Ideal) x0 x1 x2).1 (atExit (F := Ideal) x0 x1 x2).2 ⟨512 * b.val + (256 * g.val + ρ.val), by omega⟩ e
      = Ideal.div (∑ κ : Fin 16640, (v (ix4 0 κ h e) : EReal)
            * ((Real.exp (sc q k h g ⟨(4 * i.val + b.val) * 256 + ρ.val, by omega⟩ κ) : ℝ) : EReal))
          (∑ κ : Fin 16640, ((Real.exp (sc q k h g ⟨(4 * i.val + b.val) * 256 + ρ.val, by omega⟩ κ) : ℝ) : EReal)) := by
  unfold quo
  rw [acc_apply, den_apply]
  refine congrArg₂ Ideal.div ?_ ?_
  · refine Finset.sum_congr rfl fun κ _ => ?_
    have hκ : (⟨κ.val / 256 * 256 + κ.val % 256, by omega⟩ : Fin 16640) = κ :=
      Fin.ext (show κ.val / 256 * 256 + κ.val % 256 = κ.val by omega)
    have e1 : slabVal x2 e κ = (v (ix4 0 κ h e) : EReal) := by
      unfold slabVal
      rw [H.v, hv]
      simp only [hκ]
    exact congrArg₂ (fun a b : EReal => a * b) e1 (wt_eq H hq hk g ρ κ)
  · exact Finset.sum_congr rfl fun κ _ => wt_eq H hq hk g ρ κ

end

section
open Cert.Reference2Ideal.Attn

/-- The reference's difference over the values, of finite inputs. -/
theorem mix_eq (Q K : FVec Ideal S1x16640x8x2x64 .f32) (V : FVec Ideal S1x16640x8x128 .f32) (P : FVec Ideal S4x64 .f32)
    {q k : S1x16640x8x2x64.Idx → ℝ} {v : S1x16640x8x128.Idx → ℝ}
    (hq : ∀ i, Q i = (q i : EReal)) (hk : ∀ i, K i = (k i : EReal)) (hv : ∀ i, V i = (v i : EReal))
    (t : Fin 16384) (h : Fin 8) : ∃ M0 M1 : ℝ, ∀ e : Fin 128,
    mix V (diff (soft (expo (scores Q K) (top (scores Q K)))) (lam P)) (ix4 0 t h e)
      = ∑ κ : Fin 16640, (v (ix4 0 κ h e) : EReal)
          * (Ideal.div (Ideal.exp ((sc q k h 0 ⟨t.val, by omega⟩ κ : EReal) - (M0 : EReal)))
              (∑ κ : Fin 16640, Ideal.exp ((sc q k h 0 ⟨t.val, by omega⟩ κ : EReal) - (M0 : EReal)))
            - lamOf P
              * Ideal.div (Ideal.exp ((sc q k h 1 ⟨t.val, by omega⟩ κ : EReal) - (M1 : EReal)))
                (∑ κ : Fin 16640, Ideal.exp ((sc q k h 1 ⟨t.val, by omega⟩ κ : EReal) - (M1 : EReal)))) := by
  have hs : ∀ (h : Fin 8) (g : Fin 2) (t : Fin 16384) (κ : Fin 16640),
      scores Q K (ix5 0 h g t κ) = ((sc q k h g ⟨t.val, by omega⟩ κ : ℝ) : EReal) := by
    intro h g t κ
    rw [scores_apply, Cert.Attn.ofBits_eighth]
    simp only [hq, hk, ← EReal.coe_mul, Cert.Attn.sum_coe]
    rfl
  have hfin : ∀ j, ∃ r : ℝ, (scores Q K j : EReal) = r := by
    intro j
    refine ⟨_, (congrArg (scores Q K) ?_).trans (hs (j 1) (j 2) (j 3) (j 4))⟩
    funext a
    match a with
    | ⟨0, _⟩ => exact Subsingleton.elim (α := Fin 1) _ _
    | ⟨1, _⟩ => rfl
    | ⟨2, _⟩ => rfl
    | ⟨3, _⟩ => rfl
    | ⟨4, _⟩ => rfl
  have htop : ∀ j, ∃ M : ℝ, (top (scores Q K) j : EReal) = M := by
    intro j
    obtain ⟨f, hf⟩ := top_eq (scores Q K) j
    rw [hf, Cert.Attn.ofBits_least]
    exact Cert.Attn.fold_max_coe (by norm_num) _ fun κ => hfin _
  obtain ⟨M0, h0⟩ := htop (ix4 0 h 0 t)
  obtain ⟨M1, h1⟩ := htop (ix4 0 h 1 t)
  refine ⟨M0, M1, fun e => ?_⟩
  rw [mix_apply]
  refine Finset.sum_congr rfl fun κ _ => ?_
  rw [diff_apply, soft_apply, soft_apply, lam_apply, hv]
  simp only [expo_apply, hs, h0, h1]
  rfl

/-- One row of a block's output is one row of the reference. -/
theorem row_eq (Q K : FVec Ideal S1x16640x8x2x64 .f32) (V : FVec Ideal S1x16640x8x128 .f32) (P : FVec Ideal S4x64 .f32)
    (U : FVec Ideal S128 .f32) (hQ : Fin1 Q) (hK : Fin1 K) (hV : Fin1 V) (hP : Fin1 P)
    (h : Fin 8) (i : Fin 16) (b : Fin 4) (x0 : FVec Ideal S1x4x512x128 .f32)
    (x1 : FVec Ideal S1x16640x128 .bf16) (x2 : FVec Ideal S1x65x128x256 .bf16) (x3 x4 : FVec Ideal S1x128 .f32)
    (H : Holds Q K V (lamOf P) U h i b x0 x1 x2 x3 x4) (ρ : Fin 256) (e : Fin 128) :
    rowBlock (F := Ideal) (atExit (F := Ideal) x0 x1 x2).1 (atExit (F := Ideal) x0 x1 x2).2 x3 x4 b (ix2 ρ e)
      = norm (mix V (diff (soft (expo (scores Q K) (top (scores Q K)))) (lam P))) U
          (ix2 ⟨(4 * i.val + b.val) * 256 + ρ.val, by omega⟩ ⟨h.val * 128 + e.val, by omega⟩) := by
  choose q hq using hQ
  choose k hk using hK
  choose v hv using hV
  choose p hp using hP
  obtain ⟨r, hr⟩ : ∃ r : ℝ, lamOf P = r := by
    obtain ⟨r0, hr0⟩ := Cert.Attn.ofBits_init
    refine ⟨Real.exp (∑ x : Fin 64, p (ix2 0 x) * p (ix2 1 x))
      - Real.exp (∑ x : Fin 64, p (ix2 2 x) * p (ix2 3 x)) + r0, ?_⟩
    · unfold lamOf
      simp only [hp, ← EReal.coe_mul, Cert.Attn.sum_coe, Ideal.exp_coe, hr0, ← EReal.coe_sub, ← EReal.coe_add]
  obtain ⟨M0, M1, hm⟩ := mix_eq Q K V P hq hk hv ⟨(4 * i.val + b.val) * 256 + ρ.val, by omega⟩ h
  have hd : ∀ e : Fin 128, dif (quo (atExit (F := Ideal) x0 x1 x2).1 (atExit (F := Ideal) x0 x1 x2).2) x3 b ρ e
      = mix V (diff (soft (expo (scores Q K) (top (scores Q K)))) (lam P))
          (ix4 0 ⟨(4 * i.val + b.val) * 256 + ρ.val, by omega⟩ h e) := by
    intro e
    rw [hm e]
    unfold dif
    rw [H.lam, hr]
    refine (congrArg₂ (fun a c : EReal => a - (r : EReal) * c) ?_ ?_).trans
      (Cert.Attn.attn_eq (n := 16640) (by norm_num) (fun κ => v (ix4 0 κ h e))
        (fun κ => sc q k h 0 ⟨(4 * i.val + b.val) * 256 + ρ.val, by omega⟩ κ)
        (fun κ => sc q k h 1 ⟨(4 * i.val + b.val) * 256 + ρ.val, by omega⟩ κ) M0 M1 r)
    · refine Eq.trans (congrArg (fun z => quo _ _ z e) (Fin.ext ?_)) (quo_eq H hq hk hv 0 ρ e)
      simp
    · refine Eq.trans (congrArg (fun z => quo _ _ z e) (Fin.ext ?_)) (quo_eq H hq hk hv 1 ρ e)
      simp; omega
  rw [rowBlock_apply, norm_apply]
  unfold nrm
  rw [H.sub]
  simp only [hd]
  rw [mul_assoc, mul_assoc, mul_assoc]

end

end Cert.Kernel2Ideal.Attn
-- ==== Proof.AttnBlocks.lean ====
module

public import proofs.«01_k».proof.Proof.AttnEq
public import proofs.«01_k».proof.Proof.Gen.Kernel2Ideal.Value
public import Idealize.ShloMosaic.Lib.WritesUnit

@[expose] public section

set_option maxRecDepth 16384

/-!
  From the blocks to the arrays: what the windows hold at grid point `t` (head `t / 16`, step `t % 16`), in the arguments;
  the block that the point writes back; and so the whole result, which is the reference's array.
-/

noncomputable section

namespace Cert.Kernel2Ideal.Attn

open Idealize.ShloMosaic Idealize.ShloMosaic.Ideal Idealize.ShloMosaic.TcCoe Idealize.SL.Sem
open Cert.Kernel2Ideal Cert.Kernel2Ideal.Gen
open Idealize.ShloMosaic.Pipeline (Dat)

/-! ## Where the blocks lie -/

theorem idx0 : ∀ t : Fin grid0.N, win0_0.index t = ![t.val / 16, t.val % 16, 0, 0] := by decide +kernel
theorem idx1 : ∀ t : Fin grid0.N, win0_1.index t = ![t.val / 16, 0, 0] := by decide +kernel
theorem idx2 : ∀ t : Fin grid0.N, win0_2.index t = ![t.val / 16, 0, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val % 16, t.val / 16] := by decide +kernel

theorem lt_128 (t : Fin cfg0.N) : t.val < 128 := t.isLt

/-- The head of a grid point. -/
def hd (t : Fin cfg0.N) : Fin 8 := ⟨t.val / 16, by have := lt_128 t; omega⟩
/-- The step of a grid point. -/
def st (t : Fin cfg0.N) : Fin 16 := ⟨t.val % 16, by omega⟩

variable (m : (ℓ : Loc nD τ sig) → Buf (Elt Ideal) ℓ) (c : Dev nD) (t : Fin cfg0.N)

/-! ## What the windows hold -/

theorem blk1_at (κ : Fin 16640) (l : Fin 128) :
    (iblk m c 1 t : FVec Ideal S1x16640x128 .bf16) (ix3 0 κ l) = (V m c main_v12 : FVec Ideal S8x16640x128 .bf16) (ix3 (hd t) κ l) := by
  unfold iblk
  rw [View.read_apply]
  show (V m c main_v12 : FVec Ideal S8x16640x128 .bf16) _ = _
  refine congrArg (V m c main_v12 : FVec Ideal S8x16640x128 .bf16) ?_
  funext a
  apply Fin.ext
  match a with
  | ⟨0, _⟩ => show win0_1.index t 0 * 1 + 1 * 0 = t.val / 16; rw [idx1]; simp
  | ⟨1, _⟩ => show win0_1.index t 1 * 16640 + 1 * κ.val = κ.val; rw [idx1]; simp
  | ⟨2, _⟩ => show win0_1.index t 2 * 128 + 1 * l.val = l.val; rw [idx1]; simp

theorem blk2_at (j : Fin 65) (e : Fin 128) (s : Fin 256) :
    (iblk m c 2 t : FVec Ideal S1x65x128x256 .bf16) (ix4 0 j e s)
      = (V m c main_v16 : FVec Ideal S8x65x128x256 .bf16) (ix4 (hd t) j e s) := by
  unfold iblk
  rw [View.read_apply]
  show (V m c main_v16 : FVec Ideal S8x65x128x256 .bf16) _ = _
  refine congrArg (V m c main_v16 : FVec Ideal S8x65x128x256 .bf16) ?_
  funext a
  apply Fin.ext
  match a with
  | ⟨0, _⟩ => show win0_2.index t 0 * 1 + 1 * 0 = t.val / 16; rw [idx2]; simp
  | ⟨1, _⟩ => show win0_2.index t 1 * 65 + 1 * j.val = j.val; rw [idx2]; simp
  | ⟨2, _⟩ => show win0_2.index t 2 * 128 + 1 * e.val = e.val; rw [idx2]; simp
  | ⟨3, _⟩ => show win0_2.index t 3 * 256 + 1 * s.val = s.val; rw [idx2]; simp

theorem blk3_at (e : Fin 128) :
    (iblk m c 3 t : FVec Ideal S1x128 .f32) (ix2 0 e) = (V m c main_v33 : FVec Ideal S1x128 .f32) (ix2 0 e) := by
  unfold iblk
  rw [View.read_apply]
  show (V m c main_v33 : FVec Ideal S1x128 .f32) _ = _
  refine congrArg (V m c main_v33 : FVec Ideal S1x128 .f32) ?_
  funext a
  apply Fin.ext
  match a with
  | ⟨0, _⟩ => show win0_3.index t 0 * 1 + 1 * 0 = 0; rw [idx3]; simp
  | ⟨1, _⟩ => show win0_3.index t 1 * 128 + 1 * e.val = e.val; rw [idx3]; simp

theorem blk4_at (e : Fin 128) :
    (iblk m c 4 t : FVec Ideal S1x128 .f32) (ix2 0 e) = (V m c main_v36 : FVec Ideal S1x128 .f32) (ix2 0 e) := by
  unfold iblk
  rw [View.read_apply]
  show (V m c main_v36 : FVec Ideal S1x128 .f32) _ = _
  refine congrArg (V m c main_v36 : FVec Ideal S1x128 .f32) ?_
  funext a
  apply Fin.ext
  match a with
  | ⟨0, _⟩ => show win0_4.index t 0 * 1 + 1 * 0 = 0; rw [idx4]; simp
  | ⟨1, _⟩ => show win0_4.index t 1 * 128 + 1 * e.val = e.val; rw [idx4]; simp

theorem blk0_at (b : Fin 4) (r : Fin 512) (l : Fin 128) :
    (X0_0 m c t : FVec Ideal S1x4x512x128 .f32) (ix4 0 b r l)
      = (V m c main_v8 : FVec Ideal S8x65x512x128 .f32)
          (ix4 (hd t) ⟨4 * (st t).val + b.val, by have := (st t).isLt; omega⟩ r l) := by
  unfold X0_0 Pipeline.Window.fill
  rw [dif_pos (moved0_0 t _)]
  unfold iblk
  rw [View.read_apply]
  show (V m c main_v8 : FVec Ideal S8x65x512x128 .f32) _ = _
  refine congrArg (V m c main_v8 : FVec Ideal S8x65x512x128 .f32) ?_
  funext a
  apply Fin.ext
  match a with
  | ⟨0, _⟩ => show win0_0.index t 0 * 1 + 1 * 0 = t.val / 16; rw [idx0]; simp
  | ⟨1, _⟩ => show win0_0.index t 1 * 4 + 1 * b.val = 4 * (t.val % 16) + b.val; rw [idx0]; simp; omega
  | ⟨2, _⟩ => show win0_0.index t 2 * 512 + 1 * r.val = r.val; rw [idx0]; simp
  | ⟨3, _⟩ => show win0_0.index t 3 * 128 + 1 * l.val = l.val; rw [idx0]; simp

/-- The windows at a grid point hold what the row equation asks for. -/
theorem holds (b : Fin 4) : Holds (argQ m c) (argK m c) (argV m c) (lamOf (argP m c)) (argS m c) (hd t) (st t) b
    (X0_0 m c t) (iblk m c 1 t) (iblk m c 2 t) (iblk m c 3 t) (iblk m c 4 t) where
  q r l := (blk0_at m c t b r l).trans (q_at m c _ _ r l)
  k κ l := (blk1_at m c t κ l).trans (k_at m c _ κ l)
  v j e s := (blk2_at m c t j e s).trans (v_at m c _ j e s)
  lam e := (blk3_at m c t e).trans (lam_at m c e)
  sub e := (blk4_at m c t e).trans (sub_at m c e)

/-! ## The block written back -/

/-- Row `256 b + ρ` of a block written as four pieces of 256 rows is row `ρ` of piece `b`. -/
theorem rows_at (W : Fin 4 → FVec Ideal S256x128 .bf16) (b : Fin 4) (ρ : Fin 256) (e : Fin 128) :
    VO0_5.read (Elt Ideal) (VO0_5.writes (Elt Ideal) VO0_5.junk
        [⟨Rect.unit (s := S1024x128) ![768, 0] S256x128.size inb_S1024x128_S256x128_768_0, W 3⟩,
         ⟨Rect.unit (s := S1024x128) ![512, 0] S256x128.size inb_S1024x128_S256x128_512_0, W 2⟩,
         ⟨Rect.unit (s := S1024x128) ![256, 0] S256x128.size inb_S1024x128_S256x128_256_0, W 1⟩,
         ⟨Rect.unit (s := S1024x128) ![0, 0] S256x128.size inb_S1024x128_S256x128_0_0, W 0⟩])
      (ix2 ⟨256 * b.val + ρ.val, by omega⟩ e) = W b (ix2 ρ e) := by
  have hρ := ρ.isLt
  fin_cases b
  · refine (View.read_writes_cons_rows_of_not_mem (W := 256) VO0_5 _ _ _ _ _ rfl rfl (Or.inl ?_)).trans
      ((View.read_writes_cons_rows_of_not_mem (W := 256) VO0_5 _ _ _ _ _ rfl rfl (Or.inl ?_)).trans
      ((View.read_writes_cons_rows_of_not_mem (W := 256) VO0_5 _ _ _ _ _ rfl rfl (Or.inl ?_)).trans
      (View.read_writes_cons_rows_of_mem VO0_5 _ _ _ _ _ (ix2 ρ e) rfl ?_ ?_)))
    · show 256 * 0 + ρ.val < 768; omega
    · show 256 * 0 + ρ.val < 512; omega
    · show 256 * 0 + ρ.val < 256; omega
    · show 256 * 0 + ρ.val = 0 + ρ.val; omega
    · rfl
  · refine (View.read_writes_cons_rows_of_not_mem (W := 256) VO0_5 _ _ _ _ _ rfl rfl (Or.inl ?_)).trans
      ((View.read_writes_cons_rows_of_not_mem (W := 256) VO0_5 _ _ _ _ _ rfl rfl (Or.inl ?_)).trans
      (View.read_writes_cons_rows_of_mem VO0_5 _ _ _ _ _ (ix2 ρ e) rfl ?_ ?_))
    · show 256 * 1 + ρ.val < 768; omega
    · show 256 * 1 + ρ.val < 512; omega
    · show 256 * 1 + ρ.val = 256 + ρ.val; omega
    · rfl
  · refine (View.read_writes_cons_rows_of_not_mem (W := 256) VO0_5 _ _ _ _ _ rfl rfl (Or.inl ?_)).trans
      (View.read_writes_cons_rows_of_mem VO0_5 _ _ _ _ _ (ix2 ρ e) rfl ?_ ?_)
    · show 256 * 2 + ρ.val < 768; omega
    · show 256 * 2 + ρ.val = 512 + ρ.val; omega
    · rfl
  · refine View.read_writes_cons_rows_of_mem VO0_5 _ _ _ _ _ (ix2 ρ e) rfl ?_ ?_
    · show 256 * 3 + ρ.val = 768 + ρ.val; omega
    · rfl

section
open Cert.Reference2Ideal.Attn

/-- The reference's array, in the kernel's arguments. -/
def want : FVec Ideal S16384x1024 .bf16 :=
  norm (mix (argV m c) (diff (soft (expo (scores (argQ m c) (argK m c)) (top (scores (argQ m c) (argK m c))))) (lam (argP m c))))
    (argS m c)

/-- The arguments that the attention sums over are finite. -/
structure Finite : Prop where
  q : Fin1 (argQ m c)
  k : Fin1 (argK m c)
  v : Fin1 (argV m c)
  p : Fin1 (argP m c)

theorem out_at (hf : Finite m c) (R : Fin 1024) (e : Fin 128) :
    (outsAt0 m c t : FVec Ideal S1024x128 .bf16) (ix2 R e)
      = want m c (ix2 ⟨(st t).val * 1024 + R.val, by have := (st t).isLt; omega⟩
          ⟨(hd t).val * 128 + e.val, by have := (hd t).isLt; omega⟩) := by
  obtain ⟨b, ρ, hR⟩ : ∃ (b : Fin 4) (ρ : Fin 256), R = ⟨256 * b.val + ρ.val, by omega⟩ :=
    ⟨⟨R.val / 256, by omega⟩, ⟨R.val % 256, by omega⟩, Fin.ext (by dsimp only; omega)⟩
  subst hR
  unfold outsAt0
  rw [out_block]
  refine (rows_at (rowBlock (F := Ideal) (atExit (F := Ideal) (X0_0 m c t) (iblk m c 1 t) (iblk m c 2 t)).1
    (atExit (F := Ideal) (X0_0 m c t) (iblk m c 1 t) (iblk m c 2 t)).2 (iblk m c 3 t) (iblk m c 4 t)) b ρ e).trans ?_
  refine (row_eq (argQ m c) (argK m c) (argV m c) (argP m c) (argS m c) hf.q hf.k hf.v hf.p (hd t) (st t) b
    (X0_0 m c t) (iblk m c 1 t) (iblk m c 2 t) (iblk m c 3 t) (iblk m c 4 t) (holds m c t b) ρ e).trans ?_
  refine congrArg (want m c) (congrArg (fun z => ix2 z _) (Fin.ext ?_))
  show (4 * (st t).val + b.val) * 256 + ρ.val = (st t).val * 1024 + (256 * b.val + ρ.val)
  omega

/-- What a grid point writes back is its block of the reference's array. -/
theorem flushed_eq (hf : Finite m c) (hw : (cfg0.win 5).flush t = true) :
    (dats m 0 c).flushed 5 t = ((cfg0.win 5).blk t).view.read (Elt Ideal) (want m c) := by
  rw [Value.flushed5]
  funext y
  rw [View.read_apply]
  have h0 : (y 0).val < 1024 := (y 0).isLt
  have h1 : (y 1).val < 128 := (y 1).isLt
  have e := out_at m c t hf ⟨(y 0).val, h0⟩ ⟨(y 1).val, h1⟩
  refine (congrArg (outsAt0 m c t) ?_).trans (e.trans (congrArg (want m c) ?_))
  · funext a
    match a with
    | ⟨0, _⟩ => rfl
    | ⟨1, _⟩ => rfl
  · funext a
    apply Fin.ext
    match a with
    | ⟨0, _⟩ => show t.val % 16 * 1024 + (y 0).val = win0_5.index t 0 * 1024 + 1 * (y 0).val; rw [idx5]; simp
    | ⟨1, _⟩ => show t.val / 16 * 128 + (y 1).val = win0_5.index t 1 * 128 + 1 * (y 1).val; rw [idx5]; simp

/-- The result is the reference's array. -/
theorem final_eq (hf : Finite m c) : (dats m 0 c).arrAt 5 cfg0.N = want m c :=
  (dats m 0 c).arrAt_eq_of_cover 5 (want m c) (fun t hw => flushed_eq m c t hf hw) fun i => by
    have h0 : (i 0 : Nat) < 16384 := (i 0).isLt
    have h1 : (i 1 : Nat) < 1024 := (i 1).isLt
    have ht : (i 1 : Nat) / 128 * 16 + (i 0 : Nat) / 1024 < grid0.N := by
      show _ < 128
      omega
    refine ⟨⟨(i 1 : Nat) / 128 * 16 + (i 0 : Nat) / 1024, ht⟩, flush0_5 _, ?_⟩
    show i ∈ ((View.whole main_v37).slice (win0_5.rect ⟨(i 1 : Nat) / 128 * 16 + (i 0 : Nat) / 1024, ht⟩)).set
    rw [View.set_slice_whole, Rect.mem_set_unit]
    intro a
    match a with
    | ⟨0, _⟩ =>
      show win0_5.index ⟨_, ht⟩ 0 * 1024 ≤ (i 0 : Nat) ∧ (i 0 : Nat) < win0_5.index ⟨_, ht⟩ 0 * 1024 + 1024
      rw [idx5]
      simp
      omega
    | ⟨1, _⟩ =>
      show win0_5.index ⟨_, ht⟩ 1 * 128 ≤ (i 1 : Nat) ∧ (i 1 : Nat) < win0_5.index ⟨_, ht⟩ 1 * 128 + 128
      rw [idx5]
      simp
      omega

end

end Cert.Kernel2Ideal.Attn
-- ==== Proof.AttnPre.lean ====
module

public import proofs.«01_k».proof.Proof.AttnBlocks
public import proofs.«01_k».proof.Defs

/-!
The precondition read as a statement about numbers: where `entries_finite` is all ones, every entry of the
queries, the keys, the values and the lambda parameters is a real number, neither `⊤` nor `⊥`.
-/

@[expose] public section

noncomputable section

namespace Cert.Kernel2Ideal.Attn

open Idealize.ShloMosaic Idealize.ShloMosaic.Ideal Idealize.ShloMosaic.TcCoe
open Cert.Kernel2Ideal

/-- The side conditions the precondition's broadcasts state. -/
theorem entries_facts : Cert.Pre_entries_finite.Facts where
  bcast_S_S1x16640x8x2x64 := by decide
  bcast_S_S1x16640x8x128 := by decide
  bcast_S_S4x64 := by decide

/-- One entry's two comparisons, both true: the entry is a real number. -/
theorem real_of_between (x : Ideal .f32)
    (h : IntOp.andi (FloatOps.cmpf .ogt x (Scalar.ofBits .f32 0xFF800000#32))
      (FloatOps.cmpf .olt x (Scalar.ofBits .f32 0x7F800000#32)) = 1#1) : ∃ r : ℝ, x = (r : EReal) := by
  have both (p q : Bool) : IntOp.andi (BitVec.ofBool p) (BitVec.ofBool q) = 1#1 ↔ p = true ∧ q = true := by
    cases p <;> cases q <;> decide
  have h' : IntOp.andi (BitVec.ofBool (decide (Ideal.ofBits .f32 0xFF800000#32 < x)))
      (BitVec.ofBool (decide (x < Ideal.ofBits .f32 0x7F800000#32))) = 1#1 := h
  rw [Cert.Attn.ofBits_least, Cert.Attn.ofBits_greatest] at h'
  obtain ⟨h1, h2⟩ := (both _ _).mp h'
  rw [decide_eq_true_eq] at h1 h2
  exact ⟨EReal.toReal x, (EReal.coe_toReal h2.ne h1.ne').symm⟩

/-- The precondition gives real entries on every device. -/
theorem finite_of_pre [Cert.Pre_entries_finite.Facts] (m : (ℓ : Loc nD τ sig) → Buf (Elt Ideal) ℓ)
    (h : Cert.Pre_Kernel2Ideal_entries_finite m) (c : Dev nD) : Finite m c where
  q i := real_of_between _ (congrFun (h c).1 i)
  k i := real_of_between _ (congrFun (h c).2.1 i)
  v i := real_of_between _ (congrFun (h c).2.2.1 i)
  p i := real_of_between _ (congrFun (h c).2.2.2 i)

end Cert.Kernel2Ideal.Attn

end
-- ==== Proof.CombRef.lean ====
module

public import proofs.«01_k».proof.Proof.Gen.Reference3.Run
public import Idealize.ShloMosaic.Lib.Pointwise

/-!
The reference of the combination at a token and a lane: the residual plus the gate times the weighted sum of
the two experts' rows. The rows come in four pieces of 256 lanes.
-/

@[expose] public section

set_option maxRecDepth 16384

noncomputable section

namespace Cert.Reference3.Comb

open Idealize.ShloMosaic Idealize.ShloMosaic.TcCoe
open Cert.Reference3 Cert.Reference3.Gen

variable {F : FTy → Type} [FloatOps F]

/-- One entry of the combination, from the entries it is made of. -/
def entry (x g w0 y0 w1 y1 : F .f32) : F .f32 :=
  FloatOps.addf x (FloatOps.mulf g (FloatOps.addf (FloatOps.mulf w0 y0) (FloatOps.mulf w1 y1)))

/-- The reference's array, in the arguments. -/
def combined (Y : FVec F S4x2x16384x256 .f32) (W : FVec F S16384x2 .f32) (X : FVec F S16384x1024 .f32)
    (G : FVec F S2x1x1024 .f32) : FVec F S16384x1024 .f32 :=
  addf X (mulf (broadcastInDim S16384x1024 ![0, 1] bcast_S1x1024_S16384x1024_0_1 (shapeCast _ (extractStridedSlice S1x1x1024 ![1, 0, 0] G slices_S2x1x1024_S1x1x1024_1_0_0) shapeCasts_S1x1x1024_S1x1024)) (addf (mulf (broadcastInDim S16384x1024 ![0, 1] bcast_S16384x1_S16384x1024_0_1 (extractStridedSlice S16384x1 ![0, 0] W slices_S16384x2_S16384x1_0_0)) (shapeCast _ (extractStridedSlice S1x16384x1024 ![0, 0, 0] (shapeCast _ (transpose S2x16384x4x256 [1, 2, 0, 3] Y transposes_S4x2x16384x256_S2x16384x4x256_1_2_0_3) shapeCasts_S2x16384x4x256_S2x16384x1024) slices_S2x16384x1024_S1x16384x1024_0_0_0) shapeCasts_S1x16384x1024_S16384x1024)) (mulf (broadcastInDim S16384x1024 ![0, 1] bcast_S16384x1_S16384x1024_0_1 (extractStridedSlice S16384x1 ![0, 1] W slices_S16384x2_S16384x1_0_1)) (shapeCast _ (extractStridedSlice S1x16384x1024 ![1, 0, 0] (shapeCast _ (transpose S2x16384x4x256 [1, 2, 0, 3] Y transposes_S4x2x16384x256_S2x16384x4x256_1_2_0_3) shapeCasts_S2x16384x4x256_S2x16384x1024) slices_S2x16384x1024_S1x16384x1024_1_0_0) shapeCasts_S1x16384x1024_S16384x1024))))

/-- The reference's array at token `t`, in piece `p` of the lanes. -/
theorem combined_apply (Y : FVec F S4x2x16384x256 .f32) (W : FVec F S16384x2 .f32) (X : FVec F S16384x1024 .f32)
    (G : FVec F S2x1x1024 .f32) (t : Fin 16384) (p : Fin 4) (s : Fin 256) :
    combined Y W X G (ix2 t ⟨p.val * 256 + s.val, by omega⟩)
      = entry (X (ix2 t ⟨p.val * 256 + s.val, by omega⟩)) (G (ix3 1 0 ⟨p.val * 256 + s.val, by omega⟩))
          (W (ix2 t 0)) (Y (ix4 p 0 t s)) (W (ix2 t 1)) (Y (ix4 p 1 t s)) := by
  unfold entry
  pointwise [combined]

end Cert.Reference3.Comb

end
-- ==== Proof.Comb.lean ====
module

public import proofs.«01_k».proof.Proof.Gen.Kernel3.Value
public import proofs.«01_k».proof.Proof.CombRef

/-!
The combination's result is the reference's array: each block of 256 tokens, put together from the four pieces
of the experts' rows, and the blocks cover the array.
-/

@[expose] public section

set_option maxRecDepth 16384

noncomputable section

namespace Cert.Kernel3.Comb

open Idealize.ShloMosaic Idealize.ShloMosaic.TcCoe Idealize.SL.Sem
open Cert.Kernel3 Cert.Kernel3.Gen
open Idealize.ShloMosaic.Pipeline (Dat)
open Cert.Reference3.Comb (entry combined combined_apply)

variable {F : FTy → Type} [FloatOps F]

theorem hz : (![0, 0] : Fin 2 → Nat) = fun _ => 0 := by decide

/-- The second coefficient row is taken at every block. -/
theorem off_eq : ∀ t : Fin grid0.N, k0_off1 (grid0.coords t) = ![1, 0, 0] := by decide +kernel

/-- A block at its row `r`, in piece `p` of the lanes. -/
theorem pay_at (x1 : FVec F S256x2 .f32) (y0 y1 : FVec F S4x1x256x256 .f32) (x2 : FVec F S256x1024 .f32)
    (x3 : FVec F S1x1x1024 .f32) (r : Fin 256) (p : Fin 4) (s : Fin 256) :
    k0_pay1 x1 y0 y1 x2 x3 (ix2 r ⟨p.val * 256 + s.val, by omega⟩)
      = entry (x2 (ix2 r ⟨p.val * 256 + s.val, by omega⟩)) (x3 (ix3 0 0 ⟨p.val * 256 + s.val, by omega⟩))
          (x1 (ix2 r 0)) (y0 (ix4 p 0 r s)) (x1 (ix2 r 1)) (y1 (ix4 p 0 r s)) := by
  have e : ∀ (n : ℕ) (h : n < 256), n = s.val → (⟨n, h⟩ : Fin 256) = s := fun n h hn => Fin.ext hn
  unfold entry
  fin_cases p <;> pointwise [k0_pay1] <;> split_ifs <;>
    first
      | (exfalso; omega)
      | (simp (disch := omega) only [e])

/-- One store of the whole block, read back. -/
theorem store_whole (w : Vec F S256x1024 .f32) :
    VO0_4.read (Elt F) (VO0_4.writes (Elt F) VO0_4.junk
      [⟨Rect.unit (s := S256x1024) ![0, 0] S256x1024.size inb_S256x1024_S256x1024_0_0, w⟩]) = w := by
  refine (View.read_writes_eq_canon (Val := Elt F) VO0_4 VO0_4.junk
    [⟨Rect.unit (s := S256x1024) ![0, 0] S256x1024.size inb_S256x1024_S256x1024_0_0, w⟩] ?_).trans ?_
  · intro y
    exact ⟨_, List.mem_cons_self, View.mem_set_unit_zero (S := S256x1024) hz inb_S256x1024_S256x1024_0_0 y⟩
  · exact View.canon_unit_zero (Val := Elt F) (S := S256x1024) hz _ w

/-- What a point leaves in its output block. -/
theorem out_block (c : Dev nD) (i : grid0.Coords) (arg1 : Memref sig .tc .vmem S4x2x256x256 .f32) (harg1 : arg1.IsWhole) (arg2 : Memref sig .tc .vmem S256x2 .f32) (harg2 : arg2.IsWhole) (arg3 : Memref sig .tc .vmem S256x1024 .f32) (harg3 : arg3.IsWhole) (arg4 : Memref sig .tc .vmem S2x1x1024 .f32) (harg4 : arg4.IsWhole) (arg5 : Memref sig .tc .vmem S256x1024 .f32) (harg5 : arg5.IsWhole)
    (x0 : Vec F S4x2x256x256 .f32) (x1 : Vec F S256x2 .f32) (x2 : Vec F S256x1024 .f32) (x3 : Vec F S2x1x1024 .f32) :
    out0_A_4 c i arg1 harg1 arg2 harg2 arg3 harg3 arg4 harg4 arg5 harg5 x0 x1 x2 x3
      = k0_pay1 x1
          (View.ld x0 (Rect.unit (s := S4x2x256x256) ![0, 0, 0, 0] S4x1x256x256.size inb_S4x2x256x256_S4x1x256x256_0_0_0_0))
          (View.ld x0 (Rect.unit (s := S4x2x256x256) ![0, 1, 0, 0] S4x1x256x256.size inb_S4x2x256x256_S4x1x256x256_0_1_0_0))
          x2 (View.ld x3 (Rect.unit (s := S2x1x1024) (k0_off1 i) S1x1x1024.size (k0_off1_inb i))) := by
  have raw : (kernelRun0_A c i arg1 harg1 arg2 harg2 arg3 harg3 arg4 harg4 arg5 harg5 x0 x1 x2 x3).1
      = [⟨Rect.unit (s := S256x1024) ![0, 0] S256x1024.size inb_S256x1024_S256x1024_0_0, k0_pay1
          (View.ld (arg2.view.read (Elt F) (harg2.unread x1)) (Rect.unit (s := S256x2) ![0, 0] S256x2.size inb_S256x2_S256x2_0_0))
          (View.ld (arg1.view.read (Elt F) (harg1.unread x0)) (Rect.unit (s := S4x2x256x256) ![0, 0, 0, 0] S4x1x256x256.size inb_S4x2x256x256_S4x1x256x256_0_0_0_0))
          (View.ld (arg1.view.read (Elt F) (harg1.unread x0)) (Rect.unit (s := S4x2x256x256) ![0, 1, 0, 0] S4x1x256x256.size inb_S4x2x256x256_S4x1x256x256_0_1_0_0))
          (View.ld (arg3.view.read (Elt F) (harg3.unread x2)) (Rect.unit (s := S256x1024) ![0, 0] S256x1024.size inb_S256x1024_S256x1024_0_0))
          (View.ld (arg4.view.read (Elt F) (harg4.unread x3)) (Rect.unit (s := S2x1x1024) (k0_off1 i) S1x1x1024.size (k0_off1_inb i)))⟩] := by
    unfold kernelRun0_A
    rfl
  unfold out0_A_4
  rw [raw, harg1.read_unread, harg2.read_unread, harg3.read_unread, harg4.read_unread,
    View.ld_unit_zero (S := S256x2) hz, View.ld_unit_zero (S := S256x1024) hz]
  exact store_whole _

theorem idx0 : ∀ t : Fin grid0.N, win0_0.index t = ![0, 0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0, 0] := by decide +kernel
theorem idx4 : ∀ t : Fin grid0.N, win0_4.index t = ![t.val, 0] := by decide +kernel

theorem lt_64 (t : Fin cfg0.N) : t.val < 64 := t.isLt

variable (m : (ℓ : Loc nD τ sig) → Buf (Elt F) ℓ) (c : Dev nD) (t : Fin cfg0.N)

/-- The four arguments. -/
abbrev argY : FVec F S4x2x16384x256 .f32 := m ((c : Thread nD τ).loc main_arg0)
@[inherit_doc argY] abbrev argW : FVec F S16384x2 .f32 := m ((c : Thread nD τ).loc main_arg1)
@[inherit_doc argY] abbrev argX : FVec F S16384x1024 .f32 := m ((c : Thread nD τ).loc main_arg2)
@[inherit_doc argY] abbrev argG : FVec F S2x1x1024 .f32 := m ((c : Thread nD τ).loc main_arg3)

/-- The token of a block's row. -/
def tok (r : Fin 256) : Fin 16384 := ⟨t.val * 256 + r.val, by have := lt_64 t; omega⟩

/-! ## What the windows hold -/

/-- The experts' rows at a grid point. -/
theorem blk0_at (p : Fin 4) (k : Fin 2) (r s : Fin 256) :
    (iblk m c 0 t : FVec F S4x2x256x256 .f32) (ix4 p k r s) = argY m c (ix4 p k (tok t r) s) := by
  unfold iblk
  rw [View.read_apply]
  show (V m c main_arg0 : FVec F S4x2x16384x256 .f32) _ = _
  rw [V_main_arg0]
  refine congrArg (argY m c) ?_
  funext a
  apply Fin.ext
  match a with
  | ⟨0, _⟩ => show win0_0.index t 0 * 4 + 1 * p.val = p.val; rw [idx0]; simp
  | ⟨1, _⟩ => show win0_0.index t 1 * 2 + 1 * k.val = k.val; rw [idx0]; simp
  | ⟨2, _⟩ => show win0_0.index t 2 * 256 + 1 * r.val = t.val * 256 + r.val; rw [idx0]; simp
  | ⟨3, _⟩ => show win0_0.index t 3 * 256 + 1 * s.val = s.val; rw [idx0]; simp

/-- The weights at a grid point. -/
theorem blk1_at (r : Fin 256) (k : Fin 2) :
    (iblk m c 1 t : FVec F S256x2 .f32) (ix2 r k) = argW m c (ix2 (tok t r) k) := by
  unfold iblk
  rw [View.read_apply]
  show (V m c main_arg1 : FVec F S16384x2 .f32) _ = _
  rw [V_main_arg1]
  refine congrArg (argW m c) ?_
  funext a
  apply Fin.ext
  match a with
  | ⟨0, _⟩ => show win0_1.index t 0 * 256 + 1 * r.val = t.val * 256 + r.val; rw [idx1]; simp
  | ⟨1, _⟩ => show win0_1.index t 1 * 2 + 1 * k.val = k.val; rw [idx1]; simp

/-- The residual at a grid point. -/
theorem blk2_at (r : Fin 256) (l : Fin 1024) :
    (iblk m c 2 t : FVec F S256x1024 .f32) (ix2 r l) = argX m c (ix2 (tok t r) l) := by
  unfold iblk
  rw [View.read_apply]
  show (V m c main_arg2 : FVec F S16384x1024 .f32) _ = _
  rw [V_main_arg2]
  refine congrArg (argX m c) ?_
  funext a
  apply Fin.ext
  match a with
  | ⟨0, _⟩ => show win0_2.index t 0 * 256 + 1 * r.val = t.val * 256 + r.val; rw [idx2]; simp
  | ⟨1, _⟩ => show win0_2.index t 1 * 1024 + 1 * l.val = l.val; rw [idx2]; simp

/-- The gates at a grid point. -/
theorem blk3_at (j : Fin 2) (l : Fin 1024) :
    (iblk m c 3 t : FVec F S2x1x1024 .f32) (ix3 j 0 l) = argG m c (ix3 j 0 l) := by
  unfold iblk
  rw [View.read_apply]
  show (V m c main_arg3 : FVec F S2x1x1024 .f32) _ = _
  rw [V_main_arg3]
  refine congrArg (argG m c) ?_
  funext a
  apply Fin.ext
  match a with
  | ⟨0, _⟩ => show win0_3.index t 0 * 2 + 1 * j.val = j.val; rw [idx3]; simp
  | ⟨1, _⟩ => show win0_3.index t 1 * 1 + 1 * 0 = 0; rw [idx3]; simp
  | ⟨2, _⟩ => show win0_3.index t 2 * 1024 + 1 * l.val = l.val; rw [idx3]; simp

/-- A load of one choice's pieces. -/
theorem ld_choice (x0 : FVec F S4x2x256x256 .f32) (k : Fin 2)
    (inb : ∀ a, (![0, k.val, 0, 0] : Fin 4 → Nat) a + S4x1x256x256.size a ≤ S4x2x256x256.size a)
    (p : Fin 4) (r s : Fin 256) :
    View.ld (Val := Elt F) (e' := .f32) x0 (Rect.unit (s := S4x2x256x256) ![0, k.val, 0, 0] S4x1x256x256.size inb) (ix4 p 0 r s)
      = x0 (ix4 p k r s) := by
  show x0 _ = _
  refine congrArg x0 ?_
  funext a
  apply Fin.ext
  match a with
  | ⟨0, _⟩ => show 0 + 1 * p.val = p.val; omega
  | ⟨1, _⟩ => show k.val + 1 * 0 = k.val; omega
  | ⟨2, _⟩ => show 0 + 1 * r.val = r.val; omega
  | ⟨3, _⟩ => show 0 + 1 * s.val = s.val; omega

/-- A load of the second gate. -/
theorem ld_gate (x3 : FVec F S2x1x1024 .f32) (off : Fin 3 → Nat) (ho : off = ![1, 0, 0])
    (inb : ∀ a, off a + S1x1x1024.size a ≤ S2x1x1024.size a) (l : Fin 1024) :
    View.ld (Val := Elt F) (e' := .f32) x3 (Rect.unit (s := S2x1x1024) off S1x1x1024.size inb) (ix3 0 0 l) = x3 (ix3 1 0 l) := by
  subst ho
  show x3 _ = _
  refine congrArg x3 ?_
  funext a
  apply Fin.ext
  match a with
  | ⟨0, _⟩ => rfl
  | ⟨1, _⟩ => rfl
  | ⟨2, _⟩ => show 0 + 1 * l.val = l.val; omega

/-- The reference's array in the arguments. -/
def want : FVec F S16384x1024 .f32 := combined (argY m c) (argW m c) (argX m c) (argG m c)

/-- A grid point leaves its block of the reference's array. -/
theorem out_at (r : Fin 256) (l : Fin 1024) :
    (outsAt0 m c t : FVec F S256x1024 .f32) (ix2 r l) = want m c (ix2 (tok t r) l) := by
  obtain ⟨p, s, hl⟩ : ∃ (p : Fin 4) (s : Fin 256), l = ⟨p.val * 256 + s.val, by omega⟩ :=
    ⟨⟨l.val / 256, by omega⟩, ⟨l.val % 256, by omega⟩, Fin.ext (by dsimp only; omega)⟩
  subst hl
  unfold outsAt0
  rw [out_block]
  refine (pay_at _ _ _ _ _ r p s).trans ?_
  refine Eq.trans ?_ (combined_apply (argY m c) (argW m c) (argX m c) (argG m c) (tok t r) p s).symm
  rw [blk1_at, blk1_at, blk2_at]
  rw [ld_gate _ _ (off_eq t), blk3_at]
  exact congrArg₂ (fun a b => entry _ _ _ a _ b)
    ((ld_choice (iblk m c 0 t) 0 inb_S4x2x256x256_S4x1x256x256_0_0_0_0 p r s).trans (blk0_at m c t p 0 r s))
    ((ld_choice (iblk m c 0 t) 1 inb_S4x2x256x256_S4x1x256x256_0_1_0_0 p r s).trans (blk0_at m c t p 1 r s))

/-- What a grid point writes back is its block of the reference's array. -/
theorem flushed_eq (hw : (cfg0.win 4).flush t = true) :
    (dats m 0 c).flushed 4 t = ((cfg0.win 4).blk t).view.read (Elt F) (want m c) := by
  rw [Value.flushed4]
  funext y
  rw [View.read_apply]
  have h0 : (y 0).val < 256 := (y 0).isLt
  have h1 : (y 1).val < 1024 := (y 1).isLt
  have e := out_at m c t ⟨(y 0).val, h0⟩ ⟨(y 1).val, h1⟩
  refine (congrArg (outsAt0 m c t) ?_).trans (e.trans (congrArg (want m c) ?_))
  · funext a
    match a with
    | ⟨0, _⟩ => rfl
    | ⟨1, _⟩ => rfl
  · funext a
    apply Fin.ext
    match a with
    | ⟨0, _⟩ => show t.val * 256 + (y 0).val = win0_4.index t 0 * 256 + 1 * (y 0).val; rw [idx4]; simp
    | ⟨1, _⟩ => show (y 1).val = win0_4.index t 1 * 1024 + 1 * (y 1).val; rw [idx4]; simp

/-- The result is the reference's array. -/
theorem final_eq : (dats m 0 c).arrAt 4 cfg0.N = want m c :=
  (dats m 0 c).arrAt_eq_of_cover 4 (want m c) (fun t hw => flushed_eq m c t hw) fun i => by
    have h0 : (i 0 : Nat) < 16384 := (i 0).isLt
    have h1 : (i 1 : Nat) < 1024 := (i 1).isLt
    have ht : (i 0 : Nat) / 256 < grid0.N := by
      show _ < 64
      omega
    refine ⟨⟨(i 0 : Nat) / 256, ht⟩, flush0_4 _, ?_⟩
    show i ∈ ((View.whole main_v0).slice (win0_4.rect ⟨(i 0 : Nat) / 256, ht⟩)).set
    rw [View.set_slice_whole, Rect.mem_set_unit]
    intro a
    match a with
    | ⟨0, _⟩ =>
      show win0_4.index ⟨_, ht⟩ 0 * 256 ≤ (i 0 : Nat) ∧ (i 0 : Nat) < win0_4.index ⟨_, ht⟩ 0 * 256 + 256
      rw [idx4]
      simp
      omega
    | ⟨1, _⟩ =>
      show win0_4.index ⟨_, ht⟩ 1 * 1024 ≤ (i 1 : Nat) ∧ (i 1 : Nat) < win0_4.index ⟨_, ht⟩ 1 * 1024 + 1024
      rw [idx4]
      simp
      omega

end Cert.Kernel3.Comb

end
-- ==== Proof.GqaLoop.lean ====
module

public import proofs.«01_k».proof.Proof.Gen.Kernel4Ideal.Value

@[expose] public section

set_option maxRecDepth 16384

/-!
  One block of the global attention, read off the kernel's run: what a trip over 3328 keys makes of the scratch buffer
  (the weighted sums of the values, and in row 64 the sums of the weights), what five trips make of it, and the two
  stores of 256 rows that the block ends with.
-/

noncomputable section

namespace Cert.Kernel4Ideal.Gqa

open Idealize.ShloMosaic Idealize.ShloMosaic.TcCoe Idealize.ShloMosaic.Tactic Idealize.SL.Sem
open Cert.Kernel4Ideal Cert.Kernel4Ideal.Gen

variable {F : FTy → Type} [FloatOps F] [Named F]

/-- The 3328 key rows of trip `k`. -/
def keyRows (x1 : Vec F S1x16640x128 .bf16) (k : Fin k0_t1_loop.trips) : Vec F S1x3328x128 .bf16 :=
  View.ld x1 (Rect.unit (s := S1x16640x128) (k0_off1 k) S1x3328x128.size (k0_off1_inb k))

/-- The `j`-th of the 13 slabs of 256 transposed value rows of trip `k`. -/
def valSlab (x2 : Vec F S1x65x128x256 .bf16) (k : Fin k0_t1_loop.trips) (j : Fin 13) : Vec F S1x1x128x256 .bf16 :=
  View.ld x2 (Rect.unit (s := S1x65x128x256) (k0_off2 k (BitVec.ofNat 32 j.val)) S1x1x128x256.size (k0_off2_inb k j))

/-- What a trip leaves of the weighted sums, from the weights `p`. -/
def accWith (p : FVec F S3328x2048 .bf16) (q : FVec F S2048x128 .bf16) (x1 : Vec F S1x16640x128 .bf16) (x2 : Vec F S1x65x128x256 .bf16)
    (k : Fin k0_t1_loop.trips) (a : Vec F S128x2048 .f32) : FVec F S128x2048 .f32 :=
  k0_pay12 p (k0_pay8 p (k0_pay6 p (k0_pay4 q (keyRows x1 k) a (valSlab x2 k 0)) (k0_pay5 (valSlab x2 k 1)) (valSlab x2 k 2)
      (valSlab x2 k 3) (valSlab x2 k 4) (valSlab x2 k 5))
    (k0_pay7 (valSlab x2 k 6)) (valSlab x2 k 7) (valSlab x2 k 8) (valSlab x2 k 9) (valSlab x2 k 10))
    (k0_pay9 (valSlab x2 k 11)) (valSlab x2 k 12)

/-- What a trip leaves of the weighted sums. -/
def accStep (q : FVec F S2048x128 .bf16) (x1 : Vec F S1x16640x128 .bf16) (x2 : Vec F S1x65x128x256 .bf16)
    (k : Fin k0_t1_loop.trips) (a : Vec F S128x2048 .f32) : FVec F S128x2048 .f32 :=
  accWith (k0_pay3 q (keyRows x1 k)) q x1 x2 k a

theorem hz : (![0, 0] : Fin 2 → Nat) = fun _ => 0 := funext fun a => by fin_cases a <;> rfl
theorem hz4 : (![0, 0, 0, 0] : Fin 4 → Nat) = fun _ => 0 := funext fun a => by fin_cases a <;> rfl

/-- One trip stores the scratch buffer once; its loads are reads of the buffers it is given. -/
theorem trip_raw (𝒱 : Variants) (c : Dev nD) (bd : Option 𝒱.V) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (v0 : Vec F S1x2x1024x128 .f32) (X3 : BufTy.Contents (Elt F) arg3.view.ty) (X4 : BufTy.Contents (Elt F) arg4.view.ty) (k : Fin k0_t1_loop.trips) (f6 : BufTy.Contents (Elt F) arg6.view.ty) :
    tripL_k0_t1 (F := F) 𝒱 c bd i arg2 harg2 arg3 harg3 arg4 harg4 arg5 harg5 arg6 harg6 v0 X3 X4 k f6
      = [⟨(Rect.unit (s := S128x2048) ![0, 0] S128x2048.size inb_S128x2048_S128x2048_0_0), accStep (k0_pay10 v0) (arg3.view.read (Elt F) X3) (arg4.view.read (Elt F) X4) k (View.ld (arg6.view.read (Elt F) f6) (Rect.unit (s := S128x2048) ![0, 0] S128x2048.size inb_S128x2048_S128x2048_0_0))⟩] := by
  unfold tripL_k0_t1 trip_k0_t1
  rfl

/-- One trip stores the scratch buffer once and whole. -/
theorem trip_lists (𝒱 : Variants) (c : Dev nD) (bd : Option 𝒱.V) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (v0 : Vec F S1x2x1024x128 .f32) (x1 : Vec F S1x16640x128 .bf16) (x2 : Vec F S1x65x128x256 .bf16) (k : Fin k0_t1_loop.trips) (f6 : BufTy.Contents (Elt F) arg6.view.ty) :
    tripL_k0_t1 (F := F) 𝒱 c bd i arg2 harg2 arg3 harg3 arg4 harg4 arg5 harg5 arg6 harg6 v0 (harg3.unread x1) (harg4.unread x2) k f6
      = [⟨(Rect.unit (s := S128x2048) ![0, 0] S128x2048.size inb_S128x2048_S128x2048_0_0), accStep (k0_pay10 v0) x1 x2 k (arg6.view.read (Elt F) f6)⟩] := by
  rw [trip_raw, harg3.read_unread, harg4.read_unread, View.ld_unit_zero (S := S128x2048) hz]

/-- The scratch buffer after `n` trips, from `a`. -/
def after (q : FVec F S2048x128 .bf16) (x1 : Vec F S1x16640x128 .bf16) (x2 : Vec F S1x65x128x256 .bf16)
    (a : Vec F S128x2048 .f32) : ℕ → Vec F S128x2048 .f32
  | 0 => a
  | n + 1 => if h : n < k0_t1_loop.trips then accStep q x1 x2 ⟨n, h⟩ (after q x1 x2 a n) else after q x1 x2 a n

/-- After `n` trips the scratch buffer reads as `after` says. -/
theorem read_trips (𝒱 : Variants) (c : Dev nD) (bd : Option 𝒱.V) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (v0 : Vec F S1x2x1024x128 .f32) (x1 : Vec F S1x16640x128 .bf16) (x2 : Vec F S1x65x128x256 .bf16) (G6 : BufTy.Contents (Elt F) arg6.view.ty) (n : ℕ) (hn : n ≤ k0_t1_loop.trips) :
    arg6.view.read (Elt F) (arg6.view.writes (Elt F) G6 (pb_k0_t1 (F := F) 𝒱 c bd i arg2 harg2 arg3 harg3 arg4 harg4 arg5 harg5 arg6 harg6 v0 (harg3.unread x1) (harg4.unread x2) G6 n))
        = after (k0_pay10 v0) x1 x2 (arg6.view.read (Elt F) G6) n := by
  induction n with
  | zero => rfl
  | succ n ih =>
    have i6 := ih (Nat.le_of_succ_le hn)
    have e := pb_k0_t1_succ (F := F) 𝒱 c bd i arg2 harg2 arg3 harg3 arg4 harg4 arg5 harg5 arg6 harg6 v0 (harg3.unread x1) (harg4.unread x2) G6 ⟨n, hn⟩
    rw [trip_lists] at e
    dsimp only at e
    rw [e, i6, after, dif_pos (show n < k0_t1_loop.trips from hn), List.singleton_append,
      View.read_writes_eq_canon _ _ _ (fun y => ⟨_, List.mem_cons_self, ?_⟩), View.canon_cons_unit_zero (S := S128x2048) hz]
    rw [Rect.mem_set_unit]; intro a; rw [congrFun hz a]; exact ⟨Nat.zero_le _, by rw [Nat.zero_add]; exact (y a).isLt⟩

/-- The scratch buffer when the loop is left. -/
def atExit (x0 : Vec F S1x2x1024x128 .f32) (x1 : Vec F S1x16640x128 .bf16) (x2 : Vec F S1x65x128x256 .bf16) : Vec F S128x2048 .f32 :=
  after (k0_pay10 x0) x1 x2 k0_pay11 5

/-- The 256 output rows of sub-block `b`, as the body's store of them computes them. -/
def rowBlock (A : Vec F S128x2048 .f32) : Fin 2 → FVec F S256x256 .bf16
  | 0 => k0_pay1 (k0_pay14 A) (iota .tc S256x128 32 [1] iota_S256x128_d1_w32) 64#32
  | 1 => k0_pay2 (k0_pay13 A)

theorem trips_five : k0_t1_loop.trips = 5 := by decide +kernel

/-- The load of the scratch buffer after the loop, as the run states it. -/
def exit6 (c : Dev nD) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (x0 : Vec F S1x2x1024x128 .f32) (x1 : Vec F S1x16640x128 .bf16) (x2 : Vec F S1x65x128x256 .bf16) : Vec F S128x2048 .f32 :=
  arg6.view.readCov (pb_k0_t1 Variants.none c none i arg2 harg2 arg3 harg3 arg4 harg4 arg5 harg5 arg6 harg6 x0 (harg3.unread x1) (harg4.unread x2)
      (arg6.view.writes (Elt F) arg6.view.junk [⟨(Rect.unit (s := S128x2048) ![0, 0] S128x2048.size inb_S128x2048_S128x2048_0_0), k0_pay11⟩])
      (Scf.trips k0_t1_loop.lb k0_t1_loop.ub k0_t1_loop.st)
    ++ [⟨(Rect.unit (s := S128x2048) ![0, 0] S128x2048.size inb_S128x2048_S128x2048_0_0), k0_pay11⟩])
    (Rect.unit (s := S128x2048) ![0, 0] S128x2048.size inb_S128x2048_S128x2048_0_0).toLoadRect

/-- A store that covers a buffer leaves what it stores. -/
theorem read_write_whole {sg : RefSig} {κ : Kind} {sp : Space} {S : Shape} {e : EltTy} [∀ e, Nonempty (Elt F e)] (v : View sg κ sp S e)
    (f : v.ty.Contents (Elt F)) {off : Fin S.rank → ℕ} (h0 : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_cons_self, ?_⟩), View.canon_cons_unit_zero h0]
  rw [Rect.mem_set_unit]; intro a; rw [congrFun h0 a]; exact ⟨Nat.zero_le _, by rw [Nat.zero_add]; exact (y a).isLt⟩

theorem exit_eq (c : Dev nD) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (x0 : Vec F S1x2x1024x128 .f32) (x1 : Vec F S1x16640x128 .bf16) (x2 : Vec F S1x65x128x256 .bf16) :
    exit6 c i arg2 harg2 arg3 harg3 arg4 harg4 arg5 harg5 arg6 harg6 x0 x1 x2 = atExit x0 x1 x2 := by
  have h := read_trips Variants.none c none i arg2 harg2 arg3 harg3 arg4 harg4 arg5 harg5 arg6 harg6 x0 x1 x2
    (arg6.view.writes (Elt F) arg6.view.junk [⟨(Rect.unit (s := S128x2048) ![0, 0] S128x2048.size inb_S128x2048_S128x2048_0_0), k0_pay11⟩]) 5 (le_of_eq trips_five.symm)
  rw [read_write_whole _ _ hz, ← View.writes_append] at h
  have h5 : Scf.trips k0_t1_loop.lb k0_t1_loop.ub k0_t1_loop.st = 5 := trips_five
  unfold exit6 View.readCov atExit
  rw [View.readAt_eq_ld, View.ld_unit_zero hz, h5]
  exact h

/-- The two stores, over the load after the loop. -/
theorem out_raw (c : Dev nD) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (x0 : Vec F S1x2x1024x128 .f32) (x1 : Vec F S1x16640x128 .bf16) (x2 : Vec F S1x65x128x256 .bf16) :
    (kernelRun0_A c i arg2 harg2 arg3 harg3 arg4 harg4 arg5 harg5 arg6 harg6 x0 x1 x2).1 = (fun A =>
          [⟨Rect.unit (s := S512x256) ![256, 0] S256x256.size inb_S512x256_S256x256_256_0, rowBlock A 1⟩,
           ⟨Rect.unit (s := S512x256) ![0, 0] S256x256.size inb_S512x256_S256x256_0_0, rowBlock A 0⟩])
        (exit6 c i arg2 harg2 arg3 harg3 arg4 harg4 arg5 harg5 arg6 harg6 (View.ld (arg2.view.read (Elt F) (harg2.unread x0)) (Rect.unit (s := S1x2x1024x128) ![0, 0, 0, 0] S1x2x1024x128.size inb_S1x2x1024x128_S1x2x1024x128_0_0_0_0)) x1 x2) := by
  unfold kernelRun0_A
  rfl

/-- What a point leaves in its output block: the two row blocks, last first. -/
theorem out_block (c : Dev nD) (i : grid0.Coords) (arg2 : Memref sig .tc .vmem S1x2x1024x128 .f32) (harg2 : arg2.IsWhole) (arg3 : Memref sig .tc .vmem S1x16640x128 .bf16) (harg3 : arg3.IsWhole) (arg4 : Memref sig .tc .vmem S1x65x128x256 .bf16) (harg4 : arg4.IsWhole) (arg5 : Memref sig .tc .vmem S512x256 .bf16) (harg5 : arg5.IsWhole) (arg6 : Memref sig .tc .vmem S128x2048 .f32) (harg6 : arg6.IsWhole)
    (x0 : Vec F S1x2x1024x128 .f32) (x1 : Vec F S1x16640x128 .bf16) (x2 : Vec F S1x65x128x256 .bf16) :
    out0_A_3 c i arg2 harg2 arg3 harg3 arg4 harg4 arg5 harg5 arg6 harg6 x0 x1 x2
      = VO0_3.read (Elt F) (VO0_3.writes (Elt F) VO0_3.junk
          [⟨Rect.unit (s := S512x256) ![256, 0] S256x256.size inb_S512x256_S256x256_256_0, rowBlock (atExit x0 x1 x2) 1⟩,
           ⟨Rect.unit (s := S512x256) ![0, 0] S256x256.size inb_S512x256_S256x256_0_0, rowBlock (atExit x0 x1 x2) 0⟩]) := by
  unfold out0_A_3
  rw [out_raw, harg2.read_unread, View.ld_unit_zero (S := S1x2x1024x128) hz4, exit_eq]

end Cert.Kernel4Ideal.Gqa
-- ==== Proof.GqaSum.lean ====
module

public import proofs.«01_k».proof.Proof.GqaLoop
public import Idealize.ShloMosaic.Lib.Pointwise
public import Idealize.ShloMosaic.Lib.Pipeline.ValueKit.Tiles

@[expose] public section

set_option maxRecDepth 16384

/-!
  The loop of one block of the global attention on the extended reals: its five trips of thirteen slabs of 256 keys add up to one sum
  over all 16640 keys of the values under their weights.
-/

noncomputable section

namespace Cert.Kernel4Ideal.Gqa

open Idealize.ShloMosaic Idealize.ShloMosaic.Ideal
open Cert.Kernel4Ideal Cert.Kernel4Ideal.Gen

/-- The weight of key `κ` for the query row `r`: two to the power of their product. -/
def wt (q : FVec Ideal S2048x128 .bf16) (x1 : FVec Ideal S1x16640x128 .bf16) (r : Fin 2048) (κ : Fin 16640) : EReal :=
  FloatOps.exp2 (F := Ideal) (φ := .f32) (∑ l : Fin 128, x1 (ix3 0 κ l) * q (ix2 r l))

/-- The value of key `κ` in column `e`, of the transposed slabs. -/
def slabVal (x2 : FVec Ideal S1x65x128x256 .bf16) (e : Fin 128) (κ : Fin 16640) : EReal :=
  x2 (ix4 0 ⟨κ.val / 256, by omega⟩ e ⟨κ.val % 256, by omega⟩)

theorem trips_lt (k : Fin k0_t1_loop.trips) : k.val < 5 := k.isLt

/-- A key row of trip `k` is a row of the whole. -/
theorem keyRows_apply (x1 : FVec Ideal S1x16640x128 .bf16) (k : Fin k0_t1_loop.trips) (y : Fin 3328) (l : Fin 128) :
    keyRows (F := Ideal) x1 k (ix3 0 y l)
      = x1 (ix3 0 ⟨k.val * 3328 + y.val, by have := trips_lt k; omega⟩ l) := by
  unfold keyRows
  refine View.ld_unit_apply_of (Val := Elt Ideal) (e := EltTy.bf16) x1 _ _ _ _ _ fun a => ?_
  rw [congrFun (k0_off1_eq k) a]
  fin_cases a
  · rfl
  · show k.val * 3328 + y.val = 3328 * k.val + y.val
    omega
  · show l.val = 0 + l.val
    omega

/-- A slab of trip `k` is a slab of the whole. -/
theorem valSlab_apply (x2 : FVec Ideal S1x65x128x256 .bf16) (k : Fin k0_t1_loop.trips) (j : Fin 13) (e : Fin 128)
    (s : Fin 256) :
    valSlab (F := Ideal) x2 k j (ix4 0 0 e s)
      = slabVal x2 e ⟨k.val * 3328 + (j.val * 256 + s.val), by have := trips_lt k; omega⟩ := by
  unfold valSlab slabVal
  refine View.ld_unit_apply_of (Val := Elt Ideal) (e := EltTy.bf16) x2 _ _ _ _ _ fun a => ?_
  rw [congrFun (k0_off2_eq k j) a]
  fin_cases a
  · rfl
  · show (k.val * 3328 + (j.val * 256 + s.val)) / 256 = 13 * k.val + j.val + 0
    omega
  · show e.val = 0 + e.val
    omega
  · show (k.val * 3328 + (j.val * 256 + s.val)) % 256 = 0 + s.val
    omega

/-- The weights of a trip. -/
theorem pay3_apply (q : FVec Ideal S2048x128 .bf16) (x1 : FVec Ideal S1x16640x128 .bf16) (k : Fin k0_t1_loop.trips)
    (y : Fin 3328) (r : Fin 2048) :
    k0_pay3 (F := Ideal) q (keyRows x1 k) (ix2 y r)
      = wt q x1 r ⟨k.val * 3328 + y.val, by have := trips_lt k; omega⟩ := by
  pointwise [k0_pay3]
  unfold wt
  refine congrArg _ (Finset.sum_congr rfl fun l _ => ?_)
  rw [keyRows_apply]

/-- One slab's share of a weighted sum. -/
def slabSum (p : FVec Ideal S3328x2048 .bf16) (v : FVec Ideal S1x1x128x256 .bf16) (j : Fin 13) (e : Fin 128)
    (r : Fin 2048) : EReal :=
  ∑ s : Fin 256, v (ix4 0 0 e s) * p (ix2 ⟨256 * j.val + s.val, by omega⟩ r)

theorem pay4_apply (a : FVec Ideal S128x2048 .f32) (q : FVec Ideal S2048x128 .bf16) (K : FVec Ideal S1x3328x128 .bf16)
    (v0 : FVec Ideal S1x1x128x256 .bf16) (e : Fin 128) (r : Fin 2048) :
    k0_pay4 (F := Ideal) q K a v0 (ix2 e r) = a (ix2 e r) + slabSum (k0_pay3 (F := Ideal) q K) v0 0 e r := by
  generalize hp : k0_pay3 (F := Ideal) q K = p
  unfold k0_pay4
  rw [hp]
  pointwise
  unfold slabSum
  have h0 : ∀ s : Fin 256, (ix2 (⟨s.val, by omega⟩ : Fin 3328) r) = ix2 ⟨256 * (0 : Fin 13).val + s.val, by have := (0 : Fin 13).isLt; omega⟩ r :=
    fun s => by congr 1; exact Fin.ext (by simp)
  simp only [h0]

theorem pay6_apply (a : FVec Ideal S128x2048 .f32) (p : FVec Ideal S3328x2048 .bf16)
    (v0 v1 v2 v3 v4 : FVec Ideal S1x1x128x256 .bf16) (e : Fin 128) (r : Fin 2048) :
    k0_pay6 (F := Ideal) p a (k0_pay5 v0) v1 v2 v3 v4 (ix2 e r)
      = a (ix2 e r) + slabSum p v0 1 e r + slabSum p v1 2 e r + slabSum p v2 3 e r + slabSum p v3 4 e r
        + slabSum p v4 5 e r := by
  pointwise [k0_pay6, k0_pay5]
  rfl

theorem pay8_apply (a : FVec Ideal S128x2048 .f32) (p : FVec Ideal S3328x2048 .bf16)
    (v0 v1 v2 v3 v4 : FVec Ideal S1x1x128x256 .bf16) (e : Fin 128) (r : Fin 2048) :
    k0_pay8 (F := Ideal) p a (k0_pay7 v0) v1 v2 v3 v4 (ix2 e r)
      = a (ix2 e r) + slabSum p v0 6 e r + slabSum p v1 7 e r + slabSum p v2 8 e r + slabSum p v3 9 e r
        + slabSum p v4 10 e r := by
  pointwise [k0_pay8, k0_pay7]
  rfl

theorem pay12_apply (a : FVec Ideal S128x2048 .f32) (p : FVec Ideal S3328x2048 .bf16)
    (v0 v1 : FVec Ideal S1x1x128x256 .bf16) (e : Fin 128) (r : Fin 2048) :
    k0_pay12 (F := Ideal) p a (k0_pay9 v0) v1 (ix2 e r)
      = a (ix2 e r) + slabSum p v0 11 e r + slabSum p v1 12 e r := by
  pointwise [k0_pay12, k0_pay9]
  rfl

theorem slabSum_eq (q : FVec Ideal S2048x128 .bf16) (x1 : FVec Ideal S1x16640x128 .bf16)
    (x2 : FVec Ideal S1x65x128x256 .bf16) (k : Fin k0_t1_loop.trips) (j : Fin 13) (e : Fin 128) (r : Fin 2048) :
    slabSum (k0_pay3 (F := Ideal) q (keyRows x1 k)) (valSlab (F := Ideal) x2 k j) j e r
      = ∑ s : Fin 256, slabVal x2 e ⟨k.val * 3328 + (j.val * 256 + s.val), by have := trips_lt k; omega⟩
          * wt q x1 r ⟨k.val * 3328 + (j.val * 256 + s.val), by have := trips_lt k; omega⟩ := by
  unfold slabSum
  refine Finset.sum_congr rfl fun s _ => ?_
  rw [valSlab_apply, pay3_apply]
  congr 2
  exact Fin.ext (by show k.val * 3328 + (256 * j.val + s.val) = k.val * 3328 + (j.val * 256 + s.val); omega)

/-- A trip adds its 3328 weighted values to the running sums. -/
theorem accStep_apply (q : FVec Ideal S2048x128 .bf16) (x1 : FVec Ideal S1x16640x128 .bf16)
    (x2 : FVec Ideal S1x65x128x256 .bf16) (k : Fin k0_t1_loop.trips) (a : FVec Ideal S128x2048 .f32) (e : Fin 128)
    (r : Fin 2048) :
    accStep (F := Ideal) q x1 x2 k a (ix2 e r)
      = a (ix2 e r) + ∑ y : Fin 3328, slabVal x2 e ⟨k.val * 3328 + y.val, by have := trips_lt k; omega⟩
          * wt q x1 r ⟨k.val * 3328 + y.val, by have := trips_lt k; omega⟩ := by
  rw [Fin.sum_univ_tiles 13 256 rfl (fun y : Fin 3328 => slabVal x2 e ⟨k.val * 3328 + y.val, by have := trips_lt k; omega⟩
          * wt q x1 r ⟨k.val * 3328 + y.val, by have := trips_lt k; omega⟩)]
  simp only [← slabSum_eq]
  unfold accStep accWith
  rw [pay12_apply, pay8_apply, pay6_apply, pay4_apply]
  simp only [Fin.sum_univ_succ, Finset.univ_eq_empty, Finset.sum_empty, add_zero, add_assoc]
  rfl

theorem pay11_apply (e : Fin 128) (r : Fin 2048) : k0_pay11 (F := Ideal) (ix2 e r) = 0 := by
  pointwise [k0_pay11]

/-- After the loop: the sum of the values of all keys under their weights. -/
theorem acc_apply (x0 : FVec Ideal S1x2x1024x128 .f32) (x1 : FVec Ideal S1x16640x128 .bf16)
    (x2 : FVec Ideal S1x65x128x256 .bf16) (e : Fin 128) (r : Fin 2048) :
    atExit (F := Ideal) x0 x1 x2 (ix2 e r)
      = ∑ κ : Fin 16640, slabVal x2 e κ * wt (k0_pay10 x0) x1 r κ := by
  rw [Fin.sum_univ_tiles 5 3328 rfl, Fin.sum_univ_five]
  unfold atExit
  simp only [after, trips_five, show (0:ℕ) < 5 by decide, show (1:ℕ) < 5 by decide, show (2:ℕ) < 5 by decide,
    show (3:ℕ) < 5 by decide, show (4:ℕ) < 5 by decide, dite_true, accStep_apply, pay11_apply, zero_add]
  rfl

end Cert.Kernel4Ideal.Gqa
-- ==== Proof.GqaRows.lean ====
module

public import proofs.«01_k».proof.Proof.GqaSum

@[expose] public section

set_option maxRecDepth 16384

/-!
  The rows that a block of the global attention ends with: the weighted sums over the sum of the weights (row 64 of the
  buffer), transposed, and the four query heads' 64 columns put side by side.
-/

noncomputable section

namespace Cert.Kernel4Ideal.Gqa

open Idealize.ShloMosaic Idealize.ShloMosaic.Ideal
open Cert.Kernel4Ideal Cert.Kernel4Ideal.Gen

/-- The block's query rows: sub-block after sub-block, 1024 rows each. -/
theorem pay10_apply (x0 : FVec Ideal S1x2x1024x128 .f32) (b : Fin 2) (t : Fin 1024) (l : Fin 128) :
    k0_pay10 (F := Ideal) x0 (ix2 ⟨1024 * b.val + t.val, by omega⟩ l)
      = x0 (ix4 0 b t l) * (((8 * Real.log 2)⁻¹ : ℝ) : EReal) := by
  pointwise [k0_pay10]
  rfl

/-- The attention's output in column `e` for the query row `r`: weighted sum over sum of weights. -/
def quo (A : FVec Ideal S128x2048 .f32) (r : Fin 2048) (e : Fin 128) : EReal :=
  Ideal.div (A (ix2 e r)) (A (ix2 64 r))

theorem pay13_apply (A : FVec Ideal S128x2048 .f32) (r : Fin 2048) (e : Fin 128) :
    k0_pay13 (F := Ideal) A (ix2 r e) = quo A r e := by
  pointwise [k0_pay13]
  have hr : ∀ r' : Fin 2048, r'.val = r.val → div (A (ix2 e r')) (A (ix2 64 r')) = quo A r e :=
    fun r' h => by rw [Fin.ext h]; rfl
  split_ifs <;> exact hr _ (by first | rfl | (dsimp only; omega) | (simp; omega))

/-- The comparison that tells the first 64 lanes. -/
theorem lane_lt (n : ℕ) (h : n < 128) : IntOp.cmpi CmpIPredicate.slt (BitVec.ofNat 32 n) 64#32 = if n < 64 then 1#1 else 0#1 := by
  have : ∀ l : Fin 128, IntOp.cmpi CmpIPredicate.slt (BitVec.ofNat 32 l.val) 64#32 = if l.val < 64 then 1#1 else 0#1 := by decide
  exact this ⟨n, h⟩

theorem select_one {α : Type} (a b : α) : Scalar.select 1#1 a b = a := rfl
theorem select_zero {α : Type} (a b : α) : Scalar.select 0#1 a b = b := rfl

/-- Where query head `g`'s column `d` comes from, in a block of 1024 rows. -/
theorem pay1_apply (R : FVec Ideal S1024x128 .f32) (ρ : Fin 256) (g : Fin 4) (d : Fin 64) :
    k0_pay1 (F := Ideal) R (iota .tc S256x128 32 [1] iota_S256x128_d1_w32) 64#32 (ix2 ρ ⟨64 * g.val + d.val, by omega⟩)
      = R (ix2 ⟨256 * g.val + ρ.val, by omega⟩ ⟨d.val, by omega⟩) := by
  have hR : ∀ (a a' : Fin 1024) (l l' : Fin 128), a.val = a'.val → l.val = l'.val → R (ix2 a l) = R (ix2 a' l') :=
    fun a a' l l' h h' => by rw [Fin.ext h, Fin.ext h']
  fin_cases g <;> pointwise [k0_pay1]
  · rw [dif_pos (by omega), lane_lt _ (by omega), if_pos (by omega), select_one]
  · rw [dif_pos (by omega), lane_lt _ (by omega), if_neg (by omega), select_zero]
    exact hR _ _ _ _ rfl (by dsimp only; omega)
  · rw [lane_lt _ (by omega), if_pos (by omega), select_one]
  · rw [dif_neg (by omega), lane_lt _ (by omega), if_neg (by omega), select_zero]
    exact hR _ _ _ _ rfl (by dsimp only; omega)

/-- The second half of the rows is merged as the first is. -/
theorem pay2_eq (R : FVec Ideal S2048x128 .f32) : k0_pay2 (F := Ideal) R
    = k0_pay1 (F := Ideal) (extractStridedSlice S1024x128 ![1024, 0] R slices_S2048x128_o1024_0_S1024x128)
        (iota .tc S256x128 32 [1] iota_S256x128_d1_w32) 64#32 := rfl

/-- The 256 output rows of the block's sub-block `b`: query head `g`'s quotients in columns `64 g` to `64 g + 63`. -/
theorem rowBlock_apply (A : FVec Ideal S128x2048 .f32) (b : Fin 2) (ρ : Fin 256) (g : Fin 4) (d : Fin 64) :
    rowBlock (F := Ideal) A b (ix2 ρ ⟨64 * g.val + d.val, by omega⟩)
      = quo A ⟨1024 * b.val + (256 * g.val + ρ.val), by omega⟩ ⟨d.val, by omega⟩ := by
  fin_cases b
  · refine (pay1_apply (k0_pay14 A) ρ g d).trans ?_
    unfold k0_pay14
    pointwise
    rw [pay13_apply]
  · refine (congrFun (pay2_eq (k0_pay13 A)) _).trans ((pay1_apply _ ρ g d).trans ?_)
    pointwise
    rw [pay13_apply]

end Cert.Kernel4Ideal.Gqa
-- ==== Proof.GqaHost.lean ====
module

public import proofs.«01_k».proof.Proof.GqaRows
public import Idealize.ShloMosaic.Lib.StableHlo.ReadAt

@[expose] public section

set_option maxRecDepth 16384

/-!
  The arrays the host prepares for the global attention, read at an index in the arguments: the queries, per head of the
  keys and block of 256 tokens four query heads one below the other, in that head's 64 lanes, the other lanes zero; the
  keys; the values, transposed in slabs of 256, with a row of ones below them.
-/

noncomputable section

namespace Cert.Kernel4Ideal.Gqa

open Idealize.ShloMosaic Idealize.ShloMosaic.Ideal Idealize.ShloMosaic.TcCoe Idealize.SL.Sem Idealize.ShloMosaic.StableHlo
open Cert.Kernel4Ideal Cert.Kernel4Ideal.Gen

variable (m : (ℓ : Loc nD τ sig) → Buf (Elt Ideal) ℓ) (c : Dev nD)

/-- The three arguments. -/
abbrev argQ : FVec Ideal S1x16640x2x4x64 .f32 := m ((c : Thread nD τ).loc main_arg0)
@[inherit_doc argQ] abbrev argK : FVec Ideal S1x16640x2x64 .f32 := m ((c : Thread nD τ).loc main_arg1)
@[inherit_doc argQ] abbrev argV : FVec Ideal S1x16640x2x64 .f32 := m ((c : Thread nD τ).loc main_arg2)

/-- The keys, the two heads side by side in 128 lanes. -/
theorem k_at (κ : Fin 16640) (l : Fin 128) :
    (V m c main_v15 : FVec Ideal S1x16640x128 .bf16) (ix3 0 κ l)
      = argK m c (ix4 0 κ ⟨l.val / 64, by omega⟩ ⟨l.val % 64, by omega⟩) := by
  unfold V
  after_reads_at

/-- The comparison that tells a head's own lanes. -/
theorem own_eq (h : Fin 2) (n : ℕ) (hn : n < 2) :
    IntOp.cmpi CmpIPredicate.eq (BitVec.ofNat 32 h.val) (BitVec.ofNat 32 n) = if n = h.val then 1#1 else 0#1 := by
  have : ∀ h g : Fin 2, IntOp.cmpi CmpIPredicate.eq (BitVec.ofNat 32 h.val) (BitVec.ofNat 32 g.val)
    = if g.val = h.val then 1#1 else 0#1 := by decide
  exact this h ⟨n, hn⟩

/-- A constant zero. -/
theorem zero_at : (id (constant (F := Ideal) S_ FTy.f32 0#32) : FVec Ideal S_ .f32) ix0 = (0 : EReal) := by
  show (constant (F := Ideal) S_ FTy.f32 0#32 : FVec Ideal S_ .f32) ix0 = (0 : EReal)
  pointwise

/-- A head's own lanes are kept, the others are zero. -/
theorem pick (h : Fin 2) (n : ℕ) (hn : n < 2) (a z : EReal) (hz : z = 0) :
    Scalar.select (IntOp.cmpi CmpIPredicate.eq (BitVec.ofNat 32 h.val) (BitVec.ofNat 32 n)) a z = if n = h.val then a else 0 := by
  rw [own_eq h n hn]
  split_ifs
  · rfl
  · exact hz

/-- The queries. -/
theorem q_at (h : Fin 2) (j : Fin 65) (r : Fin 1024) (l : Fin 128) :
    (V m c main_v13 : FVec Ideal S2x65x1024x128 .f32) (ix4 h j r l)
      = if l.val / 64 = h.val then
          argQ m c (ix5 0 ⟨j.val * 256 + r.val % 256, by omega⟩ h ⟨r.val / 256, by omega⟩ ⟨l.val % 64, by omega⟩)
        else (0 : EReal) := by
  unfold V
  after_reads_at
  exact pick h (l.val / 64) (by omega) _ _ zero_at

/-- The transposed values, before the ones are put below them. -/
theorem vlo_at (h : Fin 2) (j : Fin 65) (e : Fin 64) (s : Fin 256) :
    (V m c main_v22 : FVec Ideal S2x65x64x256 .f32) (ix4 h j e s)
      = argV m c (ix4 0 ⟨j.val * 256 + s.val, by omega⟩ h e) := by
  unfold V
  after_reads_at

/-- The first of the 64 rows below the values is ones. -/
theorem ones_at (h : Fin 2) (j : Fin 65) (s : Fin 256) :
    (V m c main_v24 : FVec Ideal S2x65x64x256 .f32) (ix4 h j 0 s) = (1 : EReal) := by
  unfold V
  after_reads_at
  show (broadcastInDim S2x65x64x256 ![2, 3] bcast_S64x256_S2x65x64x256_2_3
        (select
          (cmpi CmpIPredicate.eq (iotaInDim S64x256 32 0)
            (broadcastInDim S64x256 ![] bcast_S_S64x256 (constantI S_ 32 0#32)))
          (broadcastInDim S64x256 ![] bcast_S_S64x256 (constant S_ FTy.f32 1065353216#32))
          (broadcastInDim S64x256 ![] bcast_S_S64x256 (constant S_ FTy.f32 0#32))) : FVec Ideal S2x65x64x256 .f32)
      (ix4 h j 0 s) = 1
  pointwise

/-- The values are not written after their place in the program. -/
theorem vlo_upto : StableHlo.upto [hostOps0, hostOps0_1, hostOps0_2, hostOps0_3, hostOps0_4].flatten (fun b => m (c, b)) 35
    (Proc.devRef .tc main_v22) = V m c main_v22 := by
  unfold V
  after_reads_simp

/-- The ones are not written after their place in the program. -/
theorem ones_upto : StableHlo.upto [hostOps0, hostOps0_1, hostOps0_2, hostOps0_3, hostOps0_4].flatten (fun b => m (c, b)) 35
    (Proc.devRef .tc main_v24) = V m c main_v24 := by
  unfold V
  after_reads_simp

/-- Rows 0 to 63 of a slab are the values. -/
theorem v_at (h : Fin 2) (j : Fin 65) (e : Fin 64) (s : Fin 256) :
    (V m c main_v26 : FVec Ideal S2x65x128x256 .bf16) (ix4 h j ⟨e.val, by omega⟩ s)
      = argV m c (ix4 0 ⟨j.val * 256 + s.val, by omega⟩ h e) := by
  refine Eq.trans ?_ ((congrFun (vlo_upto m c) (ix4 h j e s)).trans (vlo_at m c h j e s))
  generalize hX : StableHlo.upto [hostOps0, hostOps0_1, hostOps0_2, hostOps0_3, hostOps0_4].flatten (fun b => m (c, b)) 35
    (Proc.devRef .tc main_v22) = X
  unfold V
  after_reads_at
  exact congrFun hX _

/-- Row 64 of a slab is ones. -/
theorem one_at (h : Fin 2) (j : Fin 65) (s : Fin 256) :
    (V m c main_v26 : FVec Ideal S2x65x128x256 .bf16) (ix4 h j 64 s) = (1 : EReal) := by
  refine Eq.trans ?_ ((congrFun (ones_upto m c) (ix4 h j 0 s)).trans (ones_at m c h j s))
  generalize hX : StableHlo.upto [hostOps0, hostOps0_1, hostOps0_2, hostOps0_3, hostOps0_4].flatten (fun b => m (c, b)) 35
    (Proc.devRef .tc main_v24) = X
  unfold V
  after_reads_at
  exact congrFun hX _

end Cert.Kernel4Ideal.Gqa
-- ==== Proof.GqaRef.lean ====
module

public import proofs.«01_k».proof.Proof.Gen.Reference4Ideal.Run
public import Idealize.ShloMosaic.Lib.Pointwise

/-! The reference of the global attention, read at one index. Its composed term is long, so it is cut into stages here: the
    scores, their exponentials, the softmax, and the sum over the values. Each stage is read at an index over arbitrary
    arrays of its inputs. -/

@[expose] public section

set_option maxRecDepth 16384

noncomputable section

namespace Cert.Reference4Ideal.Gqa

open Idealize.ShloMosaic Idealize.ShloMosaic.Ideal Idealize.ShloMosaic.TcCoe Idealize.SL.Sem
open Cert.Reference4Ideal Cert.Reference4Ideal.Gen Cert.Reference4Ideal.Value

/-- The scores of every query and key, times 1/8. -/
def scores (Q : FVec Ideal S1x16640x2x4x64 .f32) (K : FVec Ideal S1x16640x2x64 .f32) : FVec Ideal S1x2x4x16384x16640 .f32 :=
  mulf (transpose S1x2x4x16384x16640 [0, 1, 4, 3, 2]
      (Host.dotGeneral dot_S1x16640x2x64_S1x16384x2x4x64_S1x2x16640x16384x4_3_4_1_13_02_02 none K
        (extractStridedSlice S1x16384x2x4x64 ![0, 0, 0, 0, 0] Q slices_S1x16640x2x4x64_S1x16384x2x4x64_0_0_0_0_0))
      transposes_S1x2x16640x16384x4_S1x2x4x16384x16640_0_1_4_3_2)
    (broadcastInDim S1x2x4x16384x16640 ![] bcast_S_S1x2x4x16384x16640 (constant S_ .f32 0x3E000000#32))

/-- The greatest score of every query, as the softmax subtracts it. -/
def top (S : FVec Ideal S1x2x4x16384x16640 .f32) : FVec Ideal S1x2x4x16384 .f32 :=
  maximumf (broadcastInDim S1x2x4x16384 ![] bcast_S_S1x2x4x16384 (constant S_ .f32 0xFF800000#32))
    (Host.reduce FloatOps.maximumf S (constant S_ .f32 0xFF800000#32) reducesTo_S1x2x4x16384x16640_S1x2x4x16384_d4 h_S_)

/-- The exponentials of the scores less the greatest. -/
def expo (S : FVec Ideal S1x2x4x16384x16640 .f32) (M : FVec Ideal S1x2x4x16384 .f32) :
    FVec Ideal S1x2x4x16384x16640 .f32 :=
  Host.exp (subf S (broadcastInDim S1x2x4x16384x16640 ![0, 1, 2, 3, 4] bcast_S1x2x4x16384x1_S1x2x4x16384x16640_0_1_2_3_4
    (broadcastInDim S1x2x4x16384x1 ![0, 1, 2, 3] bcast_S1x2x4x16384_S1x2x4x16384x1_0_1_2_3 M)))

/-- The exponentials over their sum. -/
def soft (E : FVec Ideal S1x2x4x16384x16640 .f32) : FVec Ideal S1x2x4x16384x16640 .f32 :=
  Host.divf E (broadcastInDim S1x2x4x16384x16640 ![0, 1, 2, 3, 4] bcast_S1x2x4x16384x1_S1x2x4x16384x16640_0_1_2_3_4
    (broadcastInDim S1x2x4x16384x1 ![0, 1, 2, 3] bcast_S1x2x4x16384_S1x2x4x16384x1_0_1_2_3
      (Host.reduceAdd E (constant S_ .f32 0x00000000#32) reducesTo_S1x2x4x16384x16640_S1x2x4x16384_d4 h_S_)))

/-- The sum over the values, weighted, one token's heads side by side. -/
def mix (v : FVec Ideal S1x16640x2x64 .f32) (W : FVec Ideal S1x2x4x16384x16640 .f32) : FVec Ideal S16384x512 .bf16 :=
  truncf .bf16 (shapeCast _ (transpose S1x16384x2x4x64 [0, 4, 1, 3, 2]
    (Host.dotGeneral dot_S1x16640x2x64_S1x2x4x16384x16640_S1x2x64x4x16384_1_4_3_23_02_01 none v W)
    transposes_S1x2x64x4x16384_S1x16384x2x4x64_0_4_1_3_2) shapeCasts_S1x16384x2x4x64_S16384x512) bitsLt_bf16_f32

theorem scores_apply (Q : FVec Ideal S1x16640x2x4x64 .f32) (K : FVec Ideal S1x16640x2x64 .f32) (h : Fin 2) (g : Fin 4)
    (t : Fin 16384) (κ : Fin 16640) :
    scores Q K (ix5 0 h g t κ)
      = (∑ d : Fin 64, K (ix4 0 κ h d) * Q (ix5 0 ⟨t.val, by omega⟩ h g d)) * Ideal.ofBits .f32 0x3E000000#32 := by
  pointwise [scores]
  try rfl

/-- A maximum along the last of five axes, and with its initial value once more, is a fold along that axis. -/
theorem max_last {n0 n1 n2 n3 n4 : ℕ} {t u : Shape} (h : (⟨5, ![n0, n1, n2, n3, n4]⟩ : Shape).ReducesTo [4] t)
    (hu : 0 < u.numel) (v : FVec Ideal ⟨5, ![n0, n1, n2, n3, n4]⟩ .f32) (b : FVec Ideal u .f32) (A : FVec Ideal t .f32)
    (b0 : EReal) (hb : ∀ i, b i = b0) (hA : ∀ j, A j = b0) (j : t.Idx) :
    ∃ g : Fin n4 → (⟨5, ![n0, n1, n2, n3, n4]⟩ : Shape).Idx,
      maximumf A (Host.reduce FloatOps.maximumf v b h hu) j = max b0 (Finset.univ.fold max b0 (fun k => (v (g k) : EReal))) := by
  have e := (Host.reduce_eq_fold (FloatOps.maximumf (F := Ideal) (φ := .f32)) v b h hu j).trans
    (Shape.ReducesTo.fold_fiber_r5_a4 h j (FloatOps.maximumf (F := Ideal) (φ := .f32)) (b (Shape.Idx.first hu)) v)
  have e1 : maximumf A (Host.reduce FloatOps.maximumf v b h hu) j
      = FloatOps.maximumf (F := Ideal) (φ := .f32) (A j) (Host.reduce FloatOps.maximumf v b h hu j) := rfl
  rw [e1, e, hA, hb]
  simp only [Ideal.maximumf_eq_max]
  exact ⟨_, rfl⟩

/-- A constant, broadcast, is the constant. -/
theorem const_at {t : Shape} {f : Fin (S_ : Shape).rank → Fin t.rank} (h) (w : BitVec 32) (j : t.Idx) :
    (broadcastInDim t f h (constant (F := Ideal) S_ .f32 w) : FVec Ideal t .f32) j = Ideal.ofBits .f32 w := rfl

theorem top_eq (S : FVec Ideal S1x2x4x16384x16640 .f32) (j : S1x2x4x16384.Idx) :
    ∃ g : Fin 16640 → S1x2x4x16384x16640.Idx,
      top S j = max (Ideal.ofBits .f32 0xFF800000#32)
          (Finset.univ.fold max (Ideal.ofBits .f32 0xFF800000#32) (fun k => (S (g k) : EReal))) := by
  unfold top
  exact max_last reducesTo_S1x2x4x16384x16640_S1x2x4x16384_d4 h_S_ S (constant S_ .f32 0xFF800000#32)
    (broadcastInDim S1x2x4x16384 ![] bcast_S_S1x2x4x16384 (constant S_ .f32 0xFF800000#32)) (Ideal.ofBits .f32 0xFF800000#32)
    (fun _ => rfl) (const_at _ _) j

theorem expo_apply (S : FVec Ideal S1x2x4x16384x16640 .f32) (M : FVec Ideal S1x2x4x16384 .f32)
    (h : Fin 2) (g : Fin 4) (t : Fin 16384) (κ : Fin 16640) :
    expo S M (ix5 0 h g t κ) = Ideal.exp (S (ix5 0 h g t κ) - M (ix4 0 h g t)) := by
  pointwise [expo]
  try rfl

theorem soft_apply (E : FVec Ideal S1x2x4x16384x16640 .f32) (h : Fin 2) (g : Fin 4) (t : Fin 16384) (κ : Fin 16640) :
    soft E (ix5 0 h g t κ) = Ideal.div (E (ix5 0 h g t κ)) (∑ κ : Fin 16640, E (ix5 0 h g t κ)) := by
  pointwise [soft]
  try rfl

theorem mix_apply (v : FVec Ideal S1x16640x2x64 .f32) (W : FVec Ideal S1x2x4x16384x16640 .f32) (h : Fin 2) (g : Fin 4)
    (t : Fin 16384) (d : Fin 64) :
    mix v W (ix2 t ⟨h.val * 256 + (64 * g.val + d.val), by omega⟩) = ∑ κ : Fin 16640, v (ix4 0 κ h d) * W (ix5 0 h g t κ) := by
  pointwise [mix]
  try rfl

/-- The reference's array, of its arguments. -/
def want (Q : FVec Ideal S1x16640x2x4x64 .f32) (K v : FVec Ideal S1x16640x2x64 .f32) : FVec Ideal S16384x512 .bf16 :=
  mix v (soft (expo (scores Q K) (top (scores Q K))))

/-- What the reference's run leaves is that array. -/
theorem run_want (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = want (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h := run (F := Ideal) m ρ
  unfold want mix soft expo top scores
  exact h

end Cert.Reference4Ideal.Gqa
-- ==== Proof.GqaMath.lean ====
module

public import proofs.«01_k».proof.Proof.AttnMath

/-! The arithmetic of the global attention: the softmax is the same whether or not the greatest score is subtracted and
    whether its sum is divided by before or after the values are added up, and whatever the values are. -/

@[expose] public section

noncomputable section

namespace Cert.Attn

open Idealize.ShloMosaic

/-- A positive real factor distributes over a sum of extended reals. -/
theorem sum_mul_pos {ι : Type*} (s : Finset ι) (f : ι → EReal) (r : ℝ) (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr.le) (EReal.coe_ne_top r) _ _

/-- The softmax over any values: divided at the end without the greatest score, or in each weight with it. -/
theorem gqa_eq {n : ℕ} (hn : 0 < n) (v : Fin n → EReal) (s : Fin n → ℝ) (M : ℝ) :
    Ideal.div (∑ κ, v κ * ((Real.exp (s κ) : ℝ) : EReal)) (∑ κ, ((Real.exp (s κ) : ℝ) : EReal))
      = ∑ κ, v κ * Ideal.div (Ideal.exp ((s κ : EReal) - (M : EReal))) (∑ κ, Ideal.exp ((s κ : EReal) - (M : EReal))) := by
  have hne : (Finset.univ : Finset (Fin n)).Nonempty := ⟨⟨0, hn⟩, Finset.mem_univ _⟩
  have hp : ∀ f : Fin n → ℝ, 0 < ∑ κ, Real.exp (f κ) := fun f => Finset.sum_pos (fun κ _ => Real.exp_pos _) hne
  simp only [← EReal.coe_sub, Ideal.exp_coe, sum_coe]
  simp only [Ideal.div_coe (hp _).ne']
  rw [sum_mul_pos _ _ _ (one_div_pos.mpr (hp _))]
  refine Finset.sum_congr rfl fun κ _ => ?_
  rw [mul_assoc, ← EReal.coe_mul, ← EReal.coe_mul]
  congr 2
  have hz : (∑ κ, Real.exp (s κ)) ≠ 0 := (hp s).ne'
  have hM : Real.exp (-M) ≠ 0 := (Real.exp_pos _).ne'
  have e : ∀ κ, Real.exp (s κ - M) = Real.exp (s κ) * Real.exp (-M) := fun κ => by
    rw [sub_eq_add_neg, Real.exp_add]
  simp only [e, ← Finset.sum_mul]
  field_simp

end Cert.Attn
-- ==== Proof.GqaEq.lean ====
module

public import proofs.«01_k».proof.Proof.GqaHost
public import proofs.«01_k».proof.Proof.GqaRef
public import proofs.«01_k».proof.Proof.GqaMath

@[expose] public section

set_option maxRecDepth 16384

/-!
  One row of a block's output is one row of the reference: the kernel's sums over all keys, divided at the end, are the
  reference's softmax over the values, for finite queries and keys.
-/

noncomputable section

namespace Cert.Kernel4Ideal.Gqa

open Idealize.ShloMosaic Idealize.ShloMosaic.Ideal
open Cert.Kernel4Ideal Cert.Kernel4Ideal.Gen

/-- An array of finite numbers. -/
def Fin1 {s : Shape} (X : s.Idx → EReal) : Prop := ∀ i, ∃ r : ℝ, X i = r

/-- What a block's windows hold for sub-block `b` of the block at head `h` and step `i`. -/
structure Holds (Q : FVec Ideal S1x16640x2x4x64 .f32) (K V : FVec Ideal S1x16640x2x64 .f32) (h : Fin 2) (i : Fin 32)
    (b : Fin 2) (x0 : FVec Ideal S1x2x1024x128 .f32) (x1 : FVec Ideal S1x16640x128 .bf16)
    (x2 : FVec Ideal S1x65x128x256 .bf16) : Prop where
  q : ∀ (r : Fin 1024) (l : Fin 128), x0 (ix4 0 b r l)
    = if l.val / 64 = h.val then
        Q (ix5 0 ⟨(2 * i.val + b.val) * 256 + r.val % 256, by omega⟩ h ⟨r.val / 256, by omega⟩ ⟨l.val % 64, by omega⟩)
      else (0 : EReal)
  k : ∀ (κ : Fin 16640) (l : Fin 128), x1 (ix3 0 κ l) = K (ix4 0 κ ⟨l.val / 64, by omega⟩ ⟨l.val % 64, by omega⟩)
  v : ∀ (j : Fin 65) (e : Fin 64) (s : Fin 256), x2 (ix4 0 j ⟨e.val, by omega⟩ s) = V (ix4 0 ⟨j.val * 256 + s.val, by omega⟩ h e)
  one : ∀ (j : Fin 65) (s : Fin 256), x2 (ix4 0 j 64 s) = (1 : EReal)

/-- The score of token `t`'s query head `(h, g)` with key `κ`, of finite queries and keys. -/
def sc (q : S1x16640x2x4x64.Idx → ℝ) (k : S1x16640x2x64.Idx → ℝ) (h : Fin 2) (g : Fin 4) (t : Fin 16640) (κ : Fin 16640) : ℝ :=
  (∑ d : Fin 64, q (ix5 0 t h g d) * k (ix4 0 κ h d)) * (1 / 8)

section
variable {Q : FVec Ideal S1x16640x2x4x64 .f32} {K V : FVec Ideal S1x16640x2x64 .f32} {h : Fin 2} {i : Fin 32} {b : Fin 2}
  {x0 : FVec Ideal S1x2x1024x128 .f32} {x1 : FVec Ideal S1x16640x128 .bf16} {x2 : FVec Ideal S1x65x128x256 .bf16}

/-- The kernel's weight of a key is the exponential of its score. -/
theorem wt_eq (H : Holds Q K V h i b x0 x1 x2) {q : S1x16640x2x4x64.Idx → ℝ} {k : S1x16640x2x64.Idx → ℝ}
    (hq : ∀ i, Q i = (q i : EReal)) (hk : ∀ i, K i = (k i : EReal)) (g : Fin 4) (ρ : Fin 256) (κ : Fin 16640) :
    wt (k0_pay10 x0) x1 ⟨1024 * b.val + (256 * g.val + ρ.val), by omega⟩ κ
      = ((Real.exp (sc q k h g ⟨(2 * i.val + b.val) * 256 + ρ.val, by omega⟩ κ) : ℝ) : EReal) := by
  unfold wt
  have e : ∀ l : Fin 128, x1 (ix3 0 κ l) * k0_pay10 (F := Ideal) x0 (ix2 ⟨1024 * b.val + (256 * g.val + ρ.val), by omega⟩ l)
      = (((fun (g : Fin 2) (d : Fin 64) => k (ix4 0 κ g d)) ⟨l.val / 64, by omega⟩ ⟨l.val % 64, by omega⟩ : ℝ) : EReal)
        * ((if l.val / 64 = h.val then
            (((fun d : Fin 64 => q (ix5 0 ⟨(2 * i.val + b.val) * 256 + ρ.val, by omega⟩ h g d)) ⟨l.val % 64, by omega⟩ : ℝ) : EReal)
            else 0) * (((8 * Real.log 2)⁻¹ : ℝ) : EReal)) := by
    intro l
    rw [pay10_apply x0 b ⟨256 * g.val + ρ.val, by omega⟩ l, H.q, H.k, hk]
    have h1 : (⟨(256 * g.val + ρ.val) / 256, by omega⟩ : Fin 4) = g := Fin.ext (by dsimp only; omega)
    have h2 : (256 * g.val + ρ.val) % 256 = ρ.val := by omega
    simp only [h1, h2, hq]
  refine (congrArg (FloatOps.exp2 (F := Ideal) (φ := .f32)) ((Finset.sum_congr rfl fun l _ => e l).trans
    (Cert.Attn.lanes_sum (fun (g : Fin 2) (d : Fin 64) => k (ix4 0 κ g d))
      (fun d : Fin 64 => q (ix5 0 ⟨(2 * i.val + b.val) * 256 + ρ.val, by omega⟩ h g d)) h (8 * Real.log 2)⁻¹))).trans ?_
  exact Cert.Attn.exp2_scaled _

/-- The quotient of a row, of finite queries and keys. -/
theorem quo_eq (H : Holds Q K V h i b x0 x1 x2) {q : S1x16640x2x4x64.Idx → ℝ} {k : S1x16640x2x64.Idx → ℝ}
    (hq : ∀ i, Q i = (q i : EReal)) (hk : ∀ i, K i = (k i : EReal)) (g : Fin 4) (ρ : Fin 256) (d : Fin 64) :
    quo (atExit (F := Ideal) x0 x1 x2) ⟨1024 * b.val + (256 * g.val + ρ.val), by omega⟩ ⟨d.val, by omega⟩
      = Ideal.div (∑ κ : Fin 16640, V (ix4 0 κ h d)
            * ((Real.exp (sc q k h g ⟨(2 * i.val + b.val) * 256 + ρ.val, by omega⟩ κ) : ℝ) : EReal))
          (∑ κ : Fin 16640, ((Real.exp (sc q k h g ⟨(2 * i.val + b.val) * 256 + ρ.val, by omega⟩ κ) : ℝ) : EReal)) := by
  unfold quo
  rw [acc_apply, acc_apply]
  refine congrArg₂ Ideal.div ?_ ?_
  · refine Finset.sum_congr rfl fun κ _ => ?_
    have hκ : (⟨κ.val / 256 * 256 + κ.val % 256, by omega⟩ : Fin 16640) = κ :=
      Fin.ext (show κ.val / 256 * 256 + κ.val % 256 = κ.val by omega)
    have e1 : slabVal x2 ⟨d.val, by omega⟩ κ = V (ix4 0 κ h d) := by
      unfold slabVal
      rw [H.v]
      simp only [hκ]
    exact congrArg₂ (fun a b : EReal => a * b) e1 (wt_eq H hq hk g ρ κ)
  · refine Finset.sum_congr rfl fun κ _ => ?_
    have e1 : slabVal x2 64 κ = (1 : EReal) := by
      unfold slabVal
      exact H.one _ _
    exact (congrArg₂ (fun a b : EReal => a * b) e1 (wt_eq H hq hk g ρ κ)).trans (one_mul _)

end

section
open Cert.Reference4Ideal.Gqa

/-- The reference's entry, of finite queries and keys. -/
theorem want_eq (Q : FVec Ideal S1x16640x2x4x64 .f32) (K V : FVec Ideal S1x16640x2x64 .f32)
    {q : S1x16640x2x4x64.Idx → ℝ} {k : S1x16640x2x64.Idx → ℝ}
    (hq : ∀ i, Q i = (q i : EReal)) (hk : ∀ i, K i = (k i : EReal)) (t : Fin 16384) (h : Fin 2) (g : Fin 4) (d : Fin 64) :
    ∃ M : ℝ, want Q K V (ix2 t ⟨h.val * 256 + (64 * g.val + d.val), by omega⟩)
      = ∑ κ : Fin 16640, V (ix4 0 κ h d)
          * Ideal.div (Ideal.exp ((sc q k h g ⟨t.val, by omega⟩ κ : EReal) - (M : EReal)))
              (∑ κ : Fin 16640, Ideal.exp ((sc q k h g ⟨t.val, by omega⟩ κ : EReal) - (M : EReal))) := by
  have hs : ∀ (h : Fin 2) (g : Fin 4) (t : Fin 16384) (κ : Fin 16640),
      scores Q K (ix5 0 h g t κ) = ((sc q k h g ⟨t.val, by omega⟩ κ : ℝ) : EReal) := by
    intro h g t κ
    rw [scores_apply, Cert.Attn.ofBits_eighth]
    simp only [hq, hk, ← EReal.coe_mul, Cert.Attn.sum_coe]
    unfold sc
    simp only [mul_comm]
  have hfin : ∀ j, ∃ r : ℝ, (scores Q K j : EReal) = r := by
    intro j
    refine ⟨_, (congrArg (scores Q K) ?_).trans (hs (j 1) (j 2) (j 3) (j 4))⟩
    funext a
    match a with
    | ⟨0, _⟩ => exact Subsingleton.elim (α := Fin 1) _ _
    | ⟨1, _⟩ => rfl
    | ⟨2, _⟩ => rfl
    | ⟨3, _⟩ => rfl
    | ⟨4, _⟩ => rfl
  obtain ⟨M, hM⟩ : ∃ M : ℝ, (top (scores Q K) (ix4 0 h g t) : EReal) = M := by
    obtain ⟨f, hf⟩ := top_eq (scores Q K) (ix4 0 h g t)
    rw [hf, Cert.Attn.ofBits_least]
    exact Cert.Attn.fold_max_coe (by norm_num) _ fun κ => hfin _
  refine ⟨M, ?_⟩
  unfold want
  rw [mix_apply]
  refine Finset.sum_congr rfl fun κ _ => ?_
  rw [soft_apply]
  simp only [expo_apply, hs, hM]

/-- One row of a block's output is one row of the reference. -/
theorem row_eq (Q : FVec Ideal S1x16640x2x4x64 .f32) (K V : FVec Ideal S1x16640x2x64 .f32) (hQ : Fin1 Q) (hK : Fin1 K)
    (h : Fin 2) (i : Fin 32) (b : Fin 2) (x0 : FVec Ideal S1x2x1024x128 .f32) (x1 : FVec Ideal S1x16640x128 .bf16)
    (x2 : FVec Ideal S1x65x128x256 .bf16) (H : Holds Q K V h i b x0 x1 x2) (ρ : Fin 256) (g : Fin 4) (d : Fin 64) :
    rowBlock (F := Ideal) (atExit (F := Ideal) x0 x1 x2) b (ix2 ρ ⟨64 * g.val + d.val, by omega⟩)
      = want Q K V (ix2 ⟨(2 * i.val + b.val) * 256 + ρ.val, by omega⟩ ⟨h.val * 256 + (64 * g.val + d.val), by omega⟩) := by
  choose q hq using hQ
  choose k hk using hK
  obtain ⟨M, hm⟩ := want_eq Q K V hq hk ⟨(2 * i.val + b.val) * 256 + ρ.val, by omega⟩ h g d
  refine (rowBlock_apply _ b ρ g d).trans ((quo_eq H hq hk g ρ d).trans (Eq.trans ?_ hm.symm))
  exact Cert.Attn.gqa_eq (n := 16640) (by norm_num) (fun κ => V (ix4 0 κ h d))
    (fun κ => sc q k h g ⟨(2 * i.val + b.val) * 256 + ρ.val, by omega⟩ κ) M

end

end Cert.Kernel4Ideal.Gqa
-- ==== Proof.GqaBlocks.lean ====
module

public import proofs.«01_k».proof.Proof.GqaEq
public import proofs.«01_k».proof.Proof.Gen.Kernel4Ideal.Value
public import Idealize.ShloMosaic.Lib.WritesUnit

@[expose] public section

set_option maxRecDepth 16384

/-!
  From the blocks to the arrays: what the windows hold at grid point `t` (head `t / 32`, step `t % 32`), in the arguments;
  the block that the point writes back; and so the whole result, which is the reference's array.
-/

noncomputable section

namespace Cert.Kernel4Ideal.Gqa

open Idealize.ShloMosaic Idealize.ShloMosaic.Ideal Idealize.ShloMosaic.TcCoe Idealize.SL.Sem
open Cert.Kernel4Ideal Cert.Kernel4Ideal.Gen
open Idealize.ShloMosaic.Pipeline (Dat)

/-! ## Where the blocks lie -/

theorem idx0 : ∀ t : Fin grid0.N, win0_0.index t = ![t.val / 32, t.val % 32, 0, 0] := by decide +kernel
theorem idx1 : ∀ t : Fin grid0.N, win0_1.index t = ![0, 0, 0] := by decide +kernel
theorem idx2 : ∀ t : Fin grid0.N, win0_2.index t = ![t.val / 32, 0, 0, 0] := by decide +kernel
theorem idx3 : ∀ t : Fin grid0.N, win0_3.index t = ![t.val % 32, t.val / 32] := by decide +kernel

theorem lt_64 (t : Fin cfg0.N) : t.val < 64 := t.isLt

/-- The head of a grid point. -/
def hd (t : Fin cfg0.N) : Fin 2 := ⟨t.val / 32, by have := lt_64 t; omega⟩
/-- The step of a grid point. -/
def st (t : Fin cfg0.N) : Fin 32 := ⟨t.val % 32, by omega⟩

variable (m : (ℓ : Loc nD τ sig) → Buf (Elt Ideal) ℓ) (c : Dev nD) (t : Fin cfg0.N)

/-! ## What the windows hold -/

theorem blk1_at (κ : Fin 16640) (l : Fin 128) :
    (iblk m c 1 t : FVec Ideal S1x16640x128 .bf16) (ix3 0 κ l) = (V m c main_v15 : FVec Ideal S1x16640x128 .bf16) (ix3 0 κ l) := by
  unfold iblk
  rw [View.read_apply]
  show (V m c main_v15 : FVec Ideal S1x16640x128 .bf16) _ = _
  refine congrArg (V m c main_v15 : FVec Ideal S1x16640x128 .bf16) ?_
  funext a
  apply Fin.ext
  match a with
  | ⟨0, _⟩ => show win0_1.index t 0 * 1 + 1 * 0 = 0; rw [idx1]; simp
  | ⟨1, _⟩ => show win0_1.index t 1 * 16640 + 1 * κ.val = κ.val; rw [idx1]; simp
  | ⟨2, _⟩ => show win0_1.index t 2 * 128 + 1 * l.val = l.val; rw [idx1]; simp

theorem blk2_at (j : Fin 65) (e : Fin 128) (s : Fin 256) :
    (iblk m c 2 t : FVec Ideal S1x65x128x256 .bf16) (ix4 0 j e s)
      = (V m c main_v26 : FVec Ideal S2x65x128x256 .bf16) (ix4 (hd t) j e s) := by
  unfold iblk
  rw [View.read_apply]
  show (V m c main_v26 : FVec Ideal S2x65x128x256 .bf16) _ = _
  refine congrArg (V m c main_v26 : FVec Ideal S2x65x128x256 .bf16) ?_
  funext a
  apply Fin.ext
  match a with
  | ⟨0, _⟩ => show win0_2.index t 0 * 1 + 1 * 0 = t.val / 32; rw [idx2]; simp
  | ⟨1, _⟩ => show win0_2.index t 1 * 65 + 1 * j.val = j.val; rw [idx2]; simp
  | ⟨2, _⟩ => show win0_2.index t 2 * 128 + 1 * e.val = e.val; rw [idx2]; simp
  | ⟨3, _⟩ => show win0_2.index t 3 * 256 + 1 * s.val = s.val; rw [idx2]; simp

theorem blk0_at (b : Fin 2) (r : Fin 1024) (l : Fin 128) :
    (X0_0 m c t : FVec Ideal S1x2x1024x128 .f32) (ix4 0 b r l)
      = (V m c main_v13 : FVec Ideal S2x65x1024x128 .f32)
          (ix4 (hd t) ⟨2 * (st t).val + b.val, by have := (st t).isLt; omega⟩ r l) := by
  unfold X0_0 Pipeline.Window.fill
  rw [dif_pos (moved0_0 t _)]
  unfold iblk
  generalize V m c = W
  rw [View.read_apply]
  refine (cast_eq _ _).trans ?_
  refine congrArg (W main_v13 : FVec Ideal S2x65x1024x128 .f32) ?_
  funext a
  apply Fin.ext
  match a with
  | ⟨0, _⟩ => show win0_0.index t 0 * 1 + 1 * 0 = t.val / 32; rw [idx0]; simp
  | ⟨1, _⟩ => show win0_0.index t 1 * 2 + 1 * b.val = 2 * (t.val % 32) + b.val; rw [idx0]; simp; omega
  | ⟨2, _⟩ => show win0_0.index t 2 * 1024 + 1 * r.val = r.val; rw [idx0]; simp
  | ⟨3, _⟩ => show win0_0.index t 3 * 128 + 1 * l.val = l.val; rw [idx0]; simp

/-- The windows at a grid point hold what the row equation asks for. -/
theorem holds (b : Fin 2) : Holds (argQ m c) (argK m c) (argV m c) (hd t) (st t) b
    (X0_0 m c t) (iblk m c 1 t) (iblk m c 2 t) where
  q r l := (blk0_at m c t b r l).trans (q_at m c _ _ r l)
  k κ l := (blk1_at m c t κ l).trans (k_at m c κ l)
  v j e s := (blk2_at m c t j ⟨e.val, by omega⟩ s).trans (v_at m c _ j e s)
  one j s := (blk2_at m c t j 64 s).trans (one_at m c _ j s)

/-! ## The block written back -/

/-- Row `256 b + ρ` of a block written as two pieces of 256 rows is row `ρ` of piece `b`. -/
theorem rows_at (W : Fin 2 → FVec Ideal S256x256 .bf16) (b : Fin 2) (ρ : Fin 256) (e : Fin 256) :
    VO0_3.read (Elt Ideal) (VO0_3.writes (Elt Ideal) VO0_3.junk
        [⟨Rect.unit (s := S512x256) ![256, 0] S256x256.size inb_S512x256_S256x256_256_0, W 1⟩,
         ⟨Rect.unit (s := S512x256) ![0, 0] S256x256.size inb_S512x256_S256x256_0_0, W 0⟩])
      (ix2 ⟨256 * b.val + ρ.val, by omega⟩ e) = W b (ix2 ρ e) := by
  have hρ := ρ.isLt
  fin_cases b
  · refine (View.read_writes_cons_rows_of_not_mem (W := 256) VO0_3 _ _ _ _ _ rfl rfl (Or.inl ?_)).trans
      (View.read_writes_cons_rows_of_mem VO0_3 _ _ _ _ _ (ix2 ρ e) rfl ?_ ?_)
    · show 256 * 0 + ρ.val < 256; omega
    · show 256 * 0 + ρ.val = 0 + ρ.val; omega
    · rfl
  · refine View.read_writes_cons_rows_of_mem VO0_3 _ _ _ _ _ (ix2 ρ e) rfl ?_ ?_
    · show 256 * 1 + ρ.val = 256 + ρ.val; omega
    · rfl

section
open Cert.Reference4Ideal.Gqa

/-- The reference's array, in the kernel's arguments. -/
abbrev wanted : FVec Ideal S16384x512 .bf16 := want (argQ m c) (argK m c) (argV m c)

/-- The arguments that the scores are made of are finite. -/
structure Finite : Prop where
  q : Fin1 (argQ m c)
  k : Fin1 (argK m c)

theorem out_at (hf : Finite m c) (R : Fin 512) (e : Fin 256) :
    (outsAt0 m c t : FVec Ideal S512x256 .bf16) (ix2 R e)
      = wanted m c (ix2 ⟨(st t).val * 512 + R.val, by have := (st t).isLt; omega⟩
          ⟨(hd t).val * 256 + e.val, by have := (hd t).isLt; omega⟩) := by
  obtain ⟨b, ρ, hR⟩ : ∃ (b : Fin 2) (ρ : Fin 256), R = ⟨256 * b.val + ρ.val, by omega⟩ :=
    ⟨⟨R.val / 256, by omega⟩, ⟨R.val % 256, by omega⟩, Fin.ext (by dsimp only; omega)⟩
  obtain ⟨g, d, he⟩ : ∃ (g : Fin 4) (d : Fin 64), e = ⟨64 * g.val + d.val, by omega⟩ :=
    ⟨⟨e.val / 64, by omega⟩, ⟨e.val % 64, by omega⟩, Fin.ext (by dsimp only; omega)⟩
  subst hR he
  unfold outsAt0
  rw [out_block]
  refine (rows_at (rowBlock (F := Ideal) (atExit (F := Ideal) (X0_0 m c t) (iblk m c 1 t) (iblk m c 2 t))) b ρ
    ⟨64 * g.val + d.val, by omega⟩).trans ?_
  refine (row_eq (argQ m c) (argK m c) (argV m c) hf.q hf.k (hd t) (st t) b
    (X0_0 m c t) (iblk m c 1 t) (iblk m c 2 t) (holds m c t b) ρ g d).trans ?_
  refine congrArg (wanted m c) (congrArg (fun z => ix2 z _) (Fin.ext ?_))
  show (2 * (st t).val + b.val) * 256 + ρ.val = (st t).val * 512 + (256 * b.val + ρ.val)
  omega

/-- What a grid point writes back is its block of the reference's array. -/
theorem flushed_eq (hf : Finite m c) (hw : (cfg0.win 3).flush t = true) :
    (dats m 0 c).flushed 3 t = ((cfg0.win 3).blk t).view.read (Elt Ideal) (wanted m c) := by
  rw [Value.flushed3]
  funext y
  rw [View.read_apply]
  have h0 : (y 0).val < 512 := (y 0).isLt
  have h1 : (y 1).val < 256 := (y 1).isLt
  have e := out_at m c t hf ⟨(y 0).val, h0⟩ ⟨(y 1).val, h1⟩
  refine (congrArg (outsAt0 m c t) ?_).trans (e.trans (congrArg (wanted m c) ?_))
  · funext a
    match a with
    | ⟨0, _⟩ => rfl
    | ⟨1, _⟩ => rfl
  · funext a
    apply Fin.ext
    match a with
    | ⟨0, _⟩ => show t.val % 32 * 512 + (y 0).val = win0_3.index t 0 * 512 + 1 * (y 0).val; rw [idx3]; simp
    | ⟨1, _⟩ => show t.val / 32 * 256 + (y 1).val = win0_3.index t 1 * 256 + 1 * (y 1).val; rw [idx3]; simp

/-- The result is the reference's array. -/
theorem final_eq (hf : Finite m c) : (dats m 0 c).arrAt 3 cfg0.N = wanted m c :=
  (dats m 0 c).arrAt_eq_of_cover 3 (wanted m c) (fun t hw => flushed_eq m c t hf hw) fun i => by
    have h0 : (i 0 : Nat) < 16384 := (i 0).isLt
    have h1 : (i 1 : Nat) < 512 := (i 1).isLt
    have ht : (i 1 : Nat) / 256 * 32 + (i 0 : Nat) / 512 < grid0.N := by
      show _ < 64
      omega
    refine ⟨⟨(i 1 : Nat) / 256 * 32 + (i 0 : Nat) / 512, ht⟩, flush0_3 _, ?_⟩
    show i ∈ ((View.whole main_v27).slice (win0_3.rect ⟨(i 1 : Nat) / 256 * 32 + (i 0 : Nat) / 512, ht⟩)).set
    rw [View.set_slice_whole, Rect.mem_set_unit]
    intro a
    match a with
    | ⟨0, _⟩ =>
      show win0_3.index ⟨_, ht⟩ 0 * 512 ≤ (i 0 : Nat) ∧ (i 0 : Nat) < win0_3.index ⟨_, ht⟩ 0 * 512 + 512
      rw [idx3]
      simp
      omega
    | ⟨1, _⟩ =>
      show win0_3.index ⟨_, ht⟩ 1 * 256 ≤ (i 1 : Nat) ∧ (i 1 : Nat) < win0_3.index ⟨_, ht⟩ 1 * 256 + 256
      rw [idx3]
      simp
      omega

end

end Cert.Kernel4Ideal.Gqa
-- ==== Proof.GqaPre.lean ====
module

public import proofs.«01_k».proof.Proof.GqaBlocks
public import proofs.«01_k».proof.Proof.AttnPre
public import proofs.«01_k».proof.Defs

/-!
The precondition read as a statement about numbers: where `scores_finite` is all ones, every entry of the queries and
the keys is a real number, neither `⊤` nor `⊥`.
-/

@[expose] public section

noncomputable section

namespace Cert.Kernel4Ideal.Gqa

open Idealize.ShloMosaic Idealize.ShloMosaic.Ideal Idealize.ShloMosaic.TcCoe
open Cert.Kernel4Ideal

/-- The side conditions the precondition's broadcasts state. -/
theorem scores_facts : Cert.Pre_scores_finite.Facts where
  bcast_S_S1x16640x2x4x64 := by decide
  bcast_S_S1x16640x2x64 := by decide

/-- The precondition gives real entries on every device. -/
theorem finite_of_pre [Cert.Pre_scores_finite.Facts] (m : (ℓ : Loc nD τ sig) → Buf (Elt Ideal) ℓ)
    (h : Cert.Pre_Kernel4Ideal_scores_finite m) (c : Dev nD) : Finite m c where
  q i := Cert.Kernel2Ideal.Attn.real_of_between _ (congrFun (h c).1 i)
  k i := Cert.Kernel2Ideal.Attn.real_of_between _ (congrFun (h c).2 i)

end Cert.Kernel4Ideal.Gqa

end
-- ==== Proof.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel3.Frame
public import proofs.«01_k».proof.Proof.Gen.Kernel3.Value
public import proofs.«01_k».proof.Proof.Gen.Kernel3Ideal.Frame
public import proofs.«01_k».proof.Proof.Gen.Reference3Ideal.Run
public import proofs.«01_k».proof.Proof.Gen.Reference3.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_in_range
public import proofs.«01_k».proof.Proof.Value
public import proofs.«01_k».proof.Proof.AttnRef
public import proofs.«01_k».proof.Proof.AttnPre
public import proofs.«01_k».proof.Proof.Comb
public import proofs.«01_k».proof.Proof.GqaPre
public import Idealize.ShloMosaic.Adequacy
public import Idealize.ShloMosaic.Init

/-!
The certificate's claim. Of the gather: the frames, and its result against `x[:, dest]`, over the words
and over the extended reals alike (no float is computed). Of the differential attention: the frames, the
scale's named constant, and its result against the softmaxes' difference of the reference, over the
extended reals. Of the weighted sum of the experts' rows: the frames, and its result against the
reference's, over the words and over the extended reals alike. Of the global attention: the frames, the
scale's named constant, and its result against the softmax's product with the values, over the extended
reals.
-/

@[expose] public section

noncomputable section

namespace Cert.Proof

open Idealize.ShloMosaic Idealize.SL.Sem Idealize.ShloMosaic.TcCoe
open Cert.KernelIdeal (DestOK argX argI gathered V3 dv run_main inRange_of result_eq reference_eq destOK_of_pre V3_arg0 V3_arg1)

variable {F : FTy → Type} [FloatOps F]

/-- The program's run, read at the result and at the arguments. -/
theorem run_kernel [∀ e, Nonempty (Elt F e)] (m : (ℓ : Loc Cert.KernelIdeal.nD Cert.KernelIdeal.τ Cert.KernelIdeal.sig) → Buf (Elt F) ℓ)
    (ρ : Dev Cert.KernelIdeal.nD → PrngReg) (hd : ∀ d, DestOK (argI m d)) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v11) = gathered (argX m c) (argI m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c).2.2.trans (result_eq m c (hd c)), (h.1 c).1.trans (V3_arg0 m c), (h.1 c).2.1.trans (V3_arg1 m c)⟩, h.2⟩)
    (run_main m ρ (inRange_of m hd))

theorem frame_kernel : Cert.quiescent_Kernel := fun m ρ h =>
  (θ_run Cert.KernelIdeal.defs _ _).mono (fun _ h => ⟨fun c => (h.1 c).2, h.2⟩)
    (run_kernel (F := Bits) m ρ fun d => destOK_of_pre _ _ (h d))

theorem frame_kernelIdeal : Cert.quiescent_KernelIdeal := fun m ρ h =>
  (θ_run Cert.KernelIdeal.defs _ _).mono (fun _ h => ⟨fun c => (h.1 c).2, h.2⟩)
    (run_kernel (F := Ideal) m ρ fun d => destOK_of_pre _ _ (h d))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_rows_in_range := fun m ρ _ =>
  frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The two results are equal, as extended reals. -/
theorem algebraic : Cert.algebraic_KernelIdeal_ReferenceIdeal := by
  intro m ρ m' ρ' hpre hagree
  have hd : ∀ d, DestOK (argI m d) := fun d => destOK_of_pre _ _ (hpre d)
  refine ⟨fun c => gathered (argX m c) (argI m c),
    (θ_run Cert.KernelIdeal.defs _ _).mono (fun _ h c => h.1 c) (run_kernel (F := Ideal) m ρ hd), ?_⟩
  refine (θ_run Cert.ReferenceIdeal.defs _ _).mono (fun r h c => ⟨(h c).1.trans ?_, (h c).2⟩)
    (Cert.ReferenceIdeal.Value.run (F := Ideal) m' ρ')
  rw [(hagree c).1, (hagree c).2]
  exact reference_eq (argX m c) (argI m c) (hd c) _

/-- The two results are equal, word for word. -/
theorem bitexact : Cert.bitexact_Kernel_Reference := by
  intro m ρ m' ρ' hpre hagree
  have hd : ∀ d, DestOK (argI (F := Bits) m d) := fun d => destOK_of_pre _ _ (hpre d)
  refine ⟨fun c => gathered (argX (F := Bits) m c) (argI (F := Bits) m c),
    (θ_run Cert.KernelIdeal.defs _ _).mono (fun _ h c => h.1 c) (run_kernel (F := Bits) m ρ hd), ?_⟩
  refine (θ_run Cert.Reference.defs _ _).mono (fun r h c => ⟨(h c).1.trans ?_, (h c).2⟩)
    (Cert.Reference.Value.run (F := Bits) m' ρ')
  rw [(hagree c).1, (hagree c).2]
  exact reference_eq (argX (F := Bits) m c) (argI (F := Bits) m c) (hd c) _

/-! ## The attention -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_kernel2Ideal_pre [Cert.Pre_entries_finite.Facts] : Cert.quiescent_Kernel2Ideal_pre_entries_finite :=
  fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2Ideal_pre [Cert.Pre_entries_finite.Facts] : Cert.quiescent_Reference2Ideal_pre_entries_finite :=
  fun m ρ _ => frame_reference2Ideal m ρ trivial

/-- The scale is the named constant `1 / (8 log 2)`. -/
theorem preserves2 : Cert.preserves_Kernel2_Kernel2Ideal :=
  IdealRules.named_const.statement Cert.Kernel2Ideal.κ "q_scale" .f32 0x3E38AA3B#32 _ rfl

/-- The attention's result is the reference's, as extended reals, where the entries are real numbers. -/
theorem algebraic2 [Cert.Pre_entries_finite.Facts] :
    Cert.algebraic_Kernel2Ideal_Reference2Ideal_pre_entries_finite := by
  intro m ρ m' ρ' hpre hagree
  refine ⟨fun c => Cert.Kernel2Ideal.Attn.want m c,
    (θ_run Cert.Kernel2Ideal.defs _ _).mono
      (fun _ h c => ⟨(h c).1.trans (Cert.Kernel2Ideal.Attn.final_eq m c (Cert.Kernel2Ideal.Attn.finite_of_pre m hpre c)), (h c).2⟩)
      (Cert.Kernel2Ideal.Value.run_blocks (F := Ideal) m ρ), ?_⟩
  refine (θ_run Cert.Reference2Ideal.defs _ _).mono
    (fun r h c => ⟨(h c).1.trans ((Cert.Reference2Ideal.Attn.res_eq m' c).trans ?_), (h c).2⟩)
    (Cert.Reference2Ideal.Value.run (F := Ideal) m' ρ')
  obtain ⟨h0, h1, h2, h3, h4⟩ := hagree c
  rw [h0, h1, h2, h3, h4]
  rfl

/-! ## The combination of the experts' rows -/

/-- The two programs have the same bodies. -/
theorem bodies3 : Cert.Kernel3.defs₀ (F := F) = Cert.Kernel3Ideal.defs₀ := by
  unfold Cert.Kernel3.defs₀ Cert.Kernel3Ideal.defs₀
  refine congrArg Defs.onTc ?_
  funext ℓ x
  match ℓ with
  | ⟨0, _⟩ => rfl
  | ⟨_ + 1, h⟩ => exact absurd h (Nat.not_lt.2 (Nat.le_add_left _ _))

theorem defs3 : Cert.Kernel3.defs (F := F) = Cert.Kernel3Ideal.defs :=
  congrArg (Pipeline.defs Cert.Kernel3.pcfgs) bodies3

theorem frame_kernel3 : Cert.quiescent_Kernel3 := fun m ρ _ => Cert.Kernel3.Gen.frame m ρ

theorem frame_kernel3Ideal : Cert.quiescent_Kernel3Ideal := fun m ρ _ => by
  have h := Cert.Kernel3.Gen.frame (F := Ideal) m ρ
  rw [defs3] at h
  exact h

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference3 : Cert.quiescent_Reference3 := fun m ρ _ =>
  (θ_run Cert.Reference3.defs _ _).mono (fun r h => ⟨fun c => (h c).2, sem_eq_zero_of_no_sems (by decide) r.2⟩)
    (Cert.Reference3.Value.run (F := Bits) m ρ)

/-- The combination's two results are equal, as extended reals. -/
theorem algebraic3 : Cert.algebraic_Kernel3Ideal_Reference3Ideal := by
  intro m ρ m' ρ' _ hagree
  have run := Cert.Kernel3.Value.run_blocks (F := Ideal) m ρ
  rw [defs3] at run
  refine ⟨fun c => Cert.Kernel3.Comb.want (F := Ideal) m c,
    (θ_run Cert.Kernel3Ideal.defs _ _).mono
      (fun _ h c => ⟨(h c).1.trans (Cert.Kernel3.Comb.final_eq (F := Ideal) m c), (h c).2⟩) run, ?_⟩
  refine (θ_run Cert.Reference3Ideal.defs _ _).mono (fun r h c => ⟨(h c).1.trans ?_, (h c).2⟩)
    (Cert.Reference3Ideal.Value.run (F := Ideal) m' ρ')
  obtain ⟨h0, h1, h2, h3⟩ := hagree c
  rw [h0, h1, h2, h3]
  rfl

/-- The combination's two results are equal, word for word. -/
theorem bitexact3 : Cert.bitexact_Kernel3_Reference3 := by
  intro m ρ m' ρ' _ hagree
  refine ⟨fun c => Cert.Kernel3.Comb.want (F := Bits) m c,
    (θ_run Cert.Kernel3.defs _ _).mono
      (fun _ h c => ⟨(h c).1.trans (Cert.Kernel3.Comb.final_eq (F := Bits) m c), (h c).2⟩)
      (Cert.Kernel3.Value.run_blocks (F := Bits) m ρ), ?_⟩
  refine (θ_run Cert.Reference3.defs _ _).mono (fun r h c => ⟨(h c).1.trans ?_, (h c).2⟩)
    (Cert.Reference3.Value.run (F := Bits) m' ρ')
  obtain ⟨h0, h1, h2, h3⟩ := hagree c
  rw [h0, h1, h2, h3]
  rfl

/-! ## The global attention -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_kernel4Ideal_pre [Cert.Pre_scores_finite.Facts] :
    Cert.quiescent_Kernel4Ideal_pre_scores_finite :=
  fun m ρ _ => Cert.Kernel4Ideal.Gen.frame m ρ

theorem frame_reference4Ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem frame_reference4Ideal_pre [Cert.Pre_scores_finite.Facts] :
    Cert.quiescent_Reference4Ideal_pre_scores_finite :=
  fun m ρ _ => frame_reference4Ideal m ρ trivial

theorem preserves4 : Cert.preserves_Kernel4_Kernel4Ideal :=
  IdealRules.named_const.statement Cert.Kernel4Ideal.κ "q_scale" .f32 0x3E38AA3B#32 _ rfl

theorem algebraic4 [Cert.Pre_scores_finite.Facts] :
    Cert.algebraic_Kernel4Ideal_Reference4Ideal_pre_scores_finite := by
  intro m ρ m' ρ' hpre hagree
  refine ⟨fun c => Cert.Kernel4Ideal.Gqa.wanted m c,
    (θ_run Cert.Kernel4Ideal.defs _ _).mono
      (fun _ h c => ⟨(h c).1.trans
        (Cert.Kernel4Ideal.Gqa.final_eq m c (Cert.Kernel4Ideal.Gqa.finite_of_pre m hpre c)), (h c).2⟩)
      (Cert.Kernel4Ideal.Value.run_blocks (F := Ideal) m ρ), ?_⟩
  refine (θ_run Cert.Reference4Ideal.defs _ _).mono (fun r h c => ⟨(h c).1.trans ?_, (h c).2⟩)
    (Cert.Reference4Ideal.Gqa.run_want m' ρ')
  obtain ⟨h0, h1, h2⟩ := hagree c
  rw [h0, h1, h2]

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Reference3.Gen.facts,
    Cert.Kernel4.Gen.facts, Cert.Kernel4Ideal.Gen.facts, Cert.Reference4Ideal.Gen.facts,
    Cert.Pre_rows_in_range.Gen.facts, Cert.Kernel2Ideal.Attn.entries_facts, Cert.Kernel4Ideal.Gqa.scores_facts,
    frame_kernel, frame_kernelIdeal, frame_referenceIdeal, frame_referenceIdeal_pre, frame_reference,
    frame_kernel2, frame_kernel2Ideal, @frame_kernel2Ideal_pre Cert.Kernel2Ideal.Attn.entries_facts,
    frame_reference2Ideal, @frame_reference2Ideal_pre Cert.Kernel2Ideal.Attn.entries_facts,
    frame_kernel3, frame_kernel3Ideal, frame_reference3Ideal, frame_reference3,
    frame_kernel4, frame_kernel4Ideal, @frame_kernel4Ideal_pre Cert.Kernel4Ideal.Gqa.scores_facts,
    frame_reference4Ideal, @frame_reference4Ideal_pre Cert.Kernel4Ideal.Gqa.scores_facts,
    trivial, algebraic, bitexact, preserves2, @algebraic2 Cert.Kernel2Ideal.Attn.entries_facts,
    trivial, algebraic3, bitexact3, preserves4, @algebraic4 Cert.Kernel4Ideal.Gqa.scores_facts⟩

end Cert.Proof

end
